-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_prepared [hPre_prepared : Cert.Pre_prepared.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_prepared.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_prepared [hPre_prepared : Cert.Pre_prepared.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_prepared.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_swapped [hPre_swapped : Cert.Pre_swapped.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_swapped.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_swapped [hPre_swapped : Cert.Pre_swapped.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_swapped.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_prepared [hKernel6Ideal : Cert.Kernel6Ideal.Facts] [hPre_prepared : Cert.Pre_prepared.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_prepared m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_prepared [hReference6Ideal : Cert.Reference6Ideal.Facts] [hPre_prepared : Cert.Pre_prepared.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_prepared m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_swapped [hKernel9Ideal : Cert.Kernel9Ideal.Facts] [hPre_swapped : Cert.Pre_swapped.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_swapped m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_swapped [hReference9Ideal : Cert.Reference9Ideal.Facts] [hPre_swapped : Cert.Pre_swapped.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_swapped m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_prepared [hKernel6Ideal : Cert.Kernel6Ideal.Facts] [hReference6Ideal : Cert.Reference6Ideal.Facts] [hPre_prepared : Cert.Pre_prepared.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_prepared m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "upscale" .f32 0x3DD53B95#32 (((Real.sqrt 192)⁻¹ * (Real.log 2)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v32)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v32) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v57) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_swapped [hKernel9Ideal : Cert.Kernel9Ideal.Facts] [hReference9Ideal : Cert.Reference9Ideal.Facts] [hPre_swapped : Cert.Pre_swapped.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_swapped m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v30_0)) (v1 : (c : Dev Cert.Kernel9Ideal.nD) → Buf (Elt Ideal) ((c.tc : Thread Cert.Kernel9Ideal.nD Cert.Kernel9Ideal.τ).loc Cert.Kernel9Ideal.main_v30_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v30_0) = v0 c
          ∧ r.2.mem ((c.tc : Thread Cert.Kernel9Ideal.nD Cert.Kernel9Ideal.τ).loc Cert.Kernel9Ideal.main_v30_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v56) = v0 c
          ∧ r.2.mem ((c.tc : Thread Cert.Reference9Ideal.nD Cert.Reference9Ideal.τ).loc Cert.Reference9Ideal.main_v58) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_in_range : Cert.Pre_in_range.Facts) (hPre_prepared : Cert.Pre_prepared.Facts) (hPre_swapped : Cert.Pre_swapped.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_prepared (hKernel6Ideal := hKernel6Ideal) (hPre_prepared := hPre_prepared)
    ∧ quiescent_Reference6Ideal (hReference6Ideal := hReference6Ideal)
    ∧ quiescent_Reference6Ideal_pre_prepared (hReference6Ideal := hReference6Ideal) (hPre_prepared := hPre_prepared)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_swapped (hKernel9Ideal := hKernel9Ideal) (hPre_swapped := hPre_swapped)
    ∧ quiescent_Reference9Ideal (hReference9Ideal := hReference9Ideal)
    ∧ quiescent_Reference9Ideal_pre_swapped (hReference9Ideal := hReference9Ideal) (hPre_swapped := hPre_swapped)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_prepared (hKernel6Ideal := hKernel6Ideal) (hReference6Ideal := hReference6Ideal) (hPre_prepared := hPre_prepared)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_swapped (hKernel9Ideal := hKernel9Ideal) (hReference9Ideal := hReference9Ideal) (hPre_swapped := hPre_swapped)
-- ==== Pre_finite.lean ====
abbrev S16384x33280 : Shape := ⟨2, ![16384, 33280]⟩
abbrev S1 : Shape := ⟨1, ![1]⟩
abbrev S128 : Shape := ⟨1, ![128]⟩
abbrev S256 : Shape := ⟨1, ![256]⟩
abbrev S16384x6144 : Shape := ⟨2, ![16384, 6144]⟩
abbrev S_ : Shape := ⟨0, ![]⟩

class Facts : Prop where
  slices_S16384x33280_S16384x6144_0_2048 : S16384x33280.Slices ![0, 2048] S16384x6144
  bitsLt_bf16_f32 : FTy.bits .bf16 < FTy.bits .f32
  bcast_S_S16384x6144 : S_.BroadcastsInDim S16384x6144 (![] : Fin 0 → Fin S16384x6144.rank)
  reducesTo_S16384x6144_S_d0_1 : S16384x6144.ReducesTo [0, 1] S_
  h_S_ : 0 < S_.numel
  bcast_S_S1 : S_.BroadcastsInDim S1 (![] : Fin 0 → Fin S1.rank)
  reducesTo_S1_S_d0 : S1.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v15 : IVec S_ 1) (main_v16 : FVec F S128 .f32) (main_cst_4 : FVec F S_ .f32) : IVec S_ 1 :=
  let main_v17 : FVec F S128 .f32 := broadcastInDim S128 ![] bcast_S_S128 main_cst_4
  let main_v18 : IVec S128 1 := cmpf .olt main_v16 main_v17
  let main_c_5 : IVec S_ 1 := constantI S_ 1 1#1
  let main_v19 : IVec S_ 1 := (fun x v => Host.reduce IntOp.andi x v reducesTo_S128_S_d0 h_S_) main_v18 main_c_5
  let main_v20 : IVec S_ 1 := andi main_v15 main_v19
  let main_v21 : FVec F S128 .f32 := Host.absf main_arg4
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_c_7 : IVec S_ 1 := constantI S_ 1 1#1
  let main_v24 : IVec S_ 1 := (fun x v => Host.reduce IntOp.andi x v reducesTo_S128_S_d0 h_S_) main_v23 main_c_7
  let main_v25 : IVec S_ 1 := andi main_v20 main_v24
  let main_v26 : FVec F S128 .f32 := Host.absf main_arg5
  let main_cst_8 : FVec F S_ .f32 := constant S_ .f32 0x7F800000#32
  let main_v27 : FVec F S128 .f32 := broadcastInDim S128 ![] bcast_S_S128 main_cst_8
  let main_v28 : IVec S128 1 := cmpf .olt main_v26 main_v27
  let main_c_9 : IVec S_ 1 := constantI S_ 1 1#1
  let main_v29 : IVec S_ 1 := (fun x v => Host.reduce IntOp.andi x v reducesTo_S128_S_d0 h_S_) main_v28 main_c_9
  let main_v30 : IVec S_ 1 := andi main_v25 main_v29
  main_v30

def fn {F : FTy → Type} [FloatOps F] (main_arg0 : FVec F S16384x33280 .bf16) (main_arg1 : FVec F S1 .f32) (main_arg2 : FVec F S128 .f32) (main_arg3 : FVec F S128 .f32) (main_arg4 : FVec F S128 .f32) (main_arg5 : FVec F S128 .f32) (main_arg6 : FVec F S256 .f32) : IVec S_ 1 :=
  let main_v0 : FVec F S16384x6144 .bf16 := (extractStridedSlice S16384x6144 ![0, 2048] · slices_S16384x33280_S16384x6144_0_2048) main_arg0
  let main_v1 : FVec F S16384x6144 .f32 := (extf .f32 · bitsLt_bf16_f32) main_v0
  let main_v2 : FVec F S16384x6144 .f32 := Host.absf main_v1
  let main_cst : FVec F S_ .f32 := constant S_ .f32 0x7F800000#32
  let main_v3 : FVec F S16384x6144 .f32 := broadcastInDim S16384x6144 ![] bcast_S_S16384x6144 main_cst
  let main_v4 : IVec S16384x6144 1 := cmpf .olt main_v2 main_v3
  let main_c : IVec S_ 1 := constantI S_ 1 1#1
  let main_v5 : IVec S_ 1 := (fun x v => Host.reduce IntOp.andi x v reducesTo_S16384x6144_S_d0_1 h_S_) main_v4 main_c
  let main_v6 : FVec F S1 .f32 := Host.absf main_arg1
  let main_cst_0 : FVec F S_ .f32 := constant S_ .f32 0x7F800000#32
  let main_v7 : FVec F S1 .f32 := broadcastInDim S1 ![] bcast_S_S1 main_cst_0
  let main_v8 : IVec S1 1 := cmpf .olt main_v6 main_v7
  let main_c_1 : IVec S_ 1 := constantI S_ 1 1#1
  let main_v9 : IVec S_ 1 := (fun x v => Host.reduce IntOp.andi x v reducesTo_S1_S_d0 h_S_) main_v8 main_c_1
  let main_v10 : IVec S_ 1 := andi main_v5 main_v9
  let main_v11 : FVec F S128 .f32 := Host.absf main_arg2
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_c_3 : IVec S_ 1 := constantI S_ 1 1#1
  let main_v14 : IVec S_ 1 := (fun x v => Host.reduce IntOp.andi x v reducesTo_S128_S_d0 h_S_) main_v13 main_c_3
  let main_v15 : IVec S_ 1 := andi main_v10 main_v14
  let main_v16 : FVec F S128 .f32 := Host.absf main_arg3
  let main_cst_4 : FVec F S_ .f32 := constant S_ .f32 0x7F800000#32
  fn_part1 (F := F) main_arg4 main_arg5 main_v15 main_v16 main_cst_4
-- ==== Pre_in_range.lean ====
abbrev S16384x4096 : Shape := ⟨2, ![16384, 4096]⟩
abbrev S4x4096x32832 : Shape := ⟨3, ![4, 4096, 32832]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S16384x4096 .bf16) (main_arg1 : FVec F S4x4096x32832 .f32) (main_arg2 : IVec S1 32) : IVec S_ 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_prepared.lean ====
abbrev S16384x4096 : Shape := ⟨2, ![16384, 4096]⟩
abbrev S16384x33280 : Shape := ⟨2, ![16384, 33280]⟩
abbrev S_ : Shape := ⟨0, ![]⟩
abbrev S16384x16x256 : Shape := ⟨3, ![16384, 16, 256]⟩
abbrev S16384x16x1 : Shape := ⟨3, ![16384, 16, 1]⟩
abbrev S16384x16 : Shape := ⟨2, ![16384, 16]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  shapeCasts_S16384x4096_S16384x16x256 : S16384x4096.ShapeCasts S16384x16x256
  slices_S16384x16x256_S16384x16x1_0_0_128 : S16384x16x256.Slices ![0, 0, 128] S16384x16x1
  shapeCasts_S16384x16x1_S16384x16 : S16384x16x1.ShapeCasts S16384x16
  bcast_S_S16384x16 : S_.BroadcastsInDim S16384x16 (![] : Fin 0 → Fin S16384x16.rank)
  reducesTo_S16384x16_S_d0_1 : S16384x16.ReducesTo [0, 1] S_

variable [Facts]

def fn {F : FTy → Type} [FloatOps F] (main_arg0 : FVec F S16384x4096 .bf16) (main_arg1 : FVec F S16384x4096 .bf16) (main_arg2 : FVec F S16384x4096 .bf16) (main_arg3 : FVec F S16384x33280 .bf16) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S16384x4096 .f32 := (extf .f32 · bitsLt_bf16_f32) main_arg1
  let main_v6 : FVec F S16384x4096 .f32 := Host.absf main_v5
  let main_cst_0 : FVec F S_ .f32 := constant S_ .f32 0x7F800000#32
  let main_v7 : FVec F S16384x4096 .f32 := broadcastInDim S16384x4096 ![] bcast_S_S16384x4096 main_cst_0
  let main_v8 : IVec S16384x4096 1 := cmpf .olt main_v6 main_v7
  let main_c_1 : IVec S_ 1 := constantI S_ 1 1#1
  let main_v9 : IVec S_ 1 := (fun x v => Host.reduce IntOp.andi x v reducesTo_S16384x4096_S_d0_1 h_S_) main_v8 main_c_1
  let main_v10 : IVec S_ 1 := andi main_v4 main_v9
  let main_v11 : FVec F S16384x16x256 .bf16 := shapeCast S16384x16x256 main_arg2 shapeCasts_S16384x4096_S16384x16x256
  let main_v12 : FVec F S16384x16x1 .bf16 := (extractStridedSlice S16384x16x1 ![0, 0, 128] · slices_S16384x16x256_S16384x16x1_0_0_128) main_v11
  let main_v13 : FVec F S16384x16 .bf16 := shapeCast S16384x16 main_v12 shapeCasts_S16384x16x1_S16384x16
  let main_cst_2 : FVec F S_ .bf16 := constant S_ .bf16 0x3F80#16
  let main_v14 : FVec F S16384x16 .bf16 := broadcastInDim S16384x16 ![] bcast_S_S16384x16 main_cst_2
  let main_v15 : IVec S16384x16 1 := cmpf .oeq main_v13 main_v14
  let main_c_3 : IVec S_ 1 := constantI S_ 1 1#1
  let main_v16 : IVec S_ 1 := (fun x v => Host.reduce IntOp.andi x v reducesTo_S16384x16_S_d0_1 h_S_) main_v15 main_c_3
  let main_v17 : IVec S_ 1 := andi main_v10 main_v16
  main_v17
-- ==== Pre_swapped.lean ====
abbrev S16384x33280 : Shape := ⟨2, ![16384, 33280]⟩
abbrev S512 : Shape := ⟨1, ![512]⟩
abbrev S512x4096 : Shape := ⟨2, ![512, 4096]⟩
abbrev S16384x32 : Shape := ⟨2, ![16384, 32]⟩
abbrev S_ : Shape := ⟨0, ![]⟩

class Facts : Prop where
  slices_S16384x33280_S16384x32_0_32832 : S16384x33280.Slices ![0, 32832] S16384x32
  bitsLt_bf16_f32 : FTy.bits .bf16 < FTy.bits .f32
  slices_S16384x33280_S16384x32_0_32800 : S16384x33280.Slices ![0, 32800] S16384x32
  reducesTo_S16384x32_S_d0_1 : S16384x32.ReducesTo [0, 1] S_
  h_S_ : 0 < S_.numel
  slices_S16384x33280_S16384x32_0_32864 : S16384x33280.Slices ![0, 32864] S16384x32
  slices_S16384x33280_S16384x32_0_32768 : S16384x33280.Slices ![0, 32768] S16384x32

variable [Facts]

def fn {F : FTy → Type} [FloatOps F] (main_arg0 : FVec F S16384x33280 .bf16) (main_arg1 : FVec F S512 .f32) (main_arg2 : FVec F S512x4096 .f32) : IVec S_ 1 :=
  let main_v0 : FVec F S16384x32 .bf16 := (extractStridedSlice S16384x32 ![0, 32832] · slices_S16384x33280_S16384x32_0_32832) main_arg0
  let main_v1 : FVec F S16384x32 .f32 := (extf .f32 · bitsLt_bf16_f32) main_v0
  let main_v2 : FVec F S16384x32 .bf16 := (extractStridedSlice S16384x32 ![0, 32800] · slices_S16384x33280_S16384x32_0_32800) main_arg0
  let main_v3 : FVec F S16384x32 .f32 := (extf .f32 · bitsLt_bf16_f32) main_v2
  let main_v4 : IVec S16384x32 1 := cmpf .oeq main_v1 main_v3
  let main_c : IVec S_ 1 := constantI S_ 1 1#1
  let main_v5 : IVec S_ 1 := (fun x v => Host.reduce IntOp.andi x v reducesTo_S16384x32_S_d0_1 h_S_) main_v4 main_c
  let main_v6 : FVec F S16384x32 .bf16 := (extractStridedSlice S16384x32 ![0, 32864] · slices_S16384x33280_S16384x32_0_32864) main_arg0
  let main_v7 : FVec F S16384x32 .f32 := (extf .f32 · bitsLt_bf16_f32) main_v6
  let main_v8 : FVec F S16384x32 .bf16 := (extractStridedSlice S16384x32 ![0, 32768] · slices_S16384x33280_S16384x32_0_32768) main_arg0
  let main_v9 : FVec F S16384x32 .f32 := (extf .f32 · bitsLt_bf16_f32) main_v8
  let main_v10 : IVec S16384x32 1 := cmpf .oeq main_v7 main_v9
  let main_c_0 : IVec S_ 1 := constantI S_ 1 1#1
  let main_v11 : IVec S_ 1 := (fun x v => Host.reduce IntOp.andi x v reducesTo_S16384x32_S_d0_1 h_S_) main_v10 main_c_0
  let main_v12 : IVec S_ 1 := andi main_v5 main_v11
  main_v12
-- ==== Kernel.lean ====
abbrev S16384x33280 : Shape := ⟨2, ![16384, 33280]⟩
abbrev S1 : Shape := ⟨1, ![1]⟩
abbrev S128 : Shape := ⟨1, ![128]⟩
abbrev S256 : Shape := ⟨1, ![256]⟩
abbrev S8 : Shape := ⟨1, ![8]⟩
abbrev S1x128 : Shape := ⟨2, ![1, 128]⟩
abbrev S4x128 : Shape := ⟨2, ![4, 128]⟩
abbrev S16384x2048 : Shape := ⟨2, ![16384, 2048]⟩
abbrev S16384x8x2x128 : Shape := ⟨4, ![16384, 8, 2, 128]⟩
abbrev S8x2x16384x128 : Shape := ⟨4, ![8, 2, 16384, 128]⟩
abbrev S1x256 : Shape := ⟨2, ![1, 256]⟩
abbrev S512x256 : Shape := ⟨2, ![512, 256]⟩
abbrev S1x2x16384x128 : Shape := ⟨4, ![1, 2, 16384, 128]⟩
abbrev S16384x256 : Shape := ⟨2, ![16384, 256]⟩
abbrev S512x1 : Shape := ⟨2, ![512, 1]⟩
abbrev S2x512x256 : Shape := ⟨3, ![2, 512, 256]⟩
abbrev S2x512x128 : Shape := ⟨3, ![2, 512, 128]⟩
abbrev S512x2048 : Shape := ⟨2, ![512, 2048]⟩
abbrev S1x2048 : Shape := ⟨2, ![1, 2048]⟩
abbrev S512x128 : Shape := ⟨2, ![512, 128]⟩
abbrev S1x512x128 : Shape := ⟨3, ![1, 512, 128]⟩
abbrev S1x512x256 : Shape := ⟨3, ![1, 512, 256]⟩
abbrev S1x1x16384x128 : Shape := ⟨4, ![1, 1, 16384, 128]⟩
abbrev S16384x128 : Shape := ⟨2, ![16384, 128]⟩
abbrev S2048x128 : Shape := ⟨2, ![2048, 128]⟩
abbrev S512 : Shape := ⟨1, ![512]⟩
abbrev S2048x256 : Shape := ⟨2, ![2048, 256]⟩
abbrev S1x1 : Shape := ⟨2, ![1, 1]⟩

abbrev nBuf : Space → Nat
  | .hbm => 18
  | .vmem => 16
  | .smem => 2
  | _ => 0

abbrev bufTy : (tb : Table) → Fin (tcTables nBuf tb) → BufTy
  | .hbm, ⟨0, _⟩ => ⟨S16384x33280, .bf16⟩
  | .hbm, ⟨1, _⟩ => ⟨S1, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S8, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S4x128, .f32⟩
  | .hbm, ⟨13, _⟩ => ⟨S16384x2048, .bf16⟩
  | .hbm, ⟨14, _⟩ => ⟨S16384x8x2x128, .bf16⟩
  | .hbm, ⟨15, _⟩ => ⟨S8x2x16384x128, .bf16⟩
  | .hbm, ⟨16, _⟩ => ⟨S1x256, .f32⟩
  | .hbm, ⟨17, _⟩ => ⟨S16384x2048, .bf16⟩
  | .local _ .vmem, ⟨0, _⟩ => ⟨S512x256, .bf16⟩
  | .local _ .vmem, ⟨1, _⟩ => ⟨S512x256, .bf16⟩
  | .local _ .vmem, ⟨2, _⟩ => ⟨S1x2x16384x128, .bf16⟩
  | .local _ .vmem, ⟨3, _⟩ => ⟨S16384x256, .bf16⟩
  | .local _ .vmem, ⟨4, _⟩ => ⟨S512x256, .bf16⟩
  | .local _ .vmem, ⟨5, _⟩ => ⟨S512x256, .bf16⟩
  | .local _ .vmem, ⟨6, _⟩ => ⟨S1x256, .f32⟩
  | .local _ .vmem, ⟨7, _⟩ => ⟨S4x128, .f32⟩
  | .local _ .vmem, ⟨8, _⟩ => ⟨S512x256, .bf16⟩
  | .local _ .vmem, ⟨9, _⟩ => ⟨S512x256, .bf16⟩
  | .local _ .vmem, ⟨10, _⟩ => ⟨S512x1, .f32⟩
  | .local _ .vmem, ⟨11, _⟩ => ⟨S512x1, .f32⟩
  | .local _ .vmem, ⟨12, _⟩ => ⟨S2x512x256, .f32⟩
  | .local _ .vmem, ⟨13, _⟩ => ⟨S2x512x128, .bf16⟩
  | .local _ .vmem, ⟨14, _⟩ => ⟨S512x2048, .f32⟩
  | .local _ .vmem, ⟨15, _⟩ => ⟨S512x2048, .f32⟩
  | .local _ .smem, ⟨0, _⟩ => ⟨S8, .f32⟩
  | .local _ .smem, ⟨1, _⟩ => ⟨S1, .f32⟩
  | _, _ => ⟨S16384x33280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 32], ![false, false]⟩

def k0_off1 (i : grid0.Coords) : Fin 1 → Nat :=
  let arg0 : BitVec 32 := BitVec.ofNat 32 (i 0).val
  let v18 : Index := Scalar.indexCast arg0
  ![v18.toNat]
@[reducible] def k0_t1_loop : Scf.Loop 32 :=
  let c0_i32_13 : BitVec 32 := 0#32
  let c2_i32 : BitVec 32 := 2#32
  let v42 : BitVec 32 := Scalar.addi c0_i32_13 c2_i32
  let c1_i32_14 : BitVec 32 := 1#32
  ⟨c0_i32_13, v42, c1_i32_14⟩
def k0_off2 (k0_t1 : Fin k0_t1_loop.trips) : Fin 3 → Nat :=
  let c0_i32_13 : BitVec 32 := 0#32
  let c1_i32_14 : BitVec 32 := 1#32
  let arg17 : BitVec 32 := Scf.iv c0_i32_13 c1_i32_14 k0_t1
  let v92 : Index := Scalar.indexCast arg17
  let c0_37 : Index := 0#32
  let c0_38 : Index := 0#32
  ![v92.toNat, 0, 0]
def k0_off3 (k0_t1 : Fin k0_t1_loop.trips) : Fin 3 → Nat :=
  let c0_i32_13 : BitVec 32 := 0#32
  let c1_i32_14 : BitVec 32 := 1#32
  let arg17 : BitVec 32 := Scf.iv c0_i32_13 c1_i32_14 k0_t1
  let v104 : Index := Scalar.indexCast arg17
  let c0_46 : Index := 0#32
  let c0_47 : Index := 0#32
  ![v104.toNat, 0, 0]
def k0_mult1 (i : grid0.Coords) : BitVec 32 :=
  let c0_i32_49 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let c0_i32_48 : BitVec 32 := 0#32
  let v108 : BitVec 1 := Scalar.cmpi .sle v17 c0_i32_48
  let v109 : BitVec 32 := Scalar.extui v108
  let v110 : BitVec 32 := Scalar.addi c0_i32_49 v109
  let c2048_i32_50 : BitVec 32 := 2048#32
  let v111 : BitVec 32 := Scalar.muli v110 c2048_i32_50
  v111
def k0_off4 (k0_t1 : Fin k0_t1_loop.trips) : Fin 4 → Nat :=
  let c0_i32_51 : BitVec 32 := 0#32
  let c0_i32_13 : BitVec 32 := 0#32
  let c1_i32_14 : BitVec 32 := 1#32
  let arg17 : BitVec 32 := Scf.iv c0_i32_13 c1_i32_14 k0_t1
  let c0_i32_52 : BitVec 32 := 0#32
  let c0_i32_53 : BitVec 32 := 0#32
  ![0, arg17.toNat, 0, 0]
def k0_off5 (i : grid0.Coords) : Fin 2 → Nat :=
  let c0_i32_49 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let c0_i32_48 : BitVec 32 := 0#32
  let v108 : BitVec 1 := Scalar.cmpi .sle v17 c0_i32_48
  let v109 : BitVec 32 := Scalar.extui v108
  let v110 : BitVec 32 := Scalar.addi c0_i32_49 v109
  let c2048_i32_50 : BitVec 32 := 2048#32
  let v111 : BitVec 32 := Scalar.muli v110 c2048_i32_50
  let v112 : BitVec 32 := v111
  let v115 : Index := Scalar.indexCast v112
  let c0_54 : Index := 0#32
  ![v115.toNat, 0]
def k0_mult2 (i : grid0.Coords) : BitVec 32 :=
  let c2_i32_60 : BitVec 32 := 2#32
  let c0_i32_59 : BitVec 32 := 0#32
  let v122 : BitVec 32 := Scalar.muli c2_i32_60 c0_i32_59
  let c1_i32_61 : BitVec 32 := 1#32
  let v123 : BitVec 32 := Scalar.addi v122 c1_i32_61
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v124 : BitVec 1 := Scalar.cmpi .sge v123 v17
  let v125 : BitVec 32 := Scalar.extui v124
  let v126 : BitVec 32 := Scalar.addi v123 v125
  let c2048_i32_62 : BitVec 32 := 2048#32
  let v127 : BitVec 32 := Scalar.muli v126 c2048_i32_62
  v127
def k0_off6 (i : grid0.Coords) (c0_i32_59 : BitVec 32) (c1_i32_61 : BitVec 32) : Fin 2 → Nat :=
  let c2_i32_60 : BitVec 32 := 2#32
  let v122 : BitVec 32 := Scalar.muli c2_i32_60 c0_i32_59
  let v123 : BitVec 32 := Scalar.addi v122 c1_i32_61
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v124 : BitVec 1 := Scalar.cmpi .sge v123 v17
  let v125 : BitVec 32 := Scalar.extui v124
  let v126 : BitVec 32 := Scalar.addi v123 v125
  let c2048_i32_62 : BitVec 32 := 2048#32
  let v127 : BitVec 32 := Scalar.muli v126 c2048_i32_62
  let v128 : BitVec 32 := v127
  let v131 : Index := Scalar.indexCast v128
  let c0_65 : Index := 0#32
  ![v131.toNat, 0]
def k0_mult3 (i : grid0.Coords) : BitVec 32 :=
  let c2_i32_69 : BitVec 32 := 2#32
  let c0_i32_59 : BitVec 32 := 0#32
  let v138 : BitVec 32 := Scalar.muli c2_i32_69 c0_i32_59
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v139 : BitVec 1 := Scalar.cmpi .sge v138 v17
  let v140 : BitVec 32 := Scalar.extui v139
  let v141 : BitVec 32 := Scalar.addi v138 v140
  let c2048_i32_86 : BitVec 32 := 2048#32
  let v183 : BitVec 32 := Scalar.muli v141 c2048_i32_86
  v183
def k0_off7 (i : grid0.Coords) (c0_i32_59 : BitVec 32) : Fin 2 → Nat :=
  let c2_i32_69 : BitVec 32 := 2#32
  let v138 : BitVec 32 := Scalar.muli c2_i32_69 c0_i32_59
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v139 : BitVec 1 := Scalar.cmpi .sge v138 v17
  let v140 : BitVec 32 := Scalar.extui v139
  let v141 : BitVec 32 := Scalar.addi v138 v140
  let c2048_i32_86 : BitVec 32 := 2048#32
  let v183 : BitVec 32 := Scalar.muli v141 c2048_i32_86
  let v184 : BitVec 32 := v183
  let v185 : Index := Scalar.indexCast v184
  let c0_87 : Index := 0#32
  ![v185.toNat, 0]
def k0_mult4 (i : grid0.Coords) : BitVec 32 :=
  let c2_i32_93 : BitVec 32 := 2#32
  let c0_i32_59 : BitVec 32 := 0#32
  let v196 : BitVec 32 := Scalar.muli c2_i32_93 c0_i32_59
  let c2_i32_94 : BitVec 32 := 2#32
  let v197 : BitVec 32 := Scalar.addi v196 c2_i32_94
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v198 : BitVec 1 := Scalar.cmpi .sge v197 v17
  let v199 : BitVec 32 := Scalar.extui v198
  let v200 : BitVec 32 := Scalar.addi v197 v199
  let c2048_i32_95 : BitVec 32 := 2048#32
  let v201 : BitVec 32 := Scalar.muli v200 c2048_i32_95
  v201
def k0_mult5 (i : grid0.Coords) : BitVec 32 :=
  let c2_i32_102 : BitVec 32 := 2#32
  let c0_i32_59 : BitVec 32 := 0#32
  let v212 : BitVec 32 := Scalar.muli c2_i32_102 c0_i32_59
  let c1_i32_103 : BitVec 32 := 1#32
  let v213 : BitVec 32 := Scalar.addi v212 c1_i32_103
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v214 : BitVec 1 := Scalar.cmpi .sge v213 v17
  let v215 : BitVec 32 := Scalar.extui v214
  let v216 : BitVec 32 := Scalar.addi v213 v215
  let c2048_i32_120 : BitVec 32 := 2048#32
  let v258 : BitVec 32 := Scalar.muli v216 c2048_i32_120
  v258
def k0_off8 (i : grid0.Coords) (c0_i32_59 : BitVec 32) : Fin 2 → Nat :=
  let c2_i32_102 : BitVec 32 := 2#32
  let v212 : BitVec 32 := Scalar.muli c2_i32_102 c0_i32_59
  let c1_i32_103 : BitVec 32 := 1#32
  let v213 : BitVec 32 := Scalar.addi v212 c1_i32_103
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v214 : BitVec 1 := Scalar.cmpi .sge v213 v17
  let v215 : BitVec 32 := Scalar.extui v214
  let v216 : BitVec 32 := Scalar.addi v213 v215
  let c2048_i32_120 : BitVec 32 := 2048#32
  let v258 : BitVec 32 := Scalar.muli v216 c2048_i32_120
  let v259 : BitVec 32 := v258
  let v260 : Index := Scalar.indexCast v259
  let c0_121 : Index := 0#32
  ![v260.toNat, 0]
def k0_mult6 (i : grid0.Coords) : BitVec 32 :=
  let c2_i32_128 : BitVec 32 := 2#32
  let c1_i32_127 : BitVec 32 := 1#32
  let v271 : BitVec 32 := Scalar.muli c2_i32_128 c1_i32_127
  let c1_i32_129 : BitVec 32 := 1#32
  let v272 : BitVec 32 := Scalar.addi v271 c1_i32_129
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v273 : BitVec 1 := Scalar.cmpi .sge v272 v17
  let v274 : BitVec 32 := Scalar.extui v273
  let v275 : BitVec 32 := Scalar.addi v272 v274
  let c2048_i32_130 : BitVec 32 := 2048#32
  let v276 : BitVec 32 := Scalar.muli v275 c2048_i32_130
  v276
def k0_mult7 (i : grid0.Coords) : BitVec 32 :=
  let c2_i32_137 : BitVec 32 := 2#32
  let c1_i32_127 : BitVec 32 := 1#32
  let v287 : BitVec 32 := Scalar.muli c2_i32_137 c1_i32_127
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v288 : BitVec 1 := Scalar.cmpi .sge v287 v17
  let v289 : BitVec 32 := Scalar.extui v288
  let v290 : BitVec 32 := Scalar.addi v287 v289
  let c2048_i32_154 : BitVec 32 := 2048#32
  let v332 : BitVec 32 := Scalar.muli v290 c2048_i32_154
  v332
def k0_mult8 (i : grid0.Coords) : BitVec 32 :=
  let c2_i32_161 : BitVec 32 := 2#32
  let c1_i32_127 : BitVec 32 := 1#32
  let v345 : BitVec 32 := Scalar.muli c2_i32_161 c1_i32_127
  let c2_i32_162 : BitVec 32 := 2#32
  let v346 : BitVec 32 := Scalar.addi v345 c2_i32_162
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v347 : BitVec 1 := Scalar.cmpi .sge v346 v17
  let v348 : BitVec 32 := Scalar.extui v347
  let v349 : BitVec 32 := Scalar.addi v346 v348
  let c2048_i32_163 : BitVec 32 := 2048#32
  let v350 : BitVec 32 := Scalar.muli v349 c2048_i32_163
  v350
def k0_mult9 (i : grid0.Coords) : BitVec 32 :=
  let c2_i32_170 : BitVec 32 := 2#32
  let c1_i32_127 : BitVec 32 := 1#32
  let v361 : BitVec 32 := Scalar.muli c2_i32_170 c1_i32_127
  let c1_i32_171 : BitVec 32 := 1#32
  let v362 : BitVec 32 := Scalar.addi v361 c1_i32_171
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v363 : BitVec 1 := Scalar.cmpi .sge v362 v17
  let v364 : BitVec 32 := Scalar.extui v363
  let v365 : BitVec 32 := Scalar.addi v362 v364
  let c2048_i32_188 : BitVec 32 := 2048#32
  let v407 : BitVec 32 := Scalar.muli v365 c2048_i32_188
  v407
def k0_mult10 (i : grid0.Coords) : BitVec 32 :=
  let c2_i32_196 : BitVec 32 := 2#32
  let c2_i32_195 : BitVec 32 := 2#32
  let v420 : BitVec 32 := Scalar.muli c2_i32_196 c2_i32_195
  let c1_i32_197 : BitVec 32 := 1#32
  let v421 : BitVec 32 := Scalar.addi v420 c1_i32_197
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v422 : BitVec 1 := Scalar.cmpi .sge v421 v17
  let v423 : BitVec 32 := Scalar.extui v422
  let v424 : BitVec 32 := Scalar.addi v421 v423
  let c2048_i32_198 : BitVec 32 := 2048#32
  let v425 : BitVec 32 := Scalar.muli v424 c2048_i32_198
  v425
def k0_mult11 (i : grid0.Coords) : BitVec 32 :=
  let c2_i32_205 : BitVec 32 := 2#32
  let c2_i32_195 : BitVec 32 := 2#32
  let v436 : BitVec 32 := Scalar.muli c2_i32_205 c2_i32_195
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v437 : BitVec 1 := Scalar.cmpi .sge v436 v17
  let v438 : BitVec 32 := Scalar.extui v437
  let v439 : BitVec 32 := Scalar.addi v436 v438
  let c2048_i32_222 : BitVec 32 := 2048#32
  let v481 : BitVec 32 := Scalar.muli v439 c2048_i32_222
  v481
def k0_mult12 (i : grid0.Coords) : BitVec 32 :=
  let c2_i32_229 : BitVec 32 := 2#32
  let c2_i32_195 : BitVec 32 := 2#32
  let v494 : BitVec 32 := Scalar.muli c2_i32_229 c2_i32_195
  let c2_i32_230 : BitVec 32 := 2#32
  let v495 : BitVec 32 := Scalar.addi v494 c2_i32_230
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v496 : BitVec 1 := Scalar.cmpi .sge v495 v17
  let v497 : BitVec 32 := Scalar.extui v496
  let v498 : BitVec 32 := Scalar.addi v495 v497
  let c2048_i32_231 : BitVec 32 := 2048#32
  let v499 : BitVec 32 := Scalar.muli v498 c2048_i32_231
  v499
def k0_mult13 (i : grid0.Coords) : BitVec 32 :=
  let c2_i32_238 : BitVec 32 := 2#32
  let c2_i32_195 : BitVec 32 := 2#32
  let v510 : BitVec 32 := Scalar.muli c2_i32_238 c2_i32_195
  let c1_i32_239 : BitVec 32 := 1#32
  let v511 : BitVec 32 := Scalar.addi v510 c1_i32_239
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let v512 : BitVec 1 := Scalar.cmpi .sge v511 v17
  let v513 : BitVec 32 := Scalar.extui v512
  let v514 : BitVec 32 := Scalar.addi v511 v513
  let c2048_i32_256 : BitVec 32 := 2048#32
  let v556 : BitVec 32 := Scalar.muli v514 c2048_i32_256
  v556
def k0_mult14 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let c2048_i32_263 : BitVec 32 := 2048#32
  let v569 : BitVec 32 := Scalar.muli v17 c2048_i32_263
  v569
def k0_off9 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let c2048_i32_263 : BitVec 32 := 2048#32
  let v569 : BitVec 32 := Scalar.muli v17 c2048_i32_263
  let v570 : BitVec 32 := v569
  let v573 : Index := Scalar.indexCast v570
  let c0_267 : Index := 0#32
  ![v573.toNat, 0]
def k0_mult15 (i : grid0.Coords) : BitVec 32 :=
  let c6_i32_271 : BitVec 32 := 6#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let c6_i32 : BitVec 32 := 6#32
  let v580 : BitVec 1 := Scalar.cmpi .sle v17 c6_i32
  let v581 : BitVec 32 := Scalar.extui v580
  let v582 : BitVec 32 := Scalar.addi c6_i32_271 v581
  let c2048_i32_288 : BitVec 32 := 2048#32
  let v624 : BitVec 32 := Scalar.muli v582 c2048_i32_288
  v624
def k0_off10 (i : grid0.Coords) : Fin 2 → Nat :=
  let c6_i32_271 : BitVec 32 := 6#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let c6_i32 : BitVec 32 := 6#32
  let v580 : BitVec 1 := Scalar.cmpi .sle v17 c6_i32
  let v581 : BitVec 32 := Scalar.extui v580
  let v582 : BitVec 32 := Scalar.addi c6_i32_271 v581
  let c2048_i32_288 : BitVec 32 := 2048#32
  let v624 : BitVec 32 := Scalar.muli v582 c2048_i32_288
  let v625 : BitVec 32 := v624
  let v626 : Index := Scalar.indexCast v625
  let c0_289 : Index := 0#32
  ![v626.toNat, 0]
def k0_mult16 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let c2048_i32_309 : BitVec 32 := 2048#32
  let v676 : BitVec 32 := Scalar.muli v17 c2048_i32_309
  v676
def k0_off11 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2048_i32 : BitVec 32 := 2048#32
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let v1 : BitVec 32 := Scalar.divsi v0 c2048_i32
  let c1_i32 : BitVec 32 := 1#32
  let v16 : BitVec 32 := Scalar.subi v1 c1_i32
  let v17 : BitVec 32 := Scalar.select v15 v16 v1
  let c2048_i32_309 : BitVec 32 := 2048#32
  let v676 : BitVec 32 := Scalar.muli v17 c2048_i32_309
  let v677 : BitVec 32 := v676
  let v678 : Index := Scalar.indexCast v677
  let c0_310 : Index := 0#32
  ![v678.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2x16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S16384x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((Real.sqrt 128)⁻¹ * (Real.log 2)⁻¹ : ℝ) : EReal)
  | _ => none
-- ==== ReferenceIdeal.lean ====
abbrev S16384x33280 : Shape := ⟨2, ![16384, 33280]⟩
abbrev S1 : Shape := ⟨1, ![1]⟩
abbrev S128 : Shape := ⟨1, ![128]⟩
abbrev S256 : Shape := ⟨1, ![256]⟩
abbrev S8 : Shape := ⟨1, ![8]⟩
abbrev S16384x2048 : Shape := ⟨2, ![16384, 2048]⟩
abbrev S16384x8x2x128 : Shape := ⟨4, ![16384, 8, 2, 128]⟩
abbrev S16384x8x256 : Shape := ⟨3, ![16384, 8, 256]⟩
abbrev S_ : Shape := ⟨0, ![]⟩
abbrev S16384 : Shape := ⟨1, ![16384]⟩
abbrev S2x8x16384x16384 : Shape := ⟨4, ![2, 8, 16384, 16384]⟩
abbrev S16384x1 : Shape := ⟨2, ![16384, 1]⟩
abbrev S1x16384 : Shape := ⟨2, ![1, 16384]⟩
abbrev S16384x16384 : Shape := ⟨2, ![16384, 16384]⟩
abbrev S8x1x1 : Shape := ⟨3, ![8, 1, 1]⟩
abbrev S1x16384x16384 : Shape := ⟨3, ![1, 16384, 16384]⟩
abbrev S8x16384x16384 : Shape := ⟨3, ![8, 16384, 16384]⟩
abbrev S1x8x16384x16384 : Shape := ⟨4, ![1, 8, 16384, 16384]⟩
abbrev S2x8x16384 : Shape := ⟨3, ![2, 8, 16384]⟩
abbrev S2x8x16384x1 : Shape := ⟨4, ![2, 8, 16384, 1]⟩
abbrev S8x256x16384 : Shape := ⟨3, ![8, 256, 16384]⟩
abbrev S16384x8 : Shape := ⟨2, ![16384, 8]⟩
abbrev S16384x8x1 : Shape := ⟨3, ![16384, 8, 1]⟩
abbrev S1x1x256 : Shape := ⟨3, ![1, 1, 256]⟩

abbrev nBuf : Space → Nat
  | .hbm => 104
  | .vmem => 0
  | .smem => 0
  | _ => 0

abbrev bufTy : (tb : Table) → Fin (tcTables nBuf tb) → BufTy
  | .hbm, ⟨0, _⟩ => ⟨S16384x33280, .bf16⟩
  | .hbm, ⟨1, _⟩ => ⟨S1, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S256, .f32⟩
  | .hbm, ⟨7, _⟩ => ⟨S8, .f32⟩
  | .hbm, ⟨8, _⟩ => ⟨S16384x33280, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x8x2x128, .f32⟩
  | .hbm, ⟨14, _⟩ => ⟨S16384x8x2x128, .f32⟩
  | .hbm, ⟨15, _⟩ => ⟨S16384x8x256, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16384, .i32⟩
  | .hbm, ⟨28, _⟩ => ⟨S16384, .f32⟩
  | .hbm, ⟨29, _⟩ => ⟨S2x8x16384x16384, .f32⟩
  | .hbm, ⟨30, _⟩ => ⟨S_, .f32⟩
  | .hbm, ⟨31, _⟩ => ⟨S_, .f32⟩
  | .hbm, ⟨32, _⟩ => ⟨S2x8x16384x16384, .f32⟩
  | .hbm, ⟨33, _⟩ => ⟨S2x8x16384x16384, .f32⟩
  | .hbm, ⟨34, _⟩ => ⟨S16384x1, .f32⟩
  | .hbm, ⟨35, _⟩ => ⟨S1x16384, .f32⟩
  | .hbm, ⟨36, _⟩ => ⟨S16384x16384, .f32⟩
  | .hbm, ⟨37, _⟩ => ⟨S16384x16384, .f32⟩
  | .hbm, ⟨38, _⟩ => ⟨S16384x16384, .f32⟩
  | .hbm, ⟨39, _⟩ => ⟨S16384x16384, .f32⟩
  | .hbm, ⟨40, _⟩ => ⟨S8x1x1, .f32⟩
  | .hbm, ⟨41, _⟩ => ⟨S1x16384x16384, .f32⟩
  | .hbm, ⟨42, _⟩ => ⟨S8x16384x16384, .f32⟩
  | .hbm, ⟨43, _⟩ => ⟨S8x16384x16384, .f32⟩
  | .hbm, ⟨44, _⟩ => ⟨S8x16384x16384, .f32⟩
  | .hbm, ⟨45, _⟩ => ⟨S1x8x16384x16384, .f32⟩
  | .hbm, ⟨46, _⟩ => ⟨S2x8x16384x16384, .f32⟩
  | .hbm, ⟨47, _⟩ => ⟨S2x8x16384x16384, .f32⟩
  | .hbm, ⟨48, _⟩ => ⟨S_, .f32⟩
  | .hbm, ⟨49, _⟩ => ⟨S2x8x16384, .f32⟩
  | .hbm, ⟨50, _⟩ => ⟨S_, .f32⟩
  | .hbm, ⟨51, _⟩ => ⟨S2x8x16384, .f32⟩
  | .hbm, ⟨52, _⟩ => ⟨S2x8x16384, .f32⟩
  | .hbm, ⟨53, _⟩ => ⟨S2x8x16384x1, .f32⟩
  | .hbm, ⟨54, _⟩ => ⟨S2x8x16384x16384, .f32⟩
  | .hbm, ⟨55, _⟩ => ⟨S2x8x16384x16384, .f32⟩
  | .hbm, ⟨56, _⟩ => ⟨S2x8x16384x16384, .f32⟩
  | .hbm, ⟨57, _⟩ => ⟨S_, .f32⟩
  | .hbm, ⟨58, _⟩ => ⟨S2x8x16384, .f32⟩
  | .hbm, ⟨59, _⟩ => ⟨S2x8x16384x1, .f32⟩
  | .hbm, ⟨60, _⟩ => ⟨S2x8x16384x16384, .f32⟩
  | .hbm, ⟨61, _⟩ => ⟨S2x8x16384x16384, .f32⟩
  | .hbm, ⟨62, _⟩ => ⟨S1x8x16384x16384, .f32⟩
  | .hbm, ⟨63, _⟩ => ⟨S8x16384x16384, .f32⟩
  | .hbm, ⟨64, _⟩ => ⟨S1x8x16384x16384, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S8x16384x16384, .f32⟩
  | .hbm, ⟨69, _⟩ => ⟨S8x256x16384, .f32⟩
  | .hbm, ⟨70, _⟩ => ⟨S16384x8x256, .f32⟩
  | .hbm, ⟨71, _⟩ => ⟨S16384x8x256, .f32⟩
  | .hbm, ⟨72, _⟩ => ⟨S_, .f32⟩
  | .hbm, ⟨73, _⟩ => ⟨S16384x8, .f32⟩
  | .hbm, ⟨74, _⟩ => ⟨S16384x8x1, .f32⟩
  | .hbm, ⟨75, _⟩ => ⟨S_, .f32⟩
  | .hbm, ⟨76, _⟩ => ⟨S16384x8x1, .f32⟩
  | .hbm, ⟨77, _⟩ => ⟨S16384x8x1, .f32⟩
  | .hbm, ⟨78, _⟩ => ⟨S_, .f32⟩
  | .hbm, ⟨79, _⟩ => ⟨S16384x8x1, .f32⟩
  | .hbm, ⟨80, _⟩ => ⟨S16384x8x1, .f32⟩
  | .hbm, ⟨81, _⟩ => ⟨S16384x8x1, .f32⟩
  | .hbm, ⟨82, _⟩ => ⟨S16384x8x256, .f32⟩
  | .hbm, ⟨83, _⟩ => ⟨S16384x8x256, .f32⟩
  | .hbm, ⟨84, _⟩ => ⟨S1x1x256, .f32⟩
  | .hbm, ⟨85, _⟩ => ⟨S16384x8x256, .f32⟩
  | .hbm, ⟨86, _⟩ => ⟨S16384x8x256, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S16384x8x256, .f32⟩
  | .hbm, ⟨91, _⟩ => ⟨S16384x8x256, .f32⟩
  | .hbm, ⟨92, _⟩ => ⟨S16384x2048, .f32⟩
  | .hbm, ⟨93, _⟩ => ⟨S16384x2048, .f32⟩
  | .hbm, ⟨94, _⟩ => ⟨S16384x2048, .f32⟩
  | .hbm, ⟨95, _⟩ => ⟨S_, .f32⟩
  | .hbm, ⟨96, _⟩ => ⟨S16384x2048, .f32⟩
  | .hbm, ⟨97, _⟩ => ⟨S16384x2048, .f32⟩
  | .hbm, ⟨98, _⟩ => ⟨S_, .f32⟩
  | .hbm, ⟨99, _⟩ => ⟨S16384x2048, .f32⟩
  | .hbm, ⟨100, _⟩ => ⟨S16384x2048, .f32⟩
  | .hbm, ⟨101, _⟩ => ⟨S16384x2048, .f32⟩
  | .hbm, ⟨102, _⟩ => ⟨S16384x2048, .f32⟩
  | .hbm, ⟨103, _⟩ => ⟨S16384x2048, .bf16⟩
  | _, _ => ⟨S16384x33280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_9 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_call0_v0 : Ref sig .tc := ⟨.hbm, 93, rfl⟩
abbrev main_call0_v1 : Ref sig .tc := ⟨.hbm, 94, rfl⟩
abbrev main_call0_cst : Ref sig .tc := ⟨.hbm, 95, rfl⟩
abbrev main_call0_v2 : Ref sig .tc := ⟨.hbm, 96, rfl⟩
abbrev main_call0_v3 : Ref sig .tc := ⟨.hbm, 97, rfl⟩
abbrev main_call0_cst_0 : Ref sig .tc := ⟨.hbm, 98, rfl⟩
abbrev main_call0_v4 : Ref sig .tc := ⟨.hbm, 99, rfl⟩
abbrev main_call0_v5 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Kernel2.lean ====
abbrev S16384x4096 : Shape := ⟨2, ![16384, 4096]⟩
abbrev S4x4096x32832 : Shape := ⟨3, ![4, 4096, 32832]⟩
abbrev S1 : Shape := ⟨1, ![1]⟩
abbrev S4x4096x8192 : Shape := ⟨3, ![4, 4096, 8192]⟩
abbrev S4x4096x1536 : Shape := ⟨3, ![4, 4096, 1536]⟩
abbrev S4x4096x512 : Shape := ⟨3, ![4, 4096, 512]⟩
abbrev S4x4096x64 : Shape := ⟨3, ![4, 4096, 64]⟩
abbrev S4x4096x2048 : Shape := ⟨3, ![4, 4096, 2048]⟩
abbrev S4x4096x12288 : Shape := ⟨3, ![4, 4096, 12288]⟩
abbrev S_ : Shape := ⟨0, ![]⟩
abbrev S4x4096x384 : Shape := ⟨3, ![4, 4096, 384]⟩
abbrev S4x4096x32 : Shape := ⟨3, ![4, 4096, 32]⟩
abbrev S4x4096x33280 : Shape := ⟨3, ![4, 4096, 33280]⟩
abbrev S16384x33280 : Shape := ⟨2, ![16384, 33280]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 17
  | .vmem => 6
  | .smem => 1
  | _ => 0

abbrev bufTy : (tb : Table) → Fin (tcTables nBuf tb) → BufTy
  | .hbm, ⟨0, _⟩ => ⟨S16384x4096, .bf16⟩
  | .hbm, ⟨1, _⟩ => ⟨S4x4096x32832, .f32⟩
  | .hbm, ⟨2, _⟩ => ⟨S4x4096x8192, .f32⟩
  | .hbm, ⟨3, _⟩ => ⟨S4x4096x1536, .f32⟩
  | .hbm, ⟨4, _⟩ => ⟨S4x4096x512, .f32⟩
  | .hbm, ⟨5, _⟩ => ⟨S4x4096x64, .f32⟩
  | .hbm, ⟨6, _⟩ => ⟨S4x4096x2048, .f32⟩
  | .hbm, ⟨7, _⟩ => ⟨S4x4096x8192, .f32⟩
  | .hbm, ⟨8, _⟩ => ⟨S4x4096x12288, .f32⟩
  | .hbm, ⟨9, _⟩ => ⟨S_, .f32⟩
  | .hbm, ⟨10, _⟩ => ⟨S4x4096x384, .f32⟩
  | .hbm, ⟨11, _⟩ => ⟨S4x4096x32, .f32⟩
  | .hbm, ⟨12, _⟩ => ⟨S4x4096x32, .f32⟩
  | .hbm, ⟨13, _⟩ => ⟨S4x4096x64, .f32⟩
  | .hbm, ⟨14, _⟩ => ⟨S4x4096x33280, .f32⟩
  | .hbm, ⟨15, _⟩ => ⟨S4x4096x33280, .bf16⟩
  | .hbm, ⟨16, _⟩ => ⟨S16384x33280, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | .local _ .smem, ⟨0, _⟩ => ⟨S1, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 65], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x4096 : Shape := ⟨2, ![16384, 4096]⟩
abbrev S4x4096x32832 : Shape := ⟨3, ![4, 4096, 32832]⟩
abbrev S1 : Shape := ⟨1, ![1]⟩
abbrev S_ : Shape := ⟨0, ![]⟩
abbrev S1x4096x32832 : Shape := ⟨3, ![1, 4096, 32832]⟩
abbrev S4096x32832 : Shape := ⟨2, ![4096, 32832]⟩
abbrev S16384x32832 : Shape := ⟨2, ![16384, 32832]⟩
abbrev S16384x8192 : Shape := ⟨2, ![16384, 8192]⟩
abbrev S16384x2048 : Shape := ⟨2, ![16384, 2048]⟩
abbrev S16384x64 : Shape := ⟨2, ![16384, 64]⟩
abbrev S16384x12288 : Shape := ⟨2, ![16384, 12288]⟩
abbrev S16384x384 : Shape := ⟨2, ![16384, 384]⟩
abbrev S16384x32 : Shape := ⟨2, ![16384, 32]⟩
abbrev S16384x33280 : Shape := ⟨2, ![16384, 33280]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x32832, .f32⟩
  | .hbm, ⟨2, _⟩ => ⟨S1, .i32⟩
  | .hbm, ⟨3, _⟩ => ⟨S16384x4096, .f32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x4096x32832, .f32⟩
  | .hbm, ⟨27, _⟩ => ⟨S4096x32832, .f32⟩
  | .hbm, ⟨28, _⟩ => ⟨S16384x32832, .f32⟩
  | .hbm, ⟨29, _⟩ => ⟨S16384x8192, .f32⟩
  | .hbm, ⟨30, _⟩ => ⟨S16384x2048, .f32⟩
  | .hbm, ⟨31, _⟩ => ⟨S16384x64, .f32⟩
  | .hbm, ⟨32, _⟩ => ⟨S16384x2048, .f32⟩
  | .hbm, ⟨33, _⟩ => ⟨S16384x8192, .f32⟩
  | .hbm, ⟨34, _⟩ => ⟨S16384x12288, .f32⟩
  | .hbm, ⟨35, _⟩ => ⟨S_, .f32⟩
  | .hbm, ⟨36, _⟩ => ⟨S16384x384, .f32⟩
  | .hbm, ⟨37, _⟩ => ⟨S16384x32, .f32⟩
  | .hbm, ⟨38, _⟩ => ⟨S16384x32, .f32⟩
  | .hbm, ⟨39, _⟩ => ⟨S16384x33280, .f32⟩
  | .hbm, ⟨40, _⟩ => ⟨S16384x33280, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_v5 : Ref sig .tc := ⟨.hbm, 12, rfl⟩
abbrev main_c_3 : Ref sig .tc := ⟨.hbm, 13, rfl⟩
abbrev main_c_4 : Ref sig .tc := ⟨.hbm, 14, rfl⟩
abbrev main_v6 : Ref sig .tc := ⟨.hbm, 15, rfl⟩
abbrev main_c_5 : Ref sig .tc := ⟨.hbm, 16, rfl⟩
abbrev main_v7 : Ref sig .tc := ⟨.hbm, 17, rfl⟩
abbrev main_c_6 : Ref sig .tc := ⟨.hbm, 18, rfl⟩
abbrev main_c_7 : Ref sig .tc := ⟨.hbm, 19, rfl⟩
abbrev main_v8 : Ref sig .tc := ⟨.hbm, 20, rfl⟩
abbrev main_c_8 : Ref sig .tc := ⟨.hbm, 21, rfl⟩
abbrev main_c_9 : Ref sig .tc := ⟨.hbm, 22, rfl⟩
abbrev main_v9 : Ref sig .tc := ⟨.hbm, 23, rfl⟩
abbrev main_c_10 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Kernel3.lean ====
abbrev S16384x4096 : Shape := ⟨2, ![16384, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S16384x2048 : Shape := ⟨2, ![16384, 2048]⟩
abbrev S2048x4096 : Shape := ⟨2, ![2048, 4096]⟩
abbrev S16384x33280 : Shape := ⟨2, ![16384, 33280]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 11
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S16384x33280, .bf16⟩
  | .hbm, ⟨7, _⟩ => ⟨S2048x4096, .bf16⟩
  | .hbm, ⟨8, _⟩ => ⟨S2048x4096, .bf16⟩
  | .hbm, ⟨9, _⟩ => ⟨S2048x4096, .bf16⟩
  | .hbm, ⟨10, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S16384x2048 : Shape := ⟨2, ![16384, 2048]⟩
abbrev S2048x4096 : Shape := ⟨2, ![2048, 4096]⟩
abbrev S16384x33280 : Shape := ⟨2, ![16384, 33280]⟩
abbrev S16384x4096 : Shape := ⟨2, ![16384, 4096]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S16384x33280, .bf16⟩
  | .hbm, ⟨7, _⟩ => ⟨S16384x4096, .bf16⟩
  | .hbm, ⟨8, _⟩ => ⟨S16384x4096, .f32⟩
  | .hbm, ⟨9, _⟩ => ⟨S16384x4096, .bf16⟩
  | .hbm, ⟨10, _⟩ => ⟨S16384x4096, .f32⟩
  | .hbm, ⟨11, _⟩ => ⟨S16384x4096, .bf16⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x2048, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x2048, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S_, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384x4096, .f32⟩
  | .hbm, ⟨43, _⟩ => ⟨S16384x4096, .f32⟩
  | .hbm, ⟨44, _⟩ => ⟨S16384x2048, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel5.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S16384x4096 : Shape := ⟨2, ![16384, 4096]⟩
abbrev S16384x33280 : Shape := ⟨2, ![16384, 33280]⟩
abbrev S16384x2048 : Shape := ⟨2, ![16384, 2048]⟩
abbrev S512x256 : Shape := ⟨2, ![512, 256]⟩
abbrev S16384x256 : Shape := ⟨2, ![16384, 256]⟩
abbrev S512x128 : Shape := ⟨2, ![512, 128]⟩
abbrev S512x1 : Shape := ⟨2, ![512, 1]⟩
abbrev S512x2048 : Shape := ⟨2, ![512, 2048]⟩
abbrev S2048x256 : Shape := ⟨2, ![2048, 256]⟩
abbrev S512 : Shape := ⟨1, ![512]⟩

abbrev nBuf : Space → Nat
  | .hbm => 5
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .bf16⟩
  | .hbm, ⟨3, _⟩ => ⟨S16384x33280, .bf16⟩
  | .hbm, ⟨4, _⟩ => ⟨S16384x2048, .bf16⟩
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x1, .f32⟩
  | .local _ .vmem, ⟨9, _⟩ => ⟨S512x256, .f32⟩
  | .local _ .vmem, ⟨10, _⟩ => ⟨S512x2048, .f32⟩
  | .local _ .vmem, ⟨11, _⟩ => ⟨S512x2048, .f32⟩
  | .local _ .vmem, ⟨12, _⟩ => ⟨S512x1, .f32⟩
  | .local _ .vmem, ⟨13, _⟩ => ⟨S512x1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 32], ![false, false]⟩

def k0_mult1 : BitVec 32 :=
  let c0_i32 : BitVec 32 := 0#32
  c0_i32
def k0_mult2 : BitVec 32 :=
  let c2_i32 : BitVec 32 := 2#32
  let c0_i32_13 : BitVec 32 := 0#32
  let v21 : BitVec 32 := Scalar.muli c2_i32 c0_i32_13
  let c1_i32 : BitVec 32 := 1#32
  let v22 : BitVec 32 := Scalar.addi v21 c1_i32
  let c2048_i32 : BitVec 32 := 2048#32
  let v23 : BitVec 32 := Scalar.muli v22 c2048_i32
  v23
def k0_off1 (c0_i32_13 : BitVec 32) (c1_i32 : BitVec 32) : Fin 2 → Nat :=
  let c2_i32 : BitVec 32 := 2#32
  let v21 : BitVec 32 := Scalar.muli c2_i32 c0_i32_13
  let v22 : BitVec 32 := Scalar.addi v21 c1_i32
  let c2048_i32 : BitVec 32 := 2048#32
  let v23 : BitVec 32 := Scalar.muli v22 c2048_i32
  let v24 : BitVec 32 := v23
  let v25 : Index := Scalar.indexCast v24
  let c0_14 : Index := 0#32
  ![v25.toNat, 0]
def k0_mult3 : BitVec 32 :=
  let c2_i32_21 : BitVec 32 := 2#32
  let c0_i32_13 : BitVec 32 := 0#32
  let v36 : BitVec 32 := Scalar.muli c2_i32_21 c0_i32_13
  let c2048_i32_30 : BitVec 32 := 2048#32
  let v50 : BitVec 32 := Scalar.muli v36 c2048_i32_30
  v50
def k0_off2 (c0_i32_13 : BitVec 32) : Fin 2 → Nat :=
  let c2_i32_21 : BitVec 32 := 2#32
  let v36 : BitVec 32 := Scalar.muli c2_i32_21 c0_i32_13
  let c2048_i32_30 : BitVec 32 := 2048#32
  let v50 : BitVec 32 := Scalar.muli v36 c2048_i32_30
  let v51 : BitVec 32 := v50
  let v52 : Index := Scalar.indexCast v51
  let c0_31 : Index := 0#32
  ![v52.toNat, 0]
def k0_mult4 : BitVec 32 :=
  let c2_i32_37 : BitVec 32 := 2#32
  let c0_i32_13 : BitVec 32 := 0#32
  let v62 : BitVec 32 := Scalar.muli c2_i32_37 c0_i32_13
  let c2_i32_38 : BitVec 32 := 2#32
  let v63 : BitVec 32 := Scalar.addi v62 c2_i32_38
  let c2048_i32_39 : BitVec 32 := 2048#32
  let v64 : BitVec 32 := Scalar.muli v63 c2048_i32_39
  v64
def k0_mult5 : BitVec 32 :=
  let c2_i32_47 : BitVec 32 := 2#32
  let c0_i32_13 : BitVec 32 := 0#32
  let v77 : BitVec 32 := Scalar.muli c2_i32_47 c0_i32_13
  let c1_i32_48 : BitVec 32 := 1#32
  let v78 : BitVec 32 := Scalar.addi v77 c1_i32_48
  let c2048_i32_57 : BitVec 32 := 2048#32
  let v92 : BitVec 32 := Scalar.muli v78 c2048_i32_57
  v92
def k0_mult6 : BitVec 32 :=
  let c2_i32_65 : BitVec 32 := 2#32
  let c1_i32_64 : BitVec 32 := 1#32
  let v104 : BitVec 32 := Scalar.muli c2_i32_65 c1_i32_64
  let c1_i32_66 : BitVec 32 := 1#32
  let v105 : BitVec 32 := Scalar.addi v104 c1_i32_66
  let c2048_i32_67 : BitVec 32 := 2048#32
  let v106 : BitVec 32 := Scalar.muli v105 c2048_i32_67
  v106
def k0_mult7 : BitVec 32 :=
  let c2_i32_75 : BitVec 32 := 2#32
  let c1_i32_64 : BitVec 32 := 1#32
  let v119 : BitVec 32 := Scalar.muli c2_i32_75 c1_i32_64
  let c2048_i32_84 : BitVec 32 := 2048#32
  let v133 : BitVec 32 := Scalar.muli v119 c2048_i32_84
  v133
def k0_mult8 : BitVec 32 :=
  let c2_i32_91 : BitVec 32 := 2#32
  let c1_i32_64 : BitVec 32 := 1#32
  let v145 : BitVec 32 := Scalar.muli c2_i32_91 c1_i32_64
  let c2_i32_92 : BitVec 32 := 2#32
  let v146 : BitVec 32 := Scalar.addi v145 c2_i32_92
  let c2048_i32_93 : BitVec 32 := 2048#32
  let v147 : BitVec 32 := Scalar.muli v146 c2048_i32_93
  v147
def k0_mult9 : BitVec 32 :=
  let c2_i32_101 : BitVec 32 := 2#32
  let c1_i32_64 : BitVec 32 := 1#32
  let v160 : BitVec 32 := Scalar.muli c2_i32_101 c1_i32_64
  let c1_i32_102 : BitVec 32 := 1#32
  let v161 : BitVec 32 := Scalar.addi v160 c1_i32_102
  let c2048_i32_111 : BitVec 32 := 2048#32
  let v175 : BitVec 32 := Scalar.muli v161 c2048_i32_111
  v175
def k0_mult10 : BitVec 32 :=
  let c2_i32_119 : BitVec 32 := 2#32
  let c2_i32_118 : BitVec 32 := 2#32
  let v187 : BitVec 32 := Scalar.muli c2_i32_119 c2_i32_118
  let c1_i32_120 : BitVec 32 := 1#32
  let v188 : BitVec 32 := Scalar.addi v187 c1_i32_120
  let c2048_i32_121 : BitVec 32 := 2048#32
  let v189 : BitVec 32 := Scalar.muli v188 c2048_i32_121
  v189
def k0_mult11 : BitVec 32 :=
  let c2_i32_129 : BitVec 32 := 2#32
  let c2_i32_118 : BitVec 32 := 2#32
  let v202 : BitVec 32 := Scalar.muli c2_i32_129 c2_i32_118
  let c2048_i32_138 : BitVec 32 := 2048#32
  let v216 : BitVec 32 := Scalar.muli v202 c2048_i32_138
  v216
def k0_mult12 : BitVec 32 :=
  let c2_i32_145 : BitVec 32 := 2#32
  let c2_i32_118 : BitVec 32 := 2#32
  let v228 : BitVec 32 := Scalar.muli c2_i32_145 c2_i32_118
  let c2_i32_146 : BitVec 32 := 2#32
  let v229 : BitVec 32 := Scalar.addi v228 c2_i32_146
  let c2048_i32_147 : BitVec 32 := 2048#32
  let v230 : BitVec 32 := Scalar.muli v229 c2048_i32_147
  v230
def k0_mult13 : BitVec 32 :=
  let c2_i32_155 : BitVec 32 := 2#32
  let c2_i32_118 : BitVec 32 := 2#32
  let v243 : BitVec 32 := Scalar.muli c2_i32_155 c2_i32_118
  let c1_i32_156 : BitVec 32 := 1#32
  let v244 : BitVec 32 := Scalar.addi v243 c1_i32_156
  let c2048_i32_165 : BitVec 32 := 2048#32
  let v258 : BitVec 32 := Scalar.muli v244 c2048_i32_165
  v258
def k0_mult14 : BitVec 32 :=
  let c14336_i32 : BitVec 32 := 14336#32
  c14336_i32
def k0_mult15 : BitVec 32 :=
  let c12288_i32 : BitVec 32 := 12288#32
  c12288_i32
def k0_mult16 : BitVec 32 :=
  let c14336_i32_201 : BitVec 32 := 14336#32
  c14336_i32_201
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c240_i32 : BitVec 32 := 240#32
  let v0 : BitVec 32 := Scalar.addi c240_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16384x4096 : Shape := ⟨2, ![16384, 4096]⟩
abbrev S16384x33280 : Shape := ⟨2, ![16384, 33280]⟩
abbrev S16384x16x256 : Shape := ⟨3, ![16384, 16, 256]⟩
abbrev S16384x16x128 : Shape := ⟨3, ![16384, 16, 128]⟩
abbrev S16x16384x16384 : Shape := ⟨3, ![16, 16384, 16384]⟩
abbrev S_ : Shape := ⟨0, ![]⟩
abbrev S16x16384 : Shape := ⟨2, ![16, 16384]⟩
abbrev S16x16384x1 : Shape := ⟨3, ![16, 16384, 1]⟩
abbrev S16x128x16384 : Shape := ⟨3, ![16, 128, 16384]⟩
abbrev S16384x2048 : Shape := ⟨2, ![16384, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x4096, .bf16⟩
  | .hbm, ⟨3, _⟩ => ⟨S16384x33280, .bf16⟩
  | .hbm, ⟨4, _⟩ => ⟨S16384x16x256, .bf16⟩
  | .hbm, ⟨5, _⟩ => ⟨S16384x16x256, .bf16⟩
  | .hbm, ⟨6, _⟩ => ⟨S16384x16x256, .bf16⟩
  | .hbm, ⟨7, _⟩ => ⟨S16384x16x128, .bf16⟩
  | .hbm, ⟨8, _⟩ => ⟨S16384x16x256, .f32⟩
  | .hbm, ⟨9, _⟩ => ⟨S16384x16x256, .f32⟩
  | .hbm, ⟨10, _⟩ => ⟨S16x16384x16384, .f32⟩
  | .hbm, ⟨11, _⟩ => ⟨S_, .f32⟩
  | .hbm, ⟨12, _⟩ => ⟨S_, .f32⟩
  | .hbm, ⟨13, _⟩ => ⟨S16x16384x16384, .f32⟩
  | .hbm, ⟨14, _⟩ => ⟨S16x16384x16384, .f32⟩
  | .hbm, ⟨15, _⟩ => ⟨S_, .f32⟩
  | .hbm, ⟨16, _⟩ => ⟨S16x16384, .f32⟩
  | .hbm, ⟨17, _⟩ => ⟨S_, .f32⟩
  | .hbm, ⟨18, _⟩ => ⟨S16x16384, .f32⟩
  | .hbm, ⟨19, _⟩ => ⟨S16x16384, .f32⟩
  | .hbm, ⟨20, _⟩ => ⟨S16x16384x1, .f32⟩
  | .hbm, ⟨21, _⟩ => ⟨S16x16384x16384, .f32⟩
  | .hbm, ⟨22, _⟩ => ⟨S16x16384x16384, .f32⟩
  | .hbm, ⟨23, _⟩ => ⟨S16x16384x16384, .f32⟩
  | .hbm, ⟨24, _⟩ => ⟨S_, .f32⟩
  | .hbm, ⟨25, _⟩ => ⟨S16x16384, .f32⟩
  | .hbm, ⟨26, _⟩ => ⟨S16x16384x1, .f32⟩
  | .hbm, ⟨27, _⟩ => ⟨S16x16384x16384, .f32⟩
  | .hbm, ⟨28, _⟩ => ⟨S16x16384x16384, .f32⟩
  | .hbm, ⟨29, _⟩ => ⟨S16384x16x128, .f32⟩
  | .hbm, ⟨30, _⟩ => ⟨S16x128x16384, .f32⟩
  | .hbm, ⟨31, _⟩ => ⟨S16384x16x128, .f32⟩
  | .hbm, ⟨32, _⟩ => ⟨S16384x2048, .bf16⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel7.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S16384x33280 : Shape := ⟨2, ![16384, 33280]⟩
abbrev S1536 : Shape := ⟨1, ![1536]⟩
abbrev S1536x3072 : Shape := ⟨2, ![1536, 3072]⟩
abbrev S1536x16x192 : Shape := ⟨3, ![1536, 16, 192]⟩
abbrev S1536x16x64 : Shape := ⟨3, ![1536, 16, 64]⟩
abbrev S1536x16x128 : Shape := ⟨3, ![1536, 16, 128]⟩
abbrev S1536x16x32 : Shape := ⟨3, ![1536, 16, 32]⟩
abbrev S1536x16x256 : Shape := ⟨3, ![1536, 16, 256]⟩
abbrev S1536x4096 : Shape := ⟨2, ![1536, 4096]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S1x1536 : Shape := ⟨2, ![1, 1536]⟩
abbrev S16384x4096 : Shape := ⟨2, ![16384, 4096]⟩
abbrev S512x1536 : Shape := ⟨2, ![512, 1536]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩

abbrev nBuf : Space → Nat
  | .hbm => 41
  | .vmem => 10
  | .smem => 0
  | _ => 0

abbrev bufTy : (tb : Table) → Fin (tcTables nBuf tb) → BufTy
  | .hbm, ⟨0, _⟩ => ⟨S16384x33280, .bf16⟩
  | .hbm, ⟨1, _⟩ => ⟨S1536, .f32⟩
  | .hbm, ⟨2, _⟩ => ⟨S1536x3072, .f32⟩
  | .hbm, ⟨3, _⟩ => ⟨S1536x16x192, .f32⟩
  | .hbm, ⟨4, _⟩ => ⟨S1536x16x64, .f32⟩
  | .hbm, ⟨5, _⟩ => ⟨S1536x16x128, .f32⟩
  | .hbm, ⟨6, _⟩ => ⟨S1536x16x32, .f32⟩
  | .hbm, ⟨7, _⟩ => ⟨S1536x16x32, .f32⟩
  | .hbm, ⟨8, _⟩ => ⟨S1536x16x64, .f32⟩
  | .hbm, ⟨9, _⟩ => ⟨S1536x16x256, .f32⟩
  | .hbm, ⟨10, _⟩ => ⟨S1536x4096, .f32⟩
  | .hbm, ⟨11, _⟩ => ⟨S1536x4096, .bf16⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S16384, .f32⟩
  | .hbm, ⟨27, _⟩ => ⟨S16384x1, .f32⟩
  | .hbm, ⟨28, _⟩ => ⟨S1x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S_, .f32⟩
  | .hbm, ⟨35, _⟩ => ⟨S16384x64, .f32⟩
  | .hbm, ⟨36, _⟩ => ⟨S16384x128, .f32⟩
  | .hbm, ⟨37, _⟩ => ⟨S16384x32, .f32⟩
  | .hbm, ⟨38, _⟩ => ⟨S16384x128, .f32⟩
  | .hbm, ⟨39, _⟩ => ⟨S1x1536, .f32⟩
  | .hbm, ⟨40, _⟩ => ⟨S16384x4096, .bf16⟩
  | .local _ .vmem, ⟨0, _⟩ => ⟨S512x1536, .bf16⟩
  | .local _ .vmem, ⟨1, _⟩ => ⟨S512x1536, .bf16⟩
  | .local _ .vmem, ⟨2, _⟩ => ⟨S1x1536, .f32⟩
  | .local _ .vmem, ⟨3, _⟩ => ⟨S1536x4096, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x4096, .bf16⟩
  | .local _ .vmem, ⟨9, _⟩ => ⟨S512x4096, .bf16⟩
  | _, _ => ⟨S16384x33280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel8Ideal.lean ====
variable {F : FTy → Type} [FloatOps F] [Named F]
def κ : String → Option EReal := fun
  | "upscale" => some (((Real.sqrt 192)⁻¹ * (Real.log 2)⁻¹ : ℝ) : EReal)
  | _ => none
-- ==== Reference8Ideal.lean ====
abbrev S16384x33280 : Shape := ⟨2, ![16384, 33280]⟩
abbrev S1536 : Shape := ⟨1, ![1536]⟩
abbrev S1536x3072 : Shape := ⟨2, ![1536, 3072]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S1x1536 : Shape := ⟨2, ![1, 1536]⟩
abbrev S16384x3072 : Shape := ⟨2, ![16384, 3072]⟩
abbrev S16384x16x192 : Shape := ⟨3, ![16384, 16, 192]⟩
abbrev S32 : Shape := ⟨1, ![32]⟩
abbrev S16384x1x1 : Shape := ⟨3, ![16384, 1, 1]⟩
abbrev S1x1x32 : Shape := ⟨3, ![1, 1, 32]⟩
abbrev S16384x1x32 : Shape := ⟨3, ![16384, 1, 32]⟩
abbrev S16384x16x32 : Shape := ⟨3, ![16384, 16, 32]⟩
abbrev S16384x16x128 : Shape := ⟨3, ![16384, 16, 128]⟩
abbrev S16384x16x64 : Shape := ⟨3, ![16384, 16, 64]⟩
abbrev S16384x16x256 : Shape := ⟨3, ![16384, 16, 256]⟩
abbrev S16384x4096 : Shape := ⟨2, ![16384, 4096]⟩

abbrev nBuf : Space → Nat
  | .hbm => 71
  | .vmem => 0
  | .smem => 0
  | _ => 0

abbrev bufTy : (tb : Table) → Fin (tcTables nBuf tb) → BufTy
  | .hbm, ⟨0, _⟩ => ⟨S16384x33280, .bf16⟩
  | .hbm, ⟨1, _⟩ => ⟨S1536, .f32⟩
  | .hbm, ⟨2, _⟩ => ⟨S1536x3072, .f32⟩
  | .hbm, ⟨3, _⟩ => ⟨S16384x1536, .bf16⟩
  | .hbm, ⟨4, _⟩ => ⟨S16384x1536, .f32⟩
  | .hbm, ⟨5, _⟩ => ⟨S16384x1536, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1536, .f32⟩
  | .hbm, ⟨17, _⟩ => ⟨S16384x1536, .f32⟩
  | .hbm, ⟨18, _⟩ => ⟨S1x1536, .f32⟩
  | .hbm, ⟨19, _⟩ => ⟨S16384x1536, .f32⟩
  | .hbm, ⟨20, _⟩ => ⟨S16384x1536, .f32⟩
  | .hbm, ⟨21, _⟩ => ⟨S16384x3072, .f32⟩
  | .hbm, ⟨22, _⟩ => ⟨S16384x16x192, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S16384, .f32⟩
  | .hbm, ⟨38, _⟩ => ⟨S16384x1x1, .f32⟩
  | .hbm, ⟨39, _⟩ => ⟨S1x1x32, .f32⟩
  | .hbm, ⟨40, _⟩ => ⟨S16384x1x32, .f32⟩
  | .hbm, ⟨41, _⟩ => ⟨S16384x1x32, .f32⟩
  | .hbm, ⟨42, _⟩ => ⟨S16384x1x32, .f32⟩
  | .hbm, ⟨43, _⟩ => ⟨S16384x1x32, .f32⟩
  | .hbm, ⟨44, _⟩ => ⟨S16384x1x32, .f32⟩
  | .hbm, ⟨45, _⟩ => ⟨S16384x16x32, .f32⟩
  | .hbm, ⟨46, _⟩ => ⟨S16384x16x32, .f32⟩
  | .hbm, ⟨47, _⟩ => ⟨S16384x16x128, .f32⟩
  | .hbm, ⟨48, _⟩ => ⟨S16384x16x32, .f32⟩
  | .hbm, ⟨49, _⟩ => ⟨S16384x16x32, .f32⟩
  | .hbm, ⟨50, _⟩ => ⟨S16384x16x32, .f32⟩
  | .hbm, ⟨51, _⟩ => ⟨S16384x16x32, .f32⟩
  | .hbm, ⟨52, _⟩ => ⟨S16384x16x32, .f32⟩
  | .hbm, ⟨53, _⟩ => ⟨S16384x16x32, .f32⟩
  | .hbm, ⟨54, _⟩ => ⟨S16384x16x32, .f32⟩
  | .hbm, ⟨55, _⟩ => ⟨S16384x16x32, .f32⟩
  | .hbm, ⟨56, _⟩ => ⟨S16384x16x32, .f32⟩
  | .hbm, ⟨57, _⟩ => ⟨S16384x16x32, .f32⟩
  | .hbm, ⟨58, _⟩ => ⟨S_, .f32⟩
  | .hbm, ⟨59, _⟩ => ⟨S16384x16x64, .f32⟩
  | .hbm, ⟨60, _⟩ => ⟨S16384x16x256, .f32⟩
  | .hbm, ⟨61, _⟩ => ⟨S_, .f32⟩
  | .hbm, ⟨62, _⟩ => ⟨S_, .f32⟩
  | .hbm, ⟨63, _⟩ => ⟨S16384x16x256, .f32⟩
  | .hbm, ⟨64, _⟩ => ⟨S16384x16x256, .f32⟩
  | .hbm, ⟨65, _⟩ => ⟨S_, .f32⟩
  | .hbm, ⟨66, _⟩ => ⟨S_, .f32⟩
  | .hbm, ⟨67, _⟩ => ⟨S16384x16x256, .f32⟩
  | .hbm, ⟨68, _⟩ => ⟨S16384x16x256, .f32⟩
  | .hbm, ⟨69, _⟩ => ⟨S16384x4096, .f32⟩
  | .hbm, ⟨70, _⟩ => ⟨S16384x4096, .bf16⟩
  | _, _ => ⟨S16384x33280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Kernel9.lean ====
abbrev S16384x33280 : Shape := ⟨2, ![16384, 33280]⟩
abbrev S512 : Shape := ⟨1, ![512]⟩
abbrev S512x4096 : Shape := ⟨2, ![512, 4096]⟩
abbrev S512x16x256 : Shape := ⟨3, ![512, 16, 256]⟩
abbrev S512x16x128 : Shape := ⟨3, ![512, 16, 128]⟩
abbrev S512x2048 : Shape := ⟨2, ![512, 2048]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S1x512 : Shape := ⟨2, ![1, 512]⟩
abbrev S16384x4096 : Shape := ⟨2, ![16384, 4096]⟩
abbrev S512x512 : Shape := ⟨2, ![512, 512]⟩
abbrev S512x128 : Shape := ⟨2, ![512, 128]⟩
abbrev S512x1 : Shape := ⟨2, ![512, 1]⟩

abbrev nBuf : Space → Nat
  | .hbm => 40
  | .vmem => 15
  | .smem => 0
  | _ => 0

abbrev bufTy : (tb : Table) → Fin (tcTables nBuf tb) → BufTy
  | .hbm, ⟨0, _⟩ => ⟨S16384x33280, .bf16⟩
  | .hbm, ⟨1, _⟩ => ⟨S512, .f32⟩
  | .hbm, ⟨2, _⟩ => ⟨S512x4096, .f32⟩
  | .hbm, ⟨3, _⟩ => ⟨S512x16x256, .f32⟩
  | .hbm, ⟨4, _⟩ => ⟨S512x16x128, .f32⟩
  | .hbm, ⟨5, _⟩ => ⟨S512x2048, .f32⟩
  | .hbm, ⟨6, _⟩ => ⟨S512x2048, .bf16⟩
  | .hbm, ⟨7, _⟩ => ⟨S512x16x128, .f32⟩
  | .hbm, ⟨8, _⟩ => ⟨S512x2048, .f32⟩
  | .hbm, ⟨9, _⟩ => ⟨S512x2048, .bf16⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S16384, .f32⟩
  | .hbm, ⟨25, _⟩ => ⟨S16384x1, .f32⟩
  | .hbm, ⟨26, _⟩ => ⟨S1x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S_, .f32⟩
  | .hbm, ⟨33, _⟩ => ⟨S16384x64, .f32⟩
  | .hbm, ⟨34, _⟩ => ⟨S16384x128, .f32⟩
  | .hbm, ⟨35, _⟩ => ⟨S16384x32, .f32⟩
  | .hbm, ⟨36, _⟩ => ⟨S16384x128, .f32⟩
  | .hbm, ⟨37, _⟩ => ⟨S1x512, .f32⟩
  | .hbm, ⟨38, _⟩ => ⟨S16384x4096, .bf16⟩
  | .hbm, ⟨39, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S1x512, .f32⟩
  | .local _ .vmem, ⟨5, _⟩ => ⟨S512x2048, .bf16⟩
  | .local _ .vmem, ⟨6, _⟩ => ⟨S512x2048, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | _, _ => ⟨S16384x33280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c256_i32 : BitVec 32 := 256#32
  let c0_i32 : BitVec 32 := 0#32
  ![arg0.toNat, c256_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S16384x33280 : Shape := ⟨2, ![16384, 33280]⟩
abbrev S512 : Shape := ⟨1, ![512]⟩
abbrev S512x4096 : Shape := ⟨2, ![512, 4096]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S16384x4096 : Shape := ⟨2, ![16384, 4096]⟩
abbrev S16384x16x256 : Shape := ⟨3, ![16384, 16, 256]⟩
abbrev S32 : Shape := ⟨1, ![32]⟩
abbrev S1x32 : Shape := ⟨2, ![1, 32]⟩
abbrev S16384x32 : Shape := ⟨2, ![16384, 32]⟩
abbrev S16384x64 : Shape := ⟨2, ![16384, 64]⟩
abbrev S16384x1x64 : Shape := ⟨3, ![16384, 1, 64]⟩
abbrev S16384x16x64 : Shape := ⟨3, ![16384, 16, 64]⟩
abbrev S16384x16x128 : Shape := ⟨3, ![16384, 16, 128]⟩
abbrev S16384x16x1 : Shape := ⟨3, ![16384, 16, 1]⟩
abbrev S16384x16x127 : Shape := ⟨3, ![16384, 16, 127]⟩

abbrev nBuf : Space → Nat
  | .hbm => 72
  | .vmem => 0
  | .smem => 0
  | _ => 0

abbrev bufTy : (tb : Table) → Fin (tcTables nBuf tb) → BufTy
  | .hbm, ⟨0, _⟩ => ⟨S16384x33280, .bf16⟩
  | .hbm, ⟨1, _⟩ => ⟨S512, .f32⟩
  | .hbm, ⟨2, _⟩ => ⟨S512x4096, .f32⟩
  | .hbm, ⟨3, _⟩ => ⟨S16384x512, .bf16⟩
  | .hbm, ⟨4, _⟩ => ⟨S16384x512, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x512, .f32⟩
  | .hbm, ⟨17, _⟩ => ⟨S16384x512, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S16384x4096, .f32⟩
  | .hbm, ⟨22, _⟩ => ⟨S16384x16x256, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S16384, .f32⟩
  | .hbm, ⟨38, _⟩ => ⟨S16384x1, .f32⟩
  | .hbm, ⟨39, _⟩ => ⟨S1x32, .f32⟩
  | .hbm, ⟨40, _⟩ => ⟨S16384x32, .f32⟩
  | .hbm, ⟨41, _⟩ => ⟨S16384x32, .f32⟩
  | .hbm, ⟨42, _⟩ => ⟨S16384x32, .f32⟩
  | .hbm, ⟨43, _⟩ => ⟨S16384x32, .f32⟩
  | .hbm, ⟨44, _⟩ => ⟨S16384x32, .f32⟩
  | .hbm, ⟨45, _⟩ => ⟨S16384x64, .bf16⟩
  | .hbm, ⟨46, _⟩ => ⟨S16384x64, .f32⟩
  | .hbm, ⟨47, _⟩ => ⟨S16384x32, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S16384x64, .f32⟩
  | .hbm, ⟨56, _⟩ => ⟨S16384x1x64, .f32⟩
  | .hbm, ⟨57, _⟩ => ⟨S16384x16x64, .f32⟩
  | .hbm, ⟨58, _⟩ => ⟨S16384x16x128, .f32⟩
  | .hbm, ⟨59, _⟩ => ⟨S_, .f32⟩
  | .hbm, ⟨60, _⟩ => ⟨S16384x16x64, .f32⟩
  | .hbm, ⟨61, _⟩ => ⟨S16384x16x256, .f32⟩
  | .hbm, ⟨62, _⟩ => ⟨S16384x16x128, .f32⟩
  | .hbm, ⟨63, _⟩ => ⟨S_, .f32⟩
  | .hbm, ⟨64, _⟩ => ⟨S16384x16x1, .f32⟩
  | .hbm, ⟨65, _⟩ => ⟨S_, .f32⟩
  | .hbm, ⟨66, _⟩ => ⟨S16384x16x127, .f32⟩
  | .hbm, ⟨67, _⟩ => ⟨S16384x16x256, .f32⟩
  | .hbm, ⟨68, _⟩ => ⟨S16384x4096, .f32⟩
  | .hbm, ⟨69, _⟩ => ⟨S16384x4096, .bf16⟩
  | .hbm, ⟨70, _⟩ => ⟨S16384x4096, .f32⟩
  | .hbm, ⟨71, _⟩ => ⟨S16384x4096, .bf16⟩
  | _, _ => ⟨S16384x33280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Proof.Trip.lean ====
/- One trip of the loop over the two attention maps, and the loop's invariant: after a map's trip its slab of the
   accumulator holds the map's normalised attention `T k`, and no later trip writes that slab. -/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic
public import Idealize.ShloMosaic.Lib.VecWindow
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Map `k`'s slab of the accumulator, and of the scaled queries. -/
abbrev slab (k : Fin k0_t1_loop.trips) : Rect S2x512x256 := Rect.unit (s := S2x512x256) (k0_off3 k) S1x512x256.size (k0_off3_inb k)

section
variable (c : Dev nD) (i : grid0.Coords) (arg2 : Memref sig .tc .smem S8 .f32) (harg2 : arg2.IsWhole) (arg3 : Memref sig .tc .smem S1 .f32) (harg3 : arg3.IsWhole) (arg4 : Memref sig .tc .vmem S512x256 .bf16) (harg4 : arg4.IsWhole) (arg5 : Memref sig .tc .vmem S1x2x16384x128 .bf16) (harg5 : arg5.IsWhole) (arg6 : Memref sig .tc .vmem S16384x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S4x128 .f32) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S2x512x256 .f32) (harg13 : arg13.IsWhole) (arg14 : Memref sig .tc .vmem S2x512x128 .bf16) (harg14 : arg14.IsWhole) (arg15 : Memref sig .tc .vmem S512x2048 .f32) (harg15 : arg15.IsWhole) (arg16 : Memref sig .tc .vmem S512x2048 .f32) (harg16 : arg16.IsWhole) (v0 : BitVec 32) (v17 : BitVec 32) (v20 : F .f32) (v24 : FVec F S1x2048 .f32) (v25 : IVec S512x1 32) (v38 : FVec F S512x128 .bf16)
    (X14 : Buf (Elt F) (arg14.view.loc (c : Thread nD τ))) (X5 : Buf (Elt F) (arg5.view.loc (c : Thread nD τ))) (X6 : Buf (Elt F) (arg6.view.loc (c : Thread nD τ)))

/-- What a trip holds: the scaled queries, the keys and the values as found, the accumulator at `f13`, the row maxima,
    the row sums and the two score buffers at anything. -/
abbrev Trip (f13 : Buf (Elt F) (arg13.view.loc (c : Thread nD τ))) : sProp 𝕄 :=
  iprop((arg14.view.loc (c : Thread nD τ) ↦[arg14.view.set]{fullShare} X14) ∗ (arg5.view.loc (c : Thread nD τ) ↦[arg5.view.set]{fullShare} X5) ∗ (arg6.view.loc (c : Thread nD τ) ↦[arg6.view.set]{fullShare} X6)
    ∗ (∃ f, arg11.view.loc (c : Thread nD τ) ↦[arg11.view.set]{fullShare} f) ∗ (∃ f, arg12.view.loc (c : Thread nD τ) ↦[arg12.view.set]{fullShare} f)
    ∗ (∃ f, arg15.view.loc (c : Thread nD τ) ↦[arg15.view.set]{fullShare} f) ∗ (∃ f, arg16.view.loc (c : Thread nD τ) ↦[arg16.view.set]{fullShare} f)
    ∗ (arg13.view.loc (c : Thread nD τ) ↦[arg13.view.set]{fullShare} f13))

/-- One trip: it leaves the accumulator with pieces written, the last a value `T` of the whole slab. -/
noncomputable def trip (k : Fin k0_t1_loop.trips) :
    Σ' (T : FVec F S1x512x256 .f32), { L : List (View.Piece (Elt F) S2x512x256 .f32) //
      ∀ (f13 : Buf (Elt F) (arg13.view.loc (c : Thread nD τ))),
        Trip c arg5 arg6 arg11 arg12 arg13 arg14 arg15 arg16 X14 X5 X6 f13
        ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 k ())
          (fun _ => Trip c arg5 arg6 arg11 arg12 arg13 arg14 arg15 arg16 X14 X5 X6 (arg13.view.writes (Elt F) f13 (⟨slab k, T⟩ :: L))) } := by
  refine ⟨?_, ?_, fun f13 => ?run⟩
  case run =>
    unfold k0_t1_body Trip
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    iintro ⟨H14, H5, H6, ⟨%f11, H11⟩, ⟨%f12, H12⟩, ⟨%f15, H15⟩, ⟨%f16, H16⟩, H13⟩
    sl_exec
    sl_step
    sl_close

/-- Map `k`'s normalised attention, as the trip leaves it. -/
noncomputable def T (k : Fin k0_t1_loop.trips) : FVec F S1x512x256 .f32 :=
  (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 X14 X5 X6 k).1

/-- Every piece of a trip lies in its slab. -/
theorem trip_slab (k : Fin k0_t1_loop.trips) : ∀ p ∈ (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 X14 X5 X6 k).2.1, p.1 = slab k := by
  intro p hp
  have h : ((trip c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 X14 X5 X6 k).2.1).map Sigma.fst = List.replicate 9 (slab k) := rfl
  exact List.eq_of_mem_replicate (h ▸ List.mem_map_of_mem (f := Sigma.fst) hp)
end

/-- Map `j`'s slab is another's elements away from map `k`'s. -/
theorem slab_ne {j k : Fin k0_t1_loop.trips} (h : j ≠ k) (x : (slab j).shape.Idx) : (slab j).emb x ∉ (slab k).set := by
  rw [Rect.mem_set_unit]
  intro hx
  have h0 := hx 0
  have hx0 : (x 0).val < 1 := (x 0).isLt
  have e : (((slab j).emb x) 0).val = k0_off3 j 0 + 1 * (x 0).val := rfl
  rw [e, k0_off3_eq, k0_off3_eq] at h0
  simp at h0
  exact h (Fin.ext (by omega))

/-- After map `k`'s pieces its slab reads the last of them, and another map's slab what it read before. -/
theorem slab_writes (v : View sig .tc .vmem S2x512x256 .f32) (f : v.ty.Contents (Elt F)) (k j : Fin k0_t1_loop.trips)
    (w : FVec F S1x512x256 .f32) (L : List (View.Piece (Elt F) S2x512x256 .f32)) (hL : ∀ p ∈ L, p.1 = slab k) :
    v.readAt (Elt F) (slab j).toLoadRect (v.writes (Elt F) f (⟨slab k, w⟩ :: L))
      = if j = k then w else v.readAt (Elt F) (slab j).toLoadRect f := by
  split
  · rename_i h; subst h
    funext x
    exact View.read_writes_cons_emb v f (slab j) w L x
  · rename_i h
    have hall : ∀ p ∈ (⟨slab k, w⟩ :: L : List (View.Piece (Elt F) S2x512x256 .f32)), p.1 = slab k := by
      intro p hp
      rcases List.mem_cons.1 hp with rfl | hp
      · rfl
      · exact hL p hp
    generalize (⟨slab k, w⟩ :: L : List (View.Piece (Elt F) S2x512x256 .f32)) = L' at hall
    funext x
    show v.read (Elt F) _ ((slab j).emb x) = v.read (Elt F) f ((slab j).emb x)
    induction L' with
    | nil => rfl
    | cons p L' ih =>
      rw [View.read_writes_cons_miss v f p L' _ (by rw [hall p List.mem_cons_self]; exact slab_ne h x)]
      exact ih fun q hq => hall q (List.mem_cons_of_mem _ hq)

section
variable (c : Dev nD) (i : grid0.Coords) (arg2 : Memref sig .tc .smem S8 .f32) (harg2 : arg2.IsWhole) (arg3 : Memref sig .tc .smem S1 .f32) (harg3 : arg3.IsWhole) (arg4 : Memref sig .tc .vmem S512x256 .bf16) (harg4 : arg4.IsWhole) (arg5 : Memref sig .tc .vmem S1x2x16384x128 .bf16) (harg5 : arg5.IsWhole) (arg6 : Memref sig .tc .vmem S16384x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S4x128 .f32) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S2x512x256 .f32) (harg13 : arg13.IsWhole) (arg14 : Memref sig .tc .vmem S2x512x128 .bf16) (harg14 : arg14.IsWhole) (arg15 : Memref sig .tc .vmem S512x2048 .f32) (harg15 : arg15.IsWhole) (arg16 : Memref sig .tc .vmem S512x2048 .f32) (harg16 : arg16.IsWhole) (v0 : BitVec 32) (v17 : BitVec 32) (v20 : F .f32) (v24 : FVec F S1x2048 .f32) (v25 : IVec S512x1 32) (v38 : FVec F S512x128 .bf16)
    (X14 : Buf (Elt F) (arg14.view.loc (c : Thread nD τ))) (X5 : Buf (Elt F) (arg5.view.loc (c : Thread nD τ))) (X6 : Buf (Elt F) (arg6.view.loc (c : Thread nD τ)))

/-- Before trip `k` the slabs of the maps before it hold their attention. -/
abbrev Inv (k : ℕ) : sProp 𝕄 :=
  iprop((arg14.view.loc (c : Thread nD τ) ↦[arg14.view.set]{fullShare} X14) ∗ (arg5.view.loc (c : Thread nD τ) ↦[arg5.view.set]{fullShare} X5) ∗ (arg6.view.loc (c : Thread nD τ) ↦[arg6.view.set]{fullShare} X6)
    ∗ (∃ f, arg11.view.loc (c : Thread nD τ) ↦[arg11.view.set]{fullShare} f) ∗ (∃ f, arg12.view.loc (c : Thread nD τ) ↦[arg12.view.set]{fullShare} f)
    ∗ (∃ f, arg15.view.loc (c : Thread nD τ) ↦[arg15.view.set]{fullShare} f) ∗ (∃ f, arg16.view.loc (c : Thread nD τ) ↦[arg16.view.set]{fullShare} f)
    ∗ (∃ f, (arg13.view.loc (c : Thread nD τ) ↦[arg13.view.set]{fullShare} f)
        ∗ ⌜∀ j : Fin k0_t1_loop.trips, j.val < k → arg13.view.readAt (Elt F) (slab j).toLoadRect f
            = T c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 X14 X5 X6 j⌝))

@[sl_loop, instance_reducible] noncomputable def loopInv_k0_t1 :
    Cert.KernelIdeal.Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 where
  inv := fun k _ => Inv c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 X14 X5 X6 k
  step := fun k acc => by
    iintro ⟨H14, H5, H6, H11, H12, H15, H16, ⟨%f13, H13, %hf⟩⟩
    iapply (wp_wand_r frame (wpE (defs₀ (F := F)) Variants.none (c : Thread nD τ) none) Set.univ (Q := fun _ => Trip c arg5 arg6 arg11 arg12 arg13 arg14 arg15 arg16 X14 X5 X6 (arg13.view.writes (Elt F) f13
      (⟨slab k, T c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 X14 X5 X6 k⟩ :: (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 X14 X5 X6 k).2.1))))
    isplitl
    · iapply ((trip c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 X14 X5 X6 k).2.2 f13)
      isplitl [H14]; · iexact H14
      isplitl [H5]; · iexact H5
      isplitl [H6]; · iexact H6
      isplitl [H11]; · iexact H11
      isplitl [H12]; · iexact H12
      isplitl [H15]; · iexact H15
      isplitl [H16]; · iexact H16
      iexact H13
    · iintro %r ⟨H14, H5, H6, H11, H12, H15, H16, H13⟩
      isplitl [H14]; · iexact H14
      isplitl [H5]; · iexact H5
      isplitl [H6]; · iexact H6
      isplitl [H11]; · iexact H11
      isplitl [H12]; · iexact H12
      isplitl [H15]; · iexact H15
      isplitl [H16]; · iexact H16
      iexists _; isplitl [H13]; · iexact H13
      ipureintro
      intro j hj
      rw [slab_writes _ _ _ _ _ _ (trip_slab c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 X14 X5 X6 k)]
      split
      · rename_i h; rw [h]
      · rename_i h; exact hf j (by have : j.val ≠ k.val := fun e => h (Fin.ext e); omega)
end

end Cert.Proof.KernelIdeal

end
-- ==== Proof.Run.lean ====
/- The kernel's body run. -/
module

public import proofs.«01_k».proof.Proof.Trip
public import Idealize.ShloMosaic.Lib.Ring
public import Idealize.ShloMosaic.Lib.Pipeline.FrameBody
public import Idealize.ShloMosaic.Lib.Tactic
public import Idealize.ShloMosaic.Lib.VecWindow
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first query of a block, and the key chunk its diagonal lies in. -/
def v0W (i : grid0.Coords) : BitVec 32 := Scalar.muli (BitVec.ofNat 32 (i 1).val) 512#32
def kdW (i : grid0.Coords) : BitVec 32 :=
  Scalar.select (Scalar.andi
      (Scalar.cmpi .ne (Scalar.subi (Scalar.extui (Scalar.cmpi .sgt (v0W i) 0#32)) (Scalar.extui (Scalar.cmpi .slt (v0W i) 0#32))) 1#32)
      (Scalar.cmpi .ne (Scalar.remsi (v0W i) 2048#32) 0#32))
    (Scalar.subi (Scalar.divsi (v0W i) 2048#32) 1#32) (Scalar.divsi (v0W i) 2048#32)

section
variable (c : Dev nD) (i : grid0.Coords) (arg2 : Memref sig .tc .smem S8 .f32) (harg2 : arg2.IsWhole) (arg3 : Memref sig .tc .smem S1 .f32) (harg3 : arg3.IsWhole) (arg4 : Memref sig .tc .vmem S512x256 .bf16) (harg4 : arg4.IsWhole) (arg5 : Memref sig .tc .vmem S1x2x16384x128 .bf16) (harg5 : arg5.IsWhole) (arg6 : Memref sig .tc .vmem S16384x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S4x128 .f32) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S2x512x256 .f32) (harg13 : arg13.IsWhole) (arg14 : Memref sig .tc .vmem S2x512x128 .bf16) (harg14 : arg14.IsWhole) (arg15 : Memref sig .tc .vmem S512x2048 .f32) (harg15 : arg15.IsWhole) (arg16 : Memref sig .tc .vmem S512x2048 .f32) (harg16 : arg16.IsWhole)
    (x0 : Vec F S8 .f32) (x1 : Vec F S1 .f32) (x2 : Vec F S512x256 .bf16) (x3 : Vec F S1x2x16384x128 .bf16) (x4 : Vec F S16384x256 .bf16) (x5 : Vec F S512x256 .bf16) (x6 : Vec F S1x256 .f32) (x7 : Vec F S4x128 .f32)

/-- The head's slope as the body reads it, and the block's queries scaled, in the scratch. -/
def slopeW : Elt F .f32 :=
  arg2.view.readAt (Elt F) (Rect.unit (s := S8) (k0_off1 i) S1.size (k0_off1_inb i)).toLoadRect (harg2.unread x0) (Shape.Idx.first (show 0 < S1.numel by decide +kernel))
def q1W : FVec F S512x128 .bf16 :=
  k0_pay95 (arg4.view.readAt (Elt F) (Rect.unit (s := S512x256) ![0, 128] S512x128.size inb_S512x256_S512x128_0_128).toLoadRect (harg4.unread x2))
def qsL : List (View.Piece (Elt F) S2x512x128 .bf16) :=
  [⟨Rect.unit (s := S2x512x128) ![1, 0, 0] S1x512x128.size inb_S2x512x128_S1x512x128_1_0_0, k0_pay96 (q1W arg4 harg4 x2)⟩,
   ⟨Rect.unit (s := S2x512x128) ![0, 0, 0] S1x512x128.size inb_S2x512x128_S1x512x128_0_0_0,
    k0_pay94 (arg4.view.readAt (Elt F) (Rect.unit (s := S512x256) ![0, 0] S512x128.size inb_S512x256_S512x128_0_0).toLoadRect (harg4.unread x2))⟩]
/-- A map's normalised attention at the block's inputs. -/
def mapV (j : Fin k0_t1_loop.trips) : FVec F S1x512x256 .f32 :=
  T c i arg2 harg2 arg3 harg3 arg4 harg4 arg5 harg5 arg6 harg6 arg7 harg7 arg8 harg8 arg9 harg9 arg10 harg10 arg11 harg11 arg12 harg12 arg13 harg13 arg14 harg14 arg15 harg15 arg16 harg16 (v0W i) (kdW i) (k0_pay92 (slopeW i arg2 harg2 x0)) (k0_pay93 (slopeW i arg2 harg2 x0)) (iota .tc S512x1 32 [0] iota_S512x1_d0_w32)
    (q1W arg4 harg4 x2) (arg14.view.writes (Elt F) arg14.view.junk (qsL arg4 harg4 x2)) (harg5.unread x3) (harg6.unread x4) j
def lamW : Elt F .f32 :=
  arg3.view.readAt (Elt F) (Rect.unit (s := S1) ![0] S1.size inb_S1_S1_0).toLoadRect (harg3.unread x1) (Shape.Idx.first (show 0 < S1.numel by decide +kernel))
def lvW : FVec F S4x128 .f32 :=
  arg9.view.readAt (Elt F) (Rect.unit (s := S4x128) ![0, 0] S4x128.size inb_S4x128_S4x128_0_0).toLoadRect (harg9.unread x7)
/-- What the body leaves in its output block. -/
def bodyVal : FVec F S512x256 .bf16 :=
  k0_pay1 (lamW arg3 harg3 x1)
    (k0_pay100 (lamW arg3 harg3 x1) (lvW arg9 harg9 x7) (mapV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 ⟨0, by decide⟩) (mapV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 ⟨1, by decide⟩))
    (k0_pay101 (arg8.view.readAt (Elt F) (Rect.unit (s := S1x256) ![0, 0] S1x256.size inb_S1x256_S1x256_0_0).toLoadRect (harg8.unread x6)))
    (k0_pay102 (lamW arg3 harg3 x1) (lvW arg9 harg9 x7) (mapV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 ⟨0, by decide⟩) (mapV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 ⟨1, by decide⟩))
    (arg7.view.readAt (Elt F) (Rect.unit (s := S512x256) ![0, 0] S512x256.size inb_S512x256_S512x256_0_0).toLoadRect (harg7.unread x5))
end

/-- The body on whole memrefs: the inputs kept, the scratch at anything, the output block at `bodyVal`. -/
theorem run_body (c : Dev nD) (i : grid0.Coords) (arg2 : Memref sig .tc .smem S8 .f32) (harg2 : arg2.IsWhole) (arg3 : Memref sig .tc .smem S1 .f32) (harg3 : arg3.IsWhole) (arg4 : Memref sig .tc .vmem S512x256 .bf16) (harg4 : arg4.IsWhole) (arg5 : Memref sig .tc .vmem S1x2x16384x128 .bf16) (harg5 : arg5.IsWhole) (arg6 : Memref sig .tc .vmem S16384x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S4x128 .f32) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S2x512x256 .f32) (harg13 : arg13.IsWhole) (arg14 : Memref sig .tc .vmem S2x512x128 .bf16) (harg14 : arg14.IsWhole) (arg15 : Memref sig .tc .vmem S512x2048 .f32) (harg15 : arg15.IsWhole) (arg16 : Memref sig .tc .vmem S512x2048 .f32) (harg16 : arg16.IsWhole)
    (x0 : Vec F S8 .f32) (x1 : Vec F S1 .f32) (x2 : Vec F S512x256 .bf16) (x3 : Vec F S1x2x16384x128 .bf16) (x4 : Vec F S16384x256 .bf16) (x5 : Vec F S512x256 .bf16) (x6 : Vec F S1x256 .f32) (x7 : Vec F S4x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (bodyVal c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) Set.univ (cc0_flash_diff i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_flash_diff_eq_skeleton]; unfold cc0_flash_diff_skel
  simp only [k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  have e0 : View.readAt (Elt F) arg13.view (Rect.unit (s := S2x512x256) ![0, 0, 0] S1x512x256.size inb_S2x512x256_S1x512x256_0_0_0).toLoadRect fL4 = mapV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 ⟨0, by decide⟩ :=
    hL8 ⟨0, by decide⟩ (by decide)
  have e1 : View.readAt (Elt F) arg13.view (Rect.unit (s := S2x512x256) ![1, 0, 0] S1x512x256.size inb_S2x512x256_S1x512x256_1_0_0).toLoadRect fL4 = mapV c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 ⟨1, by decide⟩ :=
    hL8 ⟨1, by decide⟩ (by decide)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_full _ _ _ _ _).trans ?_
    unfold bodyVal
    rw [← e0, ← e1]
    rfl
  isplitl [HS0]
  · iexists _; iexists _; isplitr
    swap; · iexact HS0
    ipureintro; rfl
  isplitl [HS1]
  · iexists _; iexists _; isplitr
    swap; · iexact HS1
    ipureintro; rfl
  isplitl [HS2]
  · iexists _; iexists _; isplitr
    swap; · iexact HS2
    ipureintro; rfl
  isplitl [HS3]
  · iexists _; iexists _; isplitr
    swap; · iexact HS3
    ipureintro; rfl
  isplitl [HS4]
  · iexists _; iexists _; isplitr
    swap; · iexact HS4
    ipureintro; rfl
  iexists _; iexists _; isplitr
  swap; · iexact HS5
  ipureintro; rfl

end Cert.Proof.KernelIdeal

end
-- ==== Proof.Frame.lean ====
/- The launch: what the output blocks hold point by point (`bodyVal` at the point's blocks), the pipeline's proof data,
   the body obligation, the run of @main and the frame. -/
module

public import proofs.«01_k».proof.Proof.Run
public import proofs.«01_k».proof.Proof.Gen.KernelIdeal.Launch
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's staging memref at point `t`, as the pipeline passes it, and its wholeness; the scratch. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x16384x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16384x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .bf16 := win0_8.stage (cfg0.slots t 8)
abbrev hs0_8 (t : Fin cfg0.N) : (ms0_8 t).IsWhole := hstage0_8 ((cfg0.slots t 8).cast nbuf0_8)
abbrev scM0_0 : Memref sig .tc .vmem S512x1 .f32 := Memref.whole cc0_scratch0
abbrev scM0_1 : Memref sig .tc .vmem S512x1 .f32 := Memref.whole cc0_scratch1
abbrev scM0_2 : Memref sig .tc .vmem S2x512x256 .f32 := Memref.whole cc0_scratch2
abbrev scM0_3 : Memref sig .tc .vmem S2x512x128 .bf16 := Memref.whole cc0_scratch3
abbrev scM0_4 : Memref sig .tc .vmem S512x2048 .f32 := Memref.whole cc0_scratch4
abbrev scM0_5 : Memref sig .tc .vmem S512x2048 .f32 := Memref.whole cc0_scratch5

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- What the output's staging buffer holds after the body at point `t`. -/
def outsAt0 (c : Dev nD) (t : Fin cfg0.N) : Vec F S512x256 .bf16 :=
  bodyVal c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t)

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outsAt0 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outsAt0 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The run, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run: every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.KernelIdeal

end
-- ==== Proof.Chain.lean ====
/- A trip's result is a fold of one online-softmax step over the eight key chunks. -/
module

public import proofs.«01_k».proof.Proof.Run
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F] [Named F]

/-- The off-diagonal chunk visited `n`th, and which side of the diagonal it lies on. -/
def kiW (v17 n : BitVec 32) : BitVec 32 := Scalar.addi n (Scalar.extui (Scalar.cmpi .sge n v17))
def sgnW (v17 n : BitVec 32) : F .f32 :=
  Scalar.select (Scalar.cmpi .slt (kiW v17 n) v17) (Scalar.ofBits .f32 0x3F800000#32) (Scalar.ofBits .f32 0xBF800000#32)
/-- A row's part of the position bias on chunk `n`, and the scores with the column's part. -/
def cW (v0 v17 : BitVec 32) (v20 : F .f32) (v25 : IVec S512x1 32) (n : BitVec 32) : FVec F S512x1 .f32 :=
  mulf (broadcast S512x1 (Scalar.mulf (Scalar.subf (Scalar.ofBits .f32 0x00000000#32) (sgnW v17 n)) v20))
    (sitofp .f32 (addi v25 (broadcast S512x1 (Scalar.subi v0 (Scalar.muli (kiW v17 n) 2048#32)))))
def tW (v17 : BitVec 32) (v24 : FVec F S1x2048 .f32) (n : BitVec 32) (s : FVec F S512x2048 .f32) : FVec F S512x2048 .f32 :=
  addf s (broadcastTo S512x2048 (mulf (broadcast S1x2048 (sgnW v17 n)) v24) broadcasts_S1x2048_S512x2048)
/-- The chunks in the order visited: the seven off the diagonal, then the diagonal one. -/
def cN (v0 v17 : BitVec 32) (v20 : F .f32) (v25 : IVec S512x1 32) : ℕ → FVec F S512x1 .f32
  | 7 => broadcast S512x1 (Scalar.ofBits .f32 0x00000000#32)
  | n => cW v0 v17 v20 v25 (BitVec.ofNat 32 n)
def tN (v0 v17 : BitVec 32) (v20 : F .f32) (v24 : FVec F S1x2048 .f32) (v25 : IVec S512x1 32) (s : FVec F S512x2048 .f32) : ℕ → FVec F S512x2048 .f32
  | 7 => k0_pay84 v0 v17 v20 (iota .tc S512x2048 32 [1] iota_S512x2048_d1_w32) (k0_pay83 v25) s
  | n => tW v17 v24 (BitVec.ofNat 32 n) s
/-- One step: the row maxima, the row sums and the accumulator after a chunk. -/
def mS (c : FVec F S512x1 .f32) (t : FVec F S512x2048 .f32) (m : FVec F S512x1 .f32) : FVec F S512x1 .f32 :=
  maximumf m (addf (shapeCast S512x1 (multiReduction .maximumf [1] S512 t 0xFF800000#32 reduces_S512x2048_S512 (.inl rfl) rfl) shapeCasts_S512_S512x1) c)
def pS (c : FVec F S512x1 .f32) (t : FVec F S512x2048 .f32) (m : FVec F S512x1 .f32) : FVec F S512x2048 .f32 :=
  exp2 (subf t (broadcastTo S512x2048 (subf (mS c t m) c) broadcasts_S512x1_S512x2048))
def lS (c : FVec F S512x1 .f32) (t : FVec F S512x2048 .f32) (m l : FVec F S512x1 .f32) : FVec F S512x1 .f32 :=
  addf (mulf (exp2 (subf m (mS c t m))) l) (shapeCast S512x1 (multiReduction .add [1] S512 (pS c t m) 0x00000000#32 reduces_S512x2048_S512 (.inl rfl) rfl) shapeCasts_S512_S512x1)
def aS (c : FVec F S512x1 .f32) (t : FVec F S512x2048 .f32) (m : FVec F S512x1 .f32) (a : FVec F S1x512x256 .f32) (v : Vec F S2048x256 .bf16) : FVec F S1x512x256 .f32 :=
  shapeCast S1x512x256 (addf (mulf (broadcastTo S512x256 (exp2 (subf m (mS c t m))) broadcasts_S512x1_S512x256) (shapeCast S512x256 a shapeCasts_S1x512x256_S512x256))
    (matmul dot_S512x2048_S2048x256_S512x256_1_0_0_1_n_n none (truncf .bf16 (pS c t m) bitsLt_bf16_f32) v (constant S512x256 .f32 0x00000000#32))) shapeCasts_S512x256_S1x512x256

/-- The fold of the step over the first `n` chunks. -/
def stG (c : ℕ → FVec F S512x1 .f32) (t : ℕ → FVec F S512x2048 .f32) (v : ℕ → Vec F S2048x256 .bf16) : ℕ → FVec F S512x1 .f32 × FVec F S512x1 .f32 × FVec F S1x512x256 .f32
  | 0 => (k0_pay3, k0_pay4, k0_pay5)
  | n + 1 => (mS (c n) (t n) (stG c t v n).1, lS (c n) (t n) (stG c t v n).1 (stG c t v n).2.1,
      aS (c n) (t n) (stG c t v n).1 (stG c t v n).2.2 (v n))

/-- A chunk's scores. -/
def scoreOf (q : FVec F S512x128 .bf16) (kc : Vec F S2048x128 .bf16) : FVec F S512x2048 .f32 :=
  matmul dot_S512x128_S2048x128_S512x2048_1_1_0_0_n_n none q kc (constant S512x2048 .f32 0x00000000#32)

theorem score_eq (q : FVec F S512x128 .bf16) (kc : Vec F S2048x128 .bf16) (h : S2048x128.ShapeCasts S2048x128) (h' : S512x2048.ShapeCasts S512x2048) :
    shapeCast S512x2048 (matmul dot_S512x128_S2048x128_S512x2048_1_1_0_0_n_n none q (shapeCast S2048x128 kc h) (constant S512x2048 .f32 0x00000000#32)) h' = scoreOf q kc := by
  rw [shapeCast_self, shapeCast_self]; rfl

section
variable (c : Dev nD) (i : grid0.Coords) (arg5 : Memref sig .tc .vmem S1x2x16384x128 .bf16) (arg6 : Memref sig .tc .vmem S16384x256 .bf16) (arg11 : Memref sig .tc .vmem S512x1 .f32) (arg12 : Memref sig .tc .vmem S512x1 .f32) (arg13 : Memref sig .tc .vmem S2x512x256 .f32) (arg14 : Memref sig .tc .vmem S2x512x128 .bf16) (arg15 arg16 : Memref sig .tc .vmem S512x2048 .f32)
    (v0 v17 : BitVec 32) (v20 : F .f32) (v24 : FVec F S1x2048 .f32) (v25 : IVec S512x1 32)
    (X14 : Buf (Elt F) (arg14.view.loc (c : Thread nD τ))) (X5 : Buf (Elt F) (arg5.view.loc (c : Thread nD τ))) (X6 : Buf (Elt F) (arg6.view.loc (c : Thread nD τ))) (k : Fin k0_t1_loop.trips)

/-- The key chunks, the scores and the value chunks, in the order visited. -/
def kN : ℕ → Vec F S2048x128 .bf16
  | 0 => trip.sl.v116 c i arg5 X5 k
  | 1 => trip.sl.v132 c i arg5 X5 k
  | 2 => trip.sl.v206 c i arg5 X5 k
  | 3 => trip.sl.v281 c i arg5 X5 k
  | 4 => trip.sl.v355 c i arg5 X5 k
  | 5 => trip.sl.v430 c i arg5 X5 k
  | 6 => trip.sl.v504 c i arg5 X5 k
  | _ => trip.sl.v574 c i arg5 X5 k
def sN (n : ℕ) : FVec F S512x2048 .f32 := scoreOf (trip.sl.r c arg14 X14 k) (kN c i arg5 X5 k n)
def vN : ℕ → Vec F S2048x256 .bf16
  | 0 => View.readAt (Elt F) arg6.view (Rect.unit (s := S16384x256) (k0_off7 i 0#32) S2048x256.size (k0_off7_inb i 0)).toLoadRect X6
  | 1 => View.readAt (Elt F) arg6.view (Rect.unit (s := S16384x256) (k0_off8 i 0#32) S2048x256.size (k0_off8_inb i 0)).toLoadRect X6
  | 2 => View.readAt (Elt F) arg6.view (Rect.unit (s := S16384x256) (k0_off7 i 1#32) S2048x256.size (k0_off7_inb i 1)).toLoadRect X6
  | 3 => View.readAt (Elt F) arg6.view (Rect.unit (s := S16384x256) (k0_off8 i 1#32) S2048x256.size (k0_off8_inb i 1)).toLoadRect X6
  | 4 => View.readAt (Elt F) arg6.view (Rect.unit (s := S16384x256) (k0_off7 i 2#32) S2048x256.size (k0_off7_inb i 2)).toLoadRect X6
  | 5 => View.readAt (Elt F) arg6.view (Rect.unit (s := S16384x256) (k0_off8 i 2#32) S2048x256.size (k0_off8_inb i 2)).toLoadRect X6
  | 6 => View.readAt (Elt F) arg6.view (Rect.unit (s := S16384x256) (k0_off10 i) S2048x256.size (k0_off10_inb i)).toLoadRect X6
  | _ => View.readAt (Elt F) arg6.view (Rect.unit (s := S16384x256) (k0_off11 i) S2048x256.size (k0_off11_inb i)).toLoadRect X6

/-- A map's fold over the first `n` chunks. -/
def st : ℕ → FVec F S512x1 .f32 × FVec F S512x1 .f32 × FVec F S1x512x256 .f32 :=
  stG (cN v0 v17 v20 v25) (fun n => tN v0 v17 v20 v24 v25 (sN c i arg5 arg14 X14 X5 k n) n) (vN c i arg6 X6)
end

theorem glue_m (cc : FVec F S512x1 .f32) (f : FVec F S512x2048 .f32 → FVec F S512x2048 .f32) {s s' : FVec F S512x2048 .f32} {m m' : FVec F S512x1 .f32} (hs : s = s') (hm : m = m') :
    shapeCast S512x1 (mS cc (f s) m) shapeCasts_S512x1_S512x1 = mS cc (f s') m' := by
  rw [shapeCast_self, hs, hm]
theorem glue_l (cc : FVec F S512x1 .f32) (f : FVec F S512x2048 .f32 → FVec F S512x2048 .f32) {s s' : FVec F S512x2048 .f32} {m m' l l' : FVec F S512x1 .f32} (hs : s = s') (hm : m = m') (hl : l = l') :
    shapeCast S512x1 (lS cc (f s) m l) shapeCasts_S512x1_S512x1 = lS cc (f s') m' l' := by
  rw [shapeCast_self, hs, hm, hl]
theorem glue_a (cc : FVec F S512x1 .f32) (f : FVec F S512x2048 .f32 → FVec F S512x2048 .f32) (v : Vec F S2048x256 .bf16) {s s' : FVec F S512x2048 .f32} {m m' : FVec F S512x1 .f32} {a a' : FVec F S1x512x256 .f32} (hs : s = s') (hm : m = m') (ha : a = a') :
    aS cc (f s) m a v = aS cc (f s') m' a' v := by
  rw [hs, hm, ha]

section
variable (c : Dev nD) (i : grid0.Coords) (arg5 : Memref sig .tc .vmem S1x2x16384x128 .bf16) (arg6 : Memref sig .tc .vmem S16384x256 .bf16) (arg11 : Memref sig .tc .vmem S512x1 .f32) (arg12 : Memref sig .tc .vmem S512x1 .f32) (arg13 : Memref sig .tc .vmem S2x512x256 .f32) (arg14 : Memref sig .tc .vmem S2x512x128 .bf16) (arg15 arg16 : Memref sig .tc .vmem S512x2048 .f32)
    (v0 v17 : BitVec 32) (v20 : F .f32) (v24 : FVec F S1x2048 .f32) (v25 : IVec S512x1 32)
    (X14 : Buf (Elt F) (arg14.view.loc (c : Thread nD τ))) (X5 : Buf (Elt F) (arg5.view.loc (c : Thread nD τ))) (X6 : Buf (Elt F) (arg6.view.loc (c : Thread nD τ))) (k : Fin k0_t1_loop.trips)

theorem score0 : trip.sl.v153 c i arg5 arg14 arg15 X14 X5 k = sN c i arg5 arg14 X14 X5 k 0 :=
  (View.readCov_cons_toLoadRect _ _ _ _).trans (score_eq _ _ _ _)

theorem score1 : trip.sl.v228 c i arg5 arg14 arg16 X14 X5 k = sN c i arg5 arg14 X14 X5 k 1 :=
  (View.readCov_cons_toLoadRect _ _ _ _).trans (score_eq _ _ _ _)

theorem score2 : trip.sl.v302 c i arg5 arg14 arg15 X14 X5 k = sN c i arg5 arg14 X14 X5 k 2 :=
  (View.readCov_cons_toLoadRect _ _ _ _).trans (score_eq _ _ _ _)

theorem score3 : trip.sl.v377 c i arg5 arg14 arg16 X14 X5 k = sN c i arg5 arg14 X14 X5 k 3 :=
  (View.readCov_cons_toLoadRect _ _ _ _).trans (score_eq _ _ _ _)

theorem score4 : trip.sl.v451 c i arg5 arg14 arg15 X14 X5 k = sN c i arg5 arg14 X14 X5 k 4 :=
  (View.readCov_cons_toLoadRect _ _ _ _).trans (score_eq _ _ _ _)

theorem score5 : trip.sl.v526 c i arg5 arg14 arg16 X14 X5 k = sN c i arg5 arg14 X14 X5 k 5 :=
  (View.readCov_cons_toLoadRect _ _ _ _).trans (score_eq _ _ _ _)

theorem score6 : trip.sl.v594 c i arg5 arg14 arg15 X14 X5 k = sN c i arg5 arg14 X14 X5 k 6 :=
  (View.readCov_cons_toLoadRect _ _ _ _).trans (score_eq _ _ _ _)

theorem score7 : trip.sl.v644 c i arg5 arg14 arg16 X14 X5 k = sN c i arg5 arg14 X14 X5 k 7 :=
  (View.readCov_cons_toLoadRect _ _ _ _).trans (score_eq _ _ _ _)

theorem step0 : trip.sl.v158 arg11 = (st c i arg5 arg6 arg14 v0 v17 v20 v24 v25 X14 X5 X6 k 0).1 ∧ trip.sl.v169 arg12 = (st c i arg5 arg6 arg14 v0 v17 v20 v24 v25 X14 X5 X6 k 0).2.1 ∧ trip.sl.v178 arg13 k = (st c i arg5 arg6 arg14 v0 v17 v20 v24 v25 X14 X5 X6 k 0).2.2 :=
  ⟨View.readCov_cons_toLoadRect _ _ _ _, View.readCov_cons_toLoadRect _ _ _ _, View.readCov_cons_toLoadRect _ _ _ _⟩

theorem step1 : trip.sl.v233 c i arg5 arg11 arg14 arg15 v0 v17 v20 v24 v25 X14 X5 k = (st c i arg5 arg6 arg14 v0 v17 v20 v24 v25 X14 X5 X6 k 1).1 ∧ trip.sl.v244 c i arg5 arg11 arg12 arg14 arg15 v0 v17 v20 v24 v25 X14 X5 k = (st c i arg5 arg6 arg14 v0 v17 v20 v24 v25 X14 X5 X6 k 1).2.1 ∧ trip.sl.v253 c i arg5 arg6 arg11 arg13 arg14 arg15 v0 v17 v20 v24 v25 X14 X5 X6 k = (st c i arg5 arg6 arg14 v0 v17 v20 v24 v25 X14 X5 X6 k 1).2.2 := by
  obtain ⟨hm, hl, ha⟩ := step0 c i arg5 arg6 arg11 arg12 arg13 arg14 v0 v17 v20 v24 v25 X14 X5 X6 k
  have hs := score0 c i arg5 arg14 arg15 X14 X5 k
  exact ⟨(View.readCov_cons_toLoadRect _ _ _ _).trans (glue_m _ _ hs hm), (View.readCov_cons_toLoadRect _ _ _ _).trans (glue_l _ _ hs hm hl), (View.readCov_cons_toLoadRect _ _ _ _).trans (glue_a _ _ _ hs hm ha)⟩

theorem step2 : trip.sl.v307 c i arg5 arg11 arg14 arg15 arg16 v0 v17 v20 v24 v25 X14 X5 k = (st c i arg5 arg6 arg14 v0 v17 v20 v24 v25 X14 X5 X6 k 2).1 ∧ trip.sl.v318 c i arg5 arg11 arg12 arg14 arg15 arg16 v0 v17 v20 v24 v25 X14 X5 k = (st c i arg5 arg6 arg14 v0 v17 v20 v24 v25 X14 X5 X6 k 2).2.1 ∧ trip.sl.v327 c i arg5 arg6 arg11 arg13 arg14 arg15 arg16 v0 v17 v20 v24 v25 X14 X5 X6 k = (st c i arg5 arg6 arg14 v0 v17 v20 v24 v25 X14 X5 X6 k 2).2.2 := by
  obtain ⟨hm, hl, ha⟩ := step1 c i arg5 arg6 arg11 arg12 arg13 arg14 arg15 v0 v17 v20 v24 v25 X14 X5 X6 k
  have hs := score1 c i arg5 arg14 arg16 X14 X5 k
  exact ⟨(View.readCov_cons_toLoadRect _ _ _ _).trans (glue_m _ _ hs hm), (View.readCov_cons_toLoadRect _ _ _ _).trans (glue_l _ _ hs hm hl), (View.readCov_cons_toLoadRect _ _ _ _).trans (glue_a _ _ _ hs hm ha)⟩

theorem step3 : trip.sl.v382 c i arg5 arg11 arg14 arg15 arg16 v0 v17 v20 v24 v25 X14 X5 k = (st c i arg5 arg6 arg14 v0 v17 v20 v24 v25 X14 X5 X6 k 3).1 ∧ trip.sl.v393 c i arg5 arg11 arg12 arg14 arg15 arg16 v0 v17 v20 v24 v25 X14 X5 k = (st c i arg5 arg6 arg14 v0 v17 v20 v24 v25 X14 X5 X6 k 3).2.1 ∧ trip.sl.v402 c i arg5 arg6 arg11 arg13 arg14 arg15 arg16 v0 v17 v20 v24 v25 X14 X5 X6 k = (st c i arg5 arg6 arg14 v0 v17 v20 v24 v25 X14 X5 X6 k 3).2.2 := by
  obtain ⟨hm, hl, ha⟩ := step2 c i arg5 arg6 arg11 arg12 arg13 arg14 arg15 arg16 v0 v17 v20 v24 v25 X14 X5 X6 k
  have hs := score2 c i arg5 arg14 arg15 X14 X5 k
  exact ⟨(View.readCov_cons_toLoadRect _ _ _ _).trans (glue_m _ _ hs hm), (View.readCov_cons_toLoadRect _ _ _ _).trans (glue_l _ _ hs hm hl), (View.readCov_cons_toLoadRect _ _ _ _).trans (glue_a _ _ _ hs hm ha)⟩

theorem step4 : trip.sl.v456 c i arg5 arg11 arg14 arg15 arg16 v0 v17 v20 v24 v25 X14 X5 k = (st c i arg5 arg6 arg14 v0 v17 v20 v24 v25 X14 X5 X6 k 4).1 ∧ trip.sl.v467 c i arg5 arg11 arg12 arg14 arg15 arg16 v0 v17 v20 v24 v25 X14 X5 k = (st c i arg5 arg6 arg14 v0 v17 v20 v24 v25 X14 X5 X6 k 4).2.1 ∧ trip.sl.v476 c i arg5 arg6 arg11 arg13 arg14 arg15 arg16 v0 v17 v20 v24 v25 X14 X5 X6 k = (st c i arg5 arg6 arg14 v0 v17 v20 v24 v25 X14 X5 X6 k 4).2.2 := by
  obtain ⟨hm, hl, ha⟩ := step3 c i arg5 arg6 arg11 arg12 arg13 arg14 arg15 arg16 v0 v17 v20 v24 v25 X14 X5 X6 k
  have hs := score3 c i arg5 arg14 arg16 X14 X5 k
  exact ⟨(View.readCov_cons_toLoadRect _ _ _ _).trans (glue_m _ _ hs hm), (View.readCov_cons_toLoadRect _ _ _ _).trans (glue_l _ _ hs hm hl), (View.readCov_cons_toLoadRect _ _ _ _).trans (glue_a _ _ _ hs hm ha)⟩

theorem step5 : trip.sl.v531 c i arg5 arg11 arg14 arg15 arg16 v0 v17 v20 v24 v25 X14 X5 k = (st c i arg5 arg6 arg14 v0 v17 v20 v24 v25 X14 X5 X6 k 5).1 ∧ trip.sl.v542 c i arg5 arg11 arg12 arg14 arg15 arg16 v0 v17 v20 v24 v25 X14 X5 k = (st c i arg5 arg6 arg14 v0 v17 v20 v24 v25 X14 X5 X6 k 5).2.1 ∧ trip.sl.v551 c i arg5 arg6 arg11 arg13 arg14 arg15 arg16 v0 v17 v20 v24 v25 X14 X5 X6 k = (st c i arg5 arg6 arg14 v0 v17 v20 v24 v25 X14 X5 X6 k 5).2.2 := by
  obtain ⟨hm, hl, ha⟩ := step4 c i arg5 arg6 arg11 arg12 arg13 arg14 arg15 arg16 v0 v17 v20 v24 v25 X14 X5 X6 k
  have hs := score4 c i arg5 arg14 arg15 X14 X5 k
  exact ⟨(View.readCov_cons_toLoadRect _ _ _ _).trans (glue_m _ _ hs hm), (View.readCov_cons_toLoadRect _ _ _ _).trans (glue_l _ _ hs hm hl), (View.readCov_cons_toLoadRect _ _ _ _).trans (glue_a _ _ _ hs hm ha)⟩

theorem step6 : trip.sl.v599 c i arg5 arg11 arg14 arg15 arg16 v0 v17 v20 v24 v25 X14 X5 k = (st c i arg5 arg6 arg14 v0 v17 v20 v24 v25 X14 X5 X6 k 6).1 ∧ trip.sl.v610 c i arg5 arg11 arg12 arg14 arg15 arg16 v0 v17 v20 v24 v25 X14 X5 k = (st c i arg5 arg6 arg14 v0 v17 v20 v24 v25 X14 X5 X6 k 6).2.1 ∧ trip.sl.v619 c i arg5 arg6 arg11 arg13 arg14 arg15 arg16 v0 v17 v20 v24 v25 X14 X5 X6 k = (st c i arg5 arg6 arg14 v0 v17 v20 v24 v25 X14 X5 X6 k 6).2.2 := by
  obtain ⟨hm, hl, ha⟩ := step5 c i arg5 arg6 arg11 arg12 arg13 arg14 arg15 arg16 v0 v17 v20 v24 v25 X14 X5 X6 k
  have hs := score5 c i arg5 arg14 arg16 X14 X5 k
  exact ⟨(View.readCov_cons_toLoadRect _ _ _ _).trans (glue_m _ _ hs hm), (View.readCov_cons_toLoadRect _ _ _ _).trans (glue_l _ _ hs hm hl), (View.readCov_cons_toLoadRect _ _ _ _).trans (glue_a _ _ _ hs hm ha)⟩

theorem step7 : trip.sl.v651 c i arg5 arg11 arg14 arg15 arg16 v0 v17 v20 v24 v25 X14 X5 k = (st c i arg5 arg6 arg14 v0 v17 v20 v24 v25 X14 X5 X6 k 7).1 ∧ trip.sl.v662 c i arg5 arg11 arg12 arg14 arg15 arg16 v0 v17 v20 v24 v25 X14 X5 k = (st c i arg5 arg6 arg14 v0 v17 v20 v24 v25 X14 X5 X6 k 7).2.1 ∧ trip.sl.v671 c i arg5 arg6 arg11 arg13 arg14 arg15 arg16 v0 v17 v20 v24 v25 X14 X5 X6 k = (st c i arg5 arg6 arg14 v0 v17 v20 v24 v25 X14 X5 X6 k 7).2.2 := by
  obtain ⟨hm, hl, ha⟩ := step6 c i arg5 arg6 arg11 arg12 arg13 arg14 arg15 arg16 v0 v17 v20 v24 v25 X14 X5 X6 k
  have hs := score6 c i arg5 arg14 arg15 X14 X5 k
  exact ⟨(View.readCov_cons_toLoadRect _ _ _ _).trans (glue_m _ _ hs hm), (View.readCov_cons_toLoadRect _ _ _ _).trans (glue_l _ _ hs hm hl), (View.readCov_cons_toLoadRect _ _ _ _).trans (glue_a _ _ _ hs hm ha)⟩

theorem step8 : trip.sl.v692 c i arg5 arg11 arg12 arg14 arg15 arg16 v0 v17 v20 v24 v25 X14 X5 k = (st c i arg5 arg6 arg14 v0 v17 v20 v24 v25 X14 X5 X6 k 8).2.1 ∧ trip.sl.v690 c i arg5 arg6 arg11 arg13 arg14 arg15 arg16 v0 v17 v20 v24 v25 X14 X5 X6 k = (st c i arg5 arg6 arg14 v0 v17 v20 v24 v25 X14 X5 X6 k 8).2.2 := by
  obtain ⟨hm, hl, ha⟩ := step7 c i arg5 arg6 arg11 arg12 arg13 arg14 arg15 arg16 v0 v17 v20 v24 v25 X14 X5 X6 k
  have hs := score7 c i arg5 arg14 arg16 X14 X5 k
  exact ⟨(View.readCov_cons_toLoadRect _ _ _ _).trans (glue_l _ _ hs hm hl), (View.readCov_cons_toLoadRect _ _ _ _).trans (glue_a _ _ _ hs hm ha)⟩
end

section
variable (c : Dev nD) (i : grid0.Coords) (arg2 : Memref sig .tc .smem S8 .f32) (harg2 : arg2.IsWhole) (arg3 : Memref sig .tc .smem S1 .f32) (harg3 : arg3.IsWhole) (arg4 : Memref sig .tc .vmem S512x256 .bf16) (harg4 : arg4.IsWhole) (arg5 : Memref sig .tc .vmem S1x2x16384x128 .bf16) (harg5 : arg5.IsWhole) (arg6 : Memref sig .tc .vmem S16384x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S4x128 .f32) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S2x512x256 .f32) (harg13 : arg13.IsWhole) (arg14 : Memref sig .tc .vmem S2x512x128 .bf16) (harg14 : arg14.IsWhole) (arg15 : Memref sig .tc .vmem S512x2048 .f32) (harg15 : arg15.IsWhole) (arg16 : Memref sig .tc .vmem S512x2048 .f32) (harg16 : arg16.IsWhole)
    (v0 v17 : BitVec 32) (v20 : F .f32) (v24 : FVec F S1x2048 .f32) (v25 : IVec S512x1 32) (v38 : FVec F S512x128 .bf16)
    (X14 : Buf (Elt F) (arg14.view.loc (c : Thread nD τ))) (X5 : Buf (Elt F) (arg5.view.loc (c : Thread nD τ))) (X6 : Buf (Elt F) (arg6.view.loc (c : Thread nD τ))) (k : Fin k0_t1_loop.trips)

/-- A map's attention is the accumulator after the eight chunks over the row sums. -/
theorem T_eq : T c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v17 v20 v24 v25 v38 X14 X5 X6 k
    = k0_pay99 (st c i arg5 arg6 arg14 v0 v17 v20 v24 v25 X14 X5 X6 k 8).2.2 (st c i arg5 arg6 arg14 v0 v17 v20 v24 v25 X14 X5 X6 k 8).2.1 := by
  obtain ⟨hl, ha⟩ := step8 c i arg5 arg6 arg11 arg12 arg13 arg14 arg15 arg16 v0 v17 v20 v24 v25 X14 X5 X6 k
  rw [← hl, ← ha]
  rfl
end

end Cert.Proof.KernelIdeal

end
-- ==== Proof.Sums.lean ====
/- Sums of powers of two and maxima of real numbers among the extended reals. -/
module

public import Idealize.ShloMosaic.Lib.Pipeline.ValueKit
public import Mathlib.Analysis.SpecialFunctions.Pow.Real

@[expose] public section
noncomputable section
open Idealize.ShloMosaic
theorem coe_max (a b : ℝ) : ((max a b : ℝ) : EReal) = max (a : EReal) b := EReal.coe_strictMono.monotone.map_max

theorem fold_max_coe {ι : Type} [Fintype ι] [Nonempty ι] (f : ι → ℝ) :
    ∃ M : ℝ, Finset.univ.fold max (⊥ : EReal) (fun k => ((f k : ℝ) : EReal)) = M := by
  classical
  have key : ∀ s : Finset ι, s.Nonempty → ∃ M : ℝ, s.fold max (⊥ : EReal) (fun k => ((f k : ℝ) : EReal)) = M := by
    intro s hs
    induction hs using Finset.Nonempty.cons_induction with
    | singleton a => exact ⟨f a, by simp⟩
    | cons a s ha hs ih =>
      obtain ⟨M, hM⟩ := ih
      exact ⟨max (f a) M, by rw [Finset.fold_cons, hM, coe_max]⟩
  exact key _ Finset.univ_nonempty

theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem exp2_at (a : ℝ) : Ideal.exp2 (a : EReal) = (((2 : ℝ) ^ a : ℝ) : EReal) := rfl

theorem two_pow_shift (a M M' : ℝ) : (2 : ℝ) ^ (M - M') * 2 ^ (a - M) = 2 ^ (a - M') := by
  rw [← Real.rpow_add two_pos]; congr 1; ring

/-- One step of the running sums, over the reals. -/
theorem shift_sum (y : ℕ → Fin 2048 → ℝ) (u : ℕ → Fin 2048 → ℝ) (n : ℕ) (M M' : ℝ) :
    (2 : ℝ) ^ (M - M') * (∑ j ∈ Finset.range n, ∑ k, 2 ^ (y j k - M) * u j k) + ∑ k, 2 ^ (y n k - M') * u n k
      = ∑ j ∈ Finset.range (n + 1), ∑ k, (2 : ℝ) ^ (y j k - M') * u j k := by
  rw [Finset.sum_range_succ, Finset.mul_sum]
  congr 1
  refine Finset.sum_congr rfl fun j _ => ?_
  rw [Finset.mul_sum]
  refine Finset.sum_congr rfl fun k _ => ?_
  rw [← mul_assoc, two_pow_shift]
end
-- ==== Proof.Online.lean ====
/- The chunked softmax at the extended reals: the fold of the step, read at a row. -/
module

public import proofs.«01_k».proof.Proof.Chain
public import proofs.«01_k».proof.Proof.Sums

@[expose] public section

set_option maxRecDepth 16384

noncomputable section

namespace Cert.Proof.KernelIdeal

open Cert.KernelIdeal Cert.KernelIdeal.Gen
open Idealize.ShloMosaic Idealize.ShloMosaic.TcCoe

theorem ofBits_bot : Ideal.ofBits .f32 0xFF800000#32 = ⊥ := by simp [Ideal.ofBits, Ideal.ieee]

theorem mS_at (c : FVec Ideal S512x1 .f32) (t : FVec Ideal S512x2048 .f32) (m : FVec Ideal S512x1 .f32) (r : Fin 512) :
    mS c t m (ix2 r 0) = max (m (ix2 r 0)) (Finset.univ.fold max ⊥ (fun k => t (ix2 r k)) + c (ix2 r 0)) := by
  pointwise [mS]
  rw [ofBits_bot]

theorem pS_at (c : FVec Ideal S512x1 .f32) (t : FVec Ideal S512x2048 .f32) (m : FVec Ideal S512x1 .f32) (r : Fin 512) (k : Fin 2048) :
    pS c t m (ix2 r k) = Ideal.exp2 (t (ix2 r k) - (mS c t m (ix2 r 0) - c (ix2 r 0))) := by
  pointwise [pS]
  rfl

theorem lS_at (c : FVec Ideal S512x1 .f32) (t : FVec Ideal S512x2048 .f32) (m l : FVec Ideal S512x1 .f32) (r : Fin 512) :
    lS c t m l (ix2 r 0) = Ideal.exp2 (m (ix2 r 0) - mS c t m (ix2 r 0)) * l (ix2 r 0) + ∑ k, pS c t m (ix2 r k) := by
  pointwise [lS]
  rfl

theorem aS_at (c : FVec Ideal S512x1 .f32) (t : FVec Ideal S512x2048 .f32) (m : FVec Ideal S512x1 .f32) (a : FVec Ideal S1x512x256 .f32)
    (v : FVec Ideal S2048x256 .bf16) (r : Fin 512) (d : Fin 256) :
    aS (F := Ideal) c t m a v (ix3 0 r d) = Ideal.exp2 (m (ix2 r 0) - mS c t m (ix2 r 0)) * a (ix3 0 r d) + ∑ k, pS c t m (ix2 r k) * v (ix2 k d) := by
  pointwise [aS]
  rfl

theorem start_m (r : Fin 512) : (k0_pay3 (F := Ideal)) (ix2 r 0) = ⊥ := by
  pointwise [k0_pay3]
  exact ofBits_bot
theorem start_l (r : Fin 512) : (k0_pay4 (F := Ideal)) (ix2 r 0) = 0 := by
  pointwise [k0_pay4]
theorem start_a (r : Fin 512) (d : Fin 256) : (k0_pay5 (F := Ideal)) (ix3 0 r d) = 0 := by
  pointwise [k0_pay5]

theorem pay99_at (a : FVec Ideal S1x512x256 .f32) (l : FVec Ideal S512x1 .f32) (r : Fin 512) (d : Fin 256) :
    k0_pay99 (F := Ideal) a l (ix3 0 r d) = a (ix3 0 r d) * Ideal.div 1 (l (ix2 r 0)) := by
  pointwise [k0_pay99]

variable (c : ℕ → FVec Ideal S512x1 .f32) (t : ℕ → FVec Ideal S512x2048 .f32) (v : ℕ → Vec Ideal S2048x256 .bf16)

/-- What the fold holds of row `r` and column `d` after `n` chunks: nothing yet, or a real maximum and the sums
    relative to it. -/
def Holds (r : Fin 512) (d : Fin 256) (y u : ℕ → Fin 2048 → ℝ) (n : ℕ) (s : FVec Ideal S512x1 .f32 × FVec Ideal S512x1 .f32 × FVec Ideal S1x512x256 .f32) : Prop :=
  (n = 0 ∧ s.1 (ix2 r 0) = ⊥ ∧ s.2.1 (ix2 r 0) = 0 ∧ s.2.2 (ix3 0 r d) = 0) ∨
  ∃ M : ℝ, s.1 (ix2 r 0) = M ∧ s.2.1 (ix2 r 0) = ((∑ j ∈ Finset.range n, ∑ k, (2 : ℝ) ^ (y j k - M) * 1 : ℝ) : EReal)
    ∧ s.2.2 (ix3 0 r d) = ((∑ j ∈ Finset.range n, ∑ k, (2 : ℝ) ^ (y j k - M) * u j k : ℝ) : EReal)

variable {c t v} in
theorem online (r : Fin 512) (d : Fin 256) (y u : ℕ → Fin 2048 → ℝ) (cr : ℕ → ℝ) (N : ℕ)
    (hc : ∀ n < N, c n (ix2 r 0) = ((cr n : ℝ) : EReal)) (ht : ∀ n < N, ∀ k, t n (ix2 r k) = ((y n k - cr n : ℝ) : EReal))
    (hv : ∀ n < N, ∀ k, (v n (ix2 k d) : EReal) = ((u n k : ℝ) : EReal)) :
    ∀ n ≤ N, Holds r d y u n (stG c t v n)
  | 0, _ => .inl ⟨rfl, start_m r, start_l r, start_a r d⟩
  | n + 1, hn => by
    have ih := online r d y u cr N hc ht hv n (by omega)
    have hn' : n < N := hn
    obtain ⟨M₁, hM₁⟩ := fold_max_coe (fun k => y n k - cr n)
    have hfold : Finset.univ.fold max ⊥ (fun k => t n (ix2 r k)) = (M₁ : EReal) := by
      rw [← hM₁]; exact congrArg (fun f => Finset.univ.fold max ⊥ f) (funext fun k => ht n hn' k)
    obtain ⟨M', hM'⟩ : ∃ M' : ℝ, mS (c n) (t n) (stG c t v n).1 (ix2 r 0) = M' := by
      rw [mS_at, hfold, hc n hn', ← EReal.coe_add]
      rcases ih with ⟨_, h, _⟩ | ⟨M, h, _⟩
      · exact ⟨M₁ + cr n, by rw [h]; exact max_eq_right bot_le⟩
      · exact ⟨max M (M₁ + cr n), by rw [h, coe_max]⟩
    have hp : ∀ k, pS (c n) (t n) (stG c t v n).1 (ix2 r k) = (((2 : ℝ) ^ (y n k - M') : ℝ) : EReal) := fun k => by
      rw [pS_at, hM', hc n hn', ht n hn' k, ← EReal.coe_sub, ← EReal.coe_sub, exp2_at, show y n k - cr n - (M' - cr n) = y n k - M' by ring]
    have hs1 : (∑ k, pS (c n) (t n) (stG c t v n).1 (ix2 r k)) = ((∑ k, (2 : ℝ) ^ (y n k - M') * 1 : ℝ) : EReal) := by
      rw [← coe_sum]; exact Finset.sum_congr rfl fun k _ => by rw [hp k, mul_one]
    have hs2 : (∑ k, pS (c n) (t n) (stG c t v n).1 (ix2 r k) * (v n (ix2 k d) : EReal)) = ((∑ k, (2 : ℝ) ^ (y n k - M') * u n k : ℝ) : EReal) := by
      rw [← coe_sum]; exact Finset.sum_congr rfl fun k _ => by rw [hp k, hv n hn' k, EReal.coe_mul]
    refine .inr ⟨M', hM', ?_, ?_⟩
    · show lS (c n) (t n) (stG c t v n).1 (stG c t v n).2.1 (ix2 r 0) = _
      rw [lS_at, hM', hs1]
      rcases ih with ⟨h0, _, hl, _⟩ | ⟨M, hm, hl, _⟩
      · rw [hl, mul_zero, zero_add]; subst h0; simp
      · rw [hl, hm, ← EReal.coe_sub, exp2_at, ← EReal.coe_mul, ← EReal.coe_add, shift_sum y (fun _ _ => 1)]
    · show aS (c n) (t n) (stG c t v n).1 (stG c t v n).2.2 (v n) (ix3 0 r d) = _
      rw [aS_at, hM', hs2]
      rcases ih with ⟨h0, _, _, ha⟩ | ⟨M, hm, _, ha⟩
      · rw [ha, mul_zero, zero_add]; subst h0; simp
      · rw [ha, hm, ← EReal.coe_sub, exp2_at, ← EReal.coe_mul, ← EReal.coe_add, shift_sum y u]

/-- The quotient of two sums of powers relative to a common number does not depend on it. -/
theorem quot_shift (y u : ℕ → Fin 2048 → ℝ) (n : ℕ) (M : ℝ) :
    (∑ j ∈ Finset.range n, ∑ k, (2 : ℝ) ^ (y j k - M) * u j k) * (1 / ∑ j ∈ Finset.range n, ∑ k, (2 : ℝ) ^ (y j k - M) * 1)
      = (∑ j ∈ Finset.range n, ∑ k, (2 : ℝ) ^ (y j k) * u j k) / ∑ j ∈ Finset.range n, ∑ k, (2 : ℝ) ^ (y j k) := by
  have h : ∀ w : ℕ → Fin 2048 → ℝ, (∑ j ∈ Finset.range n, ∑ k, (2 : ℝ) ^ (y j k - M) * w j k)
      = (2 : ℝ) ^ (-M) * ∑ j ∈ Finset.range n, ∑ k, (2 : ℝ) ^ (y j k) * w j k := fun w => by
    simp only [Finset.mul_sum]
    refine Finset.sum_congr rfl fun j _ => Finset.sum_congr rfl fun k _ => ?_
    rw [sub_eq_neg_add, Real.rpow_add two_pos, mul_assoc]
  rw [h u, h (fun _ _ => 1), mul_one_div, mul_div_mul_left _ _ (Real.rpow_pos_of_pos two_pos _).ne']
  simp only [mul_one]

variable {c t v} in
/-- The kept result of a map at row `r`, column `d`: the weighted mean of the values. -/
theorem online_quot (r : Fin 512) (d : Fin 256) (y u : ℕ → Fin 2048 → ℝ) (cr : ℕ → ℝ) (N : ℕ) (hN : 0 < N)
    (hc : ∀ n < N, c n (ix2 r 0) = ((cr n : ℝ) : EReal)) (ht : ∀ n < N, ∀ k, t n (ix2 r k) = ((y n k - cr n : ℝ) : EReal))
    (hv : ∀ n < N, ∀ k, (v n (ix2 k d) : EReal) = ((u n k : ℝ) : EReal)) :
    k0_pay99 (F := Ideal) (stG c t v N).2.2 (stG c t v N).2.1 (ix3 0 r d)
      = (((∑ j ∈ Finset.range N, ∑ k, (2 : ℝ) ^ (y j k) * u j k) / ∑ j ∈ Finset.range N, ∑ k, (2 : ℝ) ^ (y j k) : ℝ) : EReal) := by
  rcases online r d y u cr N hc ht hv N le_rfl with ⟨h0, _⟩ | ⟨M, _, hl, ha⟩
  · omega
  · have hpos : (0 : ℝ) < ∑ j ∈ Finset.range N, ∑ k : Fin 2048, (2 : ℝ) ^ (y j k - M) * 1 :=
      Finset.sum_pos (fun j _ => Finset.sum_pos (fun k _ => mul_pos (Real.rpow_pos_of_pos two_pos _) one_pos) Finset.univ_nonempty) ⟨0, by simpa using hN⟩
    rw [pay99_at, hl, ha, Ideal.div_coe hpos.ne', one_mul, ← EReal.coe_mul, quot_shift]

end Cert.Proof.KernelIdeal

end
-- ==== Proof.Chunks.lean ====
/- The chunks' biases and scores at an index. -/
module

public import proofs.«01_k».proof.Proof.Online

@[expose] public section

set_option maxRecDepth 16384

noncomputable section

namespace Cert.Proof.KernelIdeal

open Cert.KernelIdeal Cert.KernelIdeal.Gen
open Idealize.ShloMosaic Idealize.ShloMosaic.TcCoe

theorem cW_at (v0 v17 : BitVec 32) (v20 : Ideal .f32) (n : BitVec 32) (r : Fin 512) :
    cW (F := Ideal) v0 v17 v20 (iota .tc S512x1 32 [0] iota_S512x1_d0_w32) n (ix2 r 0)
      = ((0 : EReal) - sgnW (F := Ideal) v17 n) * v20 * (((BitVec.ofNat 32 r.val + (v0 - kiW v17 n * 2048#32)).toInt : ℝ) : EReal) := by
  pointwise [cW]
  rfl

theorem tW_at (v17 : BitVec 32) (v24 : FVec Ideal S1x2048 .f32) (n : BitVec 32) (s : FVec Ideal S512x2048 .f32) (r : Fin 512) (k : Fin 2048) :
    tW (F := Ideal) v17 v24 n s (ix2 r k) = s (ix2 r k) + sgnW (F := Ideal) v17 n * v24 (ix2 0 k) := by
  pointwise [tW]

theorem pay84_at (v0 v17 : BitVec 32) (v20 : Ideal .f32) (s : FVec Ideal S512x2048 .f32) (r : Fin 512) (k : Fin 2048) :
    k0_pay84 (F := Ideal) v0 v17 v20 (iota .tc S512x2048 32 [1] iota_S512x2048_d1_w32) (k0_pay83 (iota .tc S512x1 32 [0] iota_S512x1_d0_w32)) s (ix2 r k)
      = s (ix2 r k) - v20 * (((IntOp.absi (BitVec.ofNat 32 r.val - BitVec.ofNat 32 k.val + (v0 - v17 * 2048#32))).toInt : ℝ) : EReal) := by
  pointwise [k0_pay84, k0_pay83]
  rfl

theorem pay93_at (x : Ideal .f32) (k : Fin 2048) :
    k0_pay93 (F := Ideal) x (ix2 0 k) = (((BitVec.ofNat 32 k.val).toInt : ℝ) : EReal) * k0_pay92 (F := Ideal) x := by
  pointwise [k0_pay93]
  rfl

theorem score_at (q : FVec Ideal S512x128 .bf16) (kc : Vec Ideal S2048x128 .bf16) (r : Fin 512) (k : Fin 2048) :
    scoreOf (F := Ideal) q kc (ix2 r k) = ∑ d, q (ix2 r d) * (kc (ix2 k d) : EReal) := by
  pointwise [scoreOf]

/-- The chunk the diagonal lies in, and the `n`th chunk visited. -/
def kd (i : grid0.Coords) : ℕ := (i 1).val / 4
def ch (i : grid0.Coords) (n : ℕ) : ℕ := if n = 7 then kd i else n + if kd i ≤ n then 1 else 0

theorem off5_eq : ∀ t : Fin grid0.N, k0_off5 (grid0.coords t) = ![2048 * ch (grid0.coords t) 0, 0] :=
  by decide +kernel
theorem off6_eq : ∀ (t : Fin grid0.N) (a : Fin 3) (b : Fin 2), k0_off6 (grid0.coords t) (BitVec.ofNat 32 a.val) (BitVec.ofNat 32 (1 + b.val)) = ![2048 * ch (grid0.coords t) (2 * a.val + 1 + b.val), 0] :=
  by decide +kernel
theorem off7_eq : ∀ (t : Fin grid0.N) (a : Fin 3), k0_off7 (grid0.coords t) (BitVec.ofNat 32 a.val) = ![2048 * ch (grid0.coords t) (2 * a.val), 0] :=
  by decide +kernel
theorem off8_eq : ∀ (t : Fin grid0.N) (a : Fin 3), k0_off8 (grid0.coords t) (BitVec.ofNat 32 a.val) = ![2048 * ch (grid0.coords t) (2 * a.val + 1), 0] :=
  by decide +kernel
theorem off9_eq : ∀ t : Fin grid0.N, k0_off9 (grid0.coords t) = ![2048 * ch (grid0.coords t) 7, 0] :=
  by decide +kernel
theorem off10_eq : ∀ t : Fin grid0.N, k0_off10 (grid0.coords t) = ![2048 * ch (grid0.coords t) 6, 0] :=
  by decide +kernel
theorem off11_eq : ∀ t : Fin grid0.N, k0_off11 (grid0.coords t) = ![2048 * ch (grid0.coords t) 7, 0] :=
  by decide +kernel
theorem ch_lt : ∀ (t : Fin grid0.N) (n : Fin 8), ch (grid0.coords t) n.val < 8 :=
  by decide +kernel
theorem words : ∀ (t : Fin grid0.N) (n : Fin 7),
    (v0W (grid0.coords t) - kiW (kdW (grid0.coords t)) (BitVec.ofNat 32 n.val) * 2048#32).toInt = 512 * ((grid0.coords t 1).val : ℤ) - 2048 * (ch (grid0.coords t) n.val : ℤ)
    ∧ Scalar.cmpi .slt (kiW (kdW (grid0.coords t)) (BitVec.ofNat 32 n.val)) (kdW (grid0.coords t)) = BitVec.ofBool (decide (ch (grid0.coords t) n.val < kd (grid0.coords t))) :=
  by decide +kernel
theorem words_diag : ∀ t : Fin grid0.N,
    (v0W (grid0.coords t) - kdW (grid0.coords t) * 2048#32).toInt = 512 * ((grid0.coords t 1).val : ℤ) - 2048 * (ch (grid0.coords t) 7 : ℤ) :=
  by decide +kernel

theorem toInt_small (r : ℕ) (hr : r < 20000) : (BitVec.ofNat 32 r).toInt = r := by
  rw [BitVec.toInt_ofNat', Int.bmod_def]; omega
theorem toInt_add_small (a b : BitVec 32) (x y : ℤ) (ha : a.toInt = x) (hb : b.toInt = y) (h : |x + y| < 100000) : (a + b).toInt = x + y := by
  rw [abs_lt] at h
  rw [BitVec.toInt_add, ha, hb, Int.bmod_def]; omega
theorem toInt_sub_small (a b : BitVec 32) (x y : ℤ) (ha : a.toInt = x) (hb : b.toInt = y) (h : |x - y| < 100000) : (a - b).toInt = x - y := by
  rw [abs_lt] at h
  rw [BitVec.toInt_sub, ha, hb, Int.bmod_def]; omega
theorem toInt_absi (a : BitVec 32) (x : ℤ) (ha : a.toInt = x) (h : |x| < 100000) : (IntOp.absi a).toInt = |x| := by
  rw [abs_lt] at h
  unfold IntOp.absi
  rw [BitVec.msb_eq_toInt, ha]
  split_ifs with h0
  · rw [decide_eq_true_eq] at h0
    rw [BitVec.toInt_neg, ha, abs_of_neg h0, Int.bmod_def]; omega
  · rw [decide_eq_true_eq, not_lt] at h0
    rw [ha, abs_of_nonneg h0]

end Cert.Proof.KernelIdeal

end
-- ==== Proof.Operands.lean ====
/- The body's loads at an index of the blocks it is given. -/
module

public import proofs.«01_k».proof.Proof.Chunks
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe

theorem off4_eq : ∀ j : Fin k0_t1_loop.trips, k0_off4 j = ![0, j.val, 0, 0] := by decide +kernel
theorem off2_eq : ∀ j : Fin k0_t1_loop.trips, k0_off2 j = ![j.val, 0, 0] := by decide +kernel

theorem rows_idx {C P : ℕ} {R : ℕ} (n : ℕ) {off : Fin 2 → ℕ} (ho : off = ![n, 0]) (inb : ∀ a, off a + (⟨2, ![C, P]⟩ : Shape).size a ≤ (⟨2, ![R, P]⟩ : Shape).size a)
    (k : Fin C) (d : Fin P) (hk : n + k.val < R) :
    (Rect.unit (s := ⟨2, ![R, P]⟩) off (⟨2, ![C, P]⟩ : Shape).size inb).toLoadRect.idx (ix2 k d) = ix2 ⟨n + k.val, hk⟩ d := by
  subst ho
  funext a
  fin_cases a
  · exact Fin.ext (by show n + 1 * k.val = n + k.val; omega)
  · exact Fin.ext (by show 0 + 1 * d.val = d.val; omega)

theorem squeeze_idx (a : Fin 16384) (d : Fin 128) :
    Shape.reshapeEquiv squeezes_S1x1x16384x128_S16384x128.numel_eq (ix2 a d : S16384x128.Idx) = (ix4 0 0 a d : S1x1x16384x128.Idx) := by
  pointwise []

theorem slab_idx (j : Fin k0_t1_loop.trips) (hj : j.val < 2) (inb : ∀ a, k0_off4 j a + S1x1x16384x128.size a ≤ S1x2x16384x128.size a) (a : Fin 16384) (d : Fin 128) :
    (Rect.unit (s := S1x2x16384x128) (k0_off4 j) S1x1x16384x128.size inb).toLoadRect.idx (ix4 0 0 a d) = (ix4 0 ⟨j.val, hj⟩ a d : S1x2x16384x128.Idx) := by
  have h : ∀ b, k0_off4 j b = (![0, j.val, 0, 0] : Fin 4 → ℕ) b := fun b => congrFun (off4_eq j) b
  funext b
  fin_cases b
  · exact Fin.ext (by show k0_off4 j 0 + 1 * 0 = 0; rw [h]; rfl)
  · exact Fin.ext (by show k0_off4 j 1 + 1 * 0 = j.val; rw [h]; rfl)
  · exact Fin.ext (by show k0_off4 j 2 + 1 * a.val = a.val; rw [h]; show 0 + 1 * a.val = a.val; omega)
  · exact Fin.ext (by show k0_off4 j 3 + 1 * d.val = d.val; rw [h]; show 0 + 1 * d.val = d.val; omega)

section
variable (arg5 : Memref sig .tc .vmem S1x2x16384x128 .bf16) (harg5 : arg5.IsWhole) (arg6 : Memref sig .tc .vmem S16384x256 .bf16) (harg6 : arg6.IsWhole)
  (x3 : Vec Ideal S1x2x16384x128 .bf16) (x4 : Vec Ideal S16384x256 .bf16)

theorem key_read (j : Fin k0_t1_loop.trips) (hj : j.val < 2) (n : ℕ) {off : Fin 2 → ℕ} (ho : off = ![n, 0])
    (inb : ∀ a, off a + S2048x128.size a ≤ S16384x128.size a) (k : Fin 2048) (d : Fin 128) (hk : n + k.val < 16384) :
    View.readAt (Elt Ideal) ((arg5.slice (Rect.unit (s := S1x2x16384x128) (k0_off4 j) S1x1x16384x128.size (k0_off4_inb j)) (fun _ => rfl)).squeeze S16384x128 squeezes_S1x1x16384x128_S16384x128).view
      (Rect.unit (s := S16384x128) off S2048x128.size inb).toLoadRect (harg5.unread x3) (ix2 k d) = x3 (ix4 0 ⟨j.val, hj⟩ ⟨n + k.val, hk⟩ d) := by
  show arg5.view.read (Elt Ideal) (harg5.unread x3) ((Rect.unit (s := S1x2x16384x128) (k0_off4 j) S1x1x16384x128.size (k0_off4_inb j)).toLoadRect.idx
    (Shape.reshapeEquiv squeezes_S1x1x16384x128_S16384x128.numel_eq ((Rect.unit (s := S16384x128) off S2048x128.size inb).toLoadRect.idx (ix2 k d)))) = _
  rw [rows_idx n ho inb k d hk, squeeze_idx, slab_idx j hj, harg5.read_unread]

theorem val_read (n : ℕ) {off : Fin 2 → ℕ} (ho : off = ![n, 0])
    (inb : ∀ a, off a + S2048x256.size a ≤ S16384x256.size a) (k : Fin 2048) (d : Fin 256) (hk : n + k.val < 16384) :
    View.readAt (Elt Ideal) arg6.view (Rect.unit (s := S16384x256) off S2048x256.size inb).toLoadRect (harg6.unread x4) (ix2 k d) = x4 (ix2 ⟨n + k.val, hk⟩ d) := by
  rw [View.readAt_apply, rows_idx n ho inb k d hk, harg6.read_unread]
end

/-- The scale of the queries and the slope, at the extended reals. -/
def qs : ℝ := (Real.sqrt 128)⁻¹ * (Real.log 2)⁻¹

theorem qscale_eq : Named.named (F := Ideal) (φ := .f32) κ "qscale" 0x3E0293EE#32 = ((qs : ℝ) : EReal) :=
  IdealRules.named_const.ideal_named_scalar _ _ _ _ rfl
theorem log2e_eq : Named.named (F := Ideal) (φ := .f32) κ "log2e" 0x3FB8AA3B#32 = (((Real.log 2)⁻¹ : ℝ) : EReal) :=
  IdealRules.named_const.ideal_named_scalar _ _ _ _ rfl

theorem pay92_eq (x : Ideal .f32) : k0_pay92 (F := Ideal) x = x * (((Real.log 2)⁻¹ : ℝ) : EReal) := by
  show x * Named.named (F := Ideal) (φ := .f32) κ "log2e" 0x3FB8AA3B#32 = _
  rw [log2e_eq]

theorem pay94_at (w : Vec Ideal S512x128 .bf16) (r : Fin 512) (d : Fin 128) :
    k0_pay94 (F := Ideal) w (ix3 0 r d) = (w (ix2 r d) : EReal) * ((qs : ℝ) : EReal) := by
  rw [← qscale_eq]
  pointwise [k0_pay94]

theorem pay96_at (w : Vec Ideal S512x128 .bf16) (r : Fin 512) (d : Fin 128) :
    k0_pay96 (F := Ideal) (k0_pay95 w) (ix3 0 r d) = (w (ix2 r d) : EReal) * ((qs : ℝ) : EReal) := by
  rw [← qscale_eq]
  pointwise [k0_pay96, k0_pay95]

theorem pay2_at (w : Vec Ideal S1x512x128 .bf16) (r : Fin 512) (d : Fin 128) :
    k0_pay2 (F := Ideal) w (ix2 r d) = w (ix3 0 r d) := by
  pointwise [k0_pay2]

theorem cols_idx (n : ℕ) (inb : ∀ a, (![0, n] : Fin 2 → ℕ) a + S512x128.size a ≤ S512x256.size a) (r : Fin 512) (d : Fin 128) (hd : n + d.val < 256) :
    (Rect.unit (s := S512x256) ![0, n] S512x128.size inb).toLoadRect.idx (ix2 r d) = (ix2 r ⟨n + d.val, hd⟩ : S512x256.Idx) := by
  funext a
  fin_cases a
  · exact Fin.ext (by show 0 + 1 * r.val = r.val; omega)
  · exact Fin.ext (by show n + 1 * d.val = n + d.val; omega)

theorem scratch_idx (j : Fin k0_t1_loop.trips) (hj : j.val < 2) (inb : ∀ a, k0_off2 j a + S1x512x128.size a ≤ S2x512x128.size a) (r : Fin 512) (d : Fin 128) :
    (Rect.unit (s := S2x512x128) (k0_off2 j) S1x512x128.size inb).toLoadRect.idx (ix3 0 r d) = (ix3 ⟨j.val, hj⟩ r d : S2x512x128.Idx) := by
  have h : ∀ b, k0_off2 j b = (![j.val, 0, 0] : Fin 3 → ℕ) b := fun b => congrFun (off2_eq j) b
  funext b
  fin_cases b
  · exact Fin.ext (by show k0_off2 j 0 + 1 * 0 = j.val; rw [h]; rfl)
  · exact Fin.ext (by show k0_off2 j 1 + 1 * r.val = r.val; rw [h]; show 0 + 1 * r.val = r.val; omega)
  · exact Fin.ext (by show k0_off2 j 2 + 1 * d.val = d.val; rw [h]; show 0 + 1 * d.val = d.val; omega)

theorem slab0_emb (r : Fin 512) (d : Fin 128) :
    (Rect.unit (s := S2x512x128) ![0, 0, 0] S1x512x128.size inb_S2x512x128_S1x512x128_0_0_0).emb (ix3 0 r d) = (ix3 0 r d : S2x512x128.Idx) := by
  funext b
  fin_cases b
  · exact Fin.ext rfl
  · exact Fin.ext (by show 0 + 1 * r.val = r.val; omega)
  · exact Fin.ext (by show 0 + 1 * d.val = d.val; omega)
theorem slab1_emb (r : Fin 512) (d : Fin 128) :
    (Rect.unit (s := S2x512x128) ![1, 0, 0] S1x512x128.size inb_S2x512x128_S1x512x128_1_0_0).emb (ix3 0 r d) = (ix3 1 r d : S2x512x128.Idx) := by
  funext b
  fin_cases b
  · exact Fin.ext rfl
  · exact Fin.ext (by show 0 + 1 * r.val = r.val; omega)
  · exact Fin.ext (by show 0 + 1 * d.val = d.val; omega)

section
variable (c : Dev nD) (i : grid0.Coords) (arg2 : Memref sig .tc .smem S8 .f32) (harg2 : arg2.IsWhole) (arg4 : Memref sig .tc .vmem S512x256 .bf16) (harg4 : arg4.IsWhole) (arg14 : Memref sig .tc .vmem S2x512x128 .bf16)
  (x0 : Vec Ideal S8 .f32) (x2 : Vec Ideal S512x256 .bf16)

/-- The queries of map `j` in the scratch. -/
theorem query_read (j : Fin k0_t1_loop.trips) (hj : j.val < 2) (r : Fin 512) (d : Fin 128) :
    trip.sl.r c arg14 (arg14.view.writes (Elt Ideal) arg14.view.junk (qsL arg4 harg4 x2)) j (ix2 r d)
      = (x2 (ix2 r ⟨128 * j.val + d.val, by omega⟩) : EReal) * ((qs : ℝ) : EReal) := by
  show k0_pay2 (View.readAt (Elt Ideal) arg14.view (Rect.unit (s := S2x512x128) (k0_off2 j) S1x512x128.size (k0_off2_inb j)).toLoadRect _) (ix2 r d) = _
  rw [pay2_at, View.readAt_apply, scratch_idx j hj]
  obtain ⟨j, hj'⟩ := j
  have hj2 : j = 0 ∨ j = 1 := by simp only at hj; omega
  rcases hj2 with rfl | rfl
  · show arg14.view.read (Elt Ideal) (arg14.view.writes (Elt Ideal) arg14.view.junk (qsL arg4 harg4 x2)) (ix3 0 r d) = _
    unfold qsL
    rw [View.read_writes_cons_unit_of_not_mem (v := arg14.view) _ _ _ _ (ix3 0 r d : S2x512x128.Idx) rfl 0 (.inl Nat.zero_lt_one), ← slab0_emb, View.read_writes_cons_emb, pay94_at, View.readAt_apply, cols_idx 0 _ r d (by omega), harg4.read_unread]
    rfl
  · show arg14.view.read (Elt Ideal) (arg14.view.writes (Elt Ideal) arg14.view.junk (qsL arg4 harg4 x2)) (ix3 1 r d) = _
    unfold qsL q1W
    rw [← slab1_emb, View.read_writes_cons_emb, pay96_at, View.readAt_apply, cols_idx 128 _ r d (by omega), harg4.read_unread]
    rfl

theorem slope_read : slopeW i arg2 harg2 x0 = x0 (ix1 (i 0)) := by
  unfold slopeW
  rw [View.readAt_apply, harg2.read_unread]
  congr 1
  funext b
  fin_cases b
  refine Fin.ext ?_
  show k0_off1 i 0 + 1 * 0 = (i 0).val
  have h : ∀ x : Fin 8, (Scalar.indexCast (BitVec.ofNat 32 x.val)).toNat + 1 * 0 = x.val := by decide +kernel
  exact h (i 0)
end

end Cert.Proof.KernelIdeal

end
-- ==== Proof.MapValue.lean ====
/- A map's normalised attention at real operands. -/
module

public import proofs.«01_k».proof.Proof.Operands

@[expose] public section

set_option maxRecDepth 16384

noncomputable section

namespace Cert.Proof.KernelIdeal

open Cert.KernelIdeal Cert.KernelIdeal.Gen
open Idealize.ShloMosaic Idealize.ShloMosaic.TcCoe

/-- The position of key `k` of the chunk visited `n`th. -/
def key (i : grid0.Coords) (n : ℕ) (k : Fin 2048) : Fin 16384 := Fin.ofNat 16384 (2048 * ch i n + k.val)

theorem key_val (t : Fin grid0.N) (n : ℕ) (hn : n < 8) (k : Fin 2048) : (key (grid0.coords t) n k).val = 2048 * ch (grid0.coords t) n + k.val := by
  have := ch_lt t ⟨n, hn⟩
  exact Nat.mod_eq_of_lt (by simp only at this; omega)

theorem key_eq (t : Fin grid0.N) (n : ℕ) (hn : n < 8) (k : Fin 2048) (h : 2048 * ch (grid0.coords t) n + k.val < 16384) :
    (⟨2048 * ch (grid0.coords t) n + k.val, h⟩ : Fin 16384) = key (grid0.coords t) n k := Fin.ext (key_val t n hn k).symm

theorem ch_bij (t : Fin grid0.N) : Function.Bijective (fun n : Fin 8 => (⟨ch (grid0.coords t) n.val, ch_lt t n⟩ : Fin 8)) :=
  Finite.injective_iff_bijective.mp (by
    have h : ∀ t : Fin grid0.N, ∀ a b : Fin 8, ch (grid0.coords t) a.val = ch (grid0.coords t) b.val → a = b := by decide +kernel
    exact fun a b hab => h t a b (Fin.mk.inj hab))

/-- The chunks are visited once each: a sum over the chunks and their keys is the sum over the keys. -/
theorem sum_keys (t : Fin grid0.N) (f : Fin 16384 → ℝ) : (∑ n ∈ Finset.range 8, ∑ k, f (key (grid0.coords t) n k)) = ∑ κ, f κ := by
  have h1 : ∀ n : Fin 8, (∑ k, f (key (grid0.coords t) n.val k)) = (fun a : Fin 8 => ∑ k : Fin 2048, f (finProdFinEquiv (a, k))) ⟨ch (grid0.coords t) n.val, ch_lt t n⟩ := fun n =>
    Finset.sum_congr rfl fun k _ => congrArg f (Fin.ext (by
      rw [key_val t n.val n.isLt, finProdFinEquiv_apply_val]; show _ = k.val + 2048 * ch (grid0.coords t) n.val; omega))
  rw [Finset.sum_range, Finset.sum_congr rfl fun n _ => h1 n,
    (ch_bij t).sum_comp (fun a : Fin 8 => ∑ k : Fin 2048, f (finProdFinEquiv (a, k))), ← Fintype.sum_prod_type']
  exact (finProdFinEquiv (m := 8) (n := 2048)).sum_comp f

/-- A score: the scaled product of a query and a key less the slope times their distance. -/
def score (q : Fin 128 → ℝ) (kk : Fin 16384 → Fin 128 → ℝ) (sl : ℝ) (R : ℕ) (κ : Fin 16384) : ℝ :=
  (∑ d, q d * kk κ d) * (Real.sqrt 128)⁻¹ - sl * |(R : ℝ) - (κ.val : ℝ)|

/-- The softmax-weighted mean of the values. -/
def attend (s : Fin 16384 → ℝ) (v : Fin 16384 → ℝ) : ℝ := (∑ κ, Real.exp (s κ) * v κ) / ∑ κ, Real.exp (s κ)

theorem two_pow_log (s : ℝ) : (2 : ℝ) ^ (s * (Real.log 2)⁻¹) = Real.exp s := by
  rw [Real.rpow_def_of_pos two_pos]
  congr 1
  have : Real.log 2 ≠ 0 := (Real.log_pos one_lt_two).ne'
  field_simp

/-- The side of the diagonal, as a number. -/
def sg (i : grid0.Coords) (n : ℕ) : ℝ := if ch i n < kd i then 1 else -1

theorem ofBits_neg_one : Ideal.ofBits .f32 0xBF800000#32 = -1 := IdealRules.sign_bit.ideal_negOnePat .f32

theorem sgn_eq (t : Fin grid0.N) (n : Fin 7) :
    sgnW (F := Ideal) (kdW (grid0.coords t)) (BitVec.ofNat 32 n.val) = ((sg (grid0.coords t) n.val : ℝ) : EReal) := by
  unfold sgnW sg
  rw [(words t n).2]
  by_cases h : ch (grid0.coords t) n.val < kd (grid0.coords t)
  · rw [if_pos h, decide_eq_true h]
    show Ideal.ofBits .f32 0x3F800000#32 = _
    rw [Ideal.ofBits_one_f32]; rfl
  · rw [if_neg h, decide_eq_false h]
    show Ideal.ofBits .f32 0xBF800000#32 = _
    rw [ofBits_neg_one]; rfl

/-- What a row adds on the chunk visited `n`th. -/
def crow (i : grid0.Coords) (sl : ℝ) (r : Fin 512) (n : ℕ) : ℝ :=
  if n = 7 then 0 else (0 - sg i n) * (sl * (Real.log 2)⁻¹) * ((r.val : ℝ) + (512 * ((i 1).val : ℝ) - 2048 * (ch i n : ℝ)))

/-- Off the diagonal the distance is signed. -/
theorem off_diag (t : Fin grid0.N) (n : ℕ) (hn : n < 7) (r : Fin 512) (k : Fin 2048) :
    |((512 * (grid0.coords t 1).val + r.val : ℕ) : ℝ) - ((key (grid0.coords t) n k).val : ℝ)|
      = sg (grid0.coords t) n * ((512 * ((grid0.coords t 1).val : ℝ) + r.val) - (2048 * (ch (grid0.coords t) n : ℝ) + k.val)) := by
  rw [key_val t n (by omega)]
  have hch : ch (grid0.coords t) n = n + if kd (grid0.coords t) ≤ n then 1 else 0 := if_neg (by omega)
  have hk : kd (grid0.coords t) = (grid0.coords t 1).val / 4 := rfl
  have hr := r.isLt
  have hkk := k.isLt
  unfold sg
  push_cast
  by_cases h : ch (grid0.coords t) n < kd (grid0.coords t)
  · rw [if_pos h, one_mul]
    have hle : 2048 * ch (grid0.coords t) n + k.val ≤ 512 * (grid0.coords t 1).val + r.val := by omega
    refine abs_of_nonneg ?_
    have : ((2048 * ch (grid0.coords t) n + k.val : ℕ) : ℝ) ≤ ((512 * (grid0.coords t 1).val + r.val : ℕ) : ℝ) := by exact_mod_cast hle
    push_cast at this
    linarith
  · rw [if_neg h, neg_one_mul]
    have hle : 512 * (grid0.coords t 1).val + r.val ≤ 2048 * ch (grid0.coords t) n + k.val := by
      split_ifs at hch <;> omega
    refine abs_of_nonpos ?_
    have : ((512 * (grid0.coords t 1).val + r.val : ℕ) : ℝ) ≤ ((2048 * ch (grid0.coords t) n + k.val : ℕ) : ℝ) := by exact_mod_cast hle
    push_cast at this
    linarith

variable (c : Dev nD) (arg2 : Memref sig .tc .smem S8 .f32) (harg2 : arg2.IsWhole) (arg3 : Memref sig .tc .smem S1 .f32) (harg3 : arg3.IsWhole) (arg4 : Memref sig .tc .vmem S512x256 .bf16) (harg4 : arg4.IsWhole) (arg5 : Memref sig .tc .vmem S1x2x16384x128 .bf16) (harg5 : arg5.IsWhole) (arg6 : Memref sig .tc .vmem S16384x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S4x128 .f32) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S2x512x256 .f32) (harg13 : arg13.IsWhole) (arg14 : Memref sig .tc .vmem S2x512x128 .bf16) (harg14 : arg14.IsWhole) (arg15 : Memref sig .tc .vmem S512x2048 .f32) (harg15 : arg15.IsWhole) (arg16 : Memref sig .tc .vmem S512x2048 .f32) (harg16 : arg16.IsWhole)
  (x0 : Vec Ideal S8 .f32) (x2 : Vec Ideal S512x256 .bf16) (x3 : Vec Ideal S1x2x16384x128 .bf16) (x4 : Vec Ideal S16384x256 .bf16)

theorem map_at (t : Fin grid0.N) (j : Fin k0_t1_loop.trips) (hj : j.val < 2) (r : Fin 512) (d : Fin 256)
    (sl : ℝ) (q : Fin 128 → ℝ) (kk : Fin 16384 → Fin 128 → ℝ) (v : Fin 16384 → ℝ)
    (h0 : x0 (ix1 (grid0.coords t 0)) = ((sl : ℝ) : EReal))
    (h2 : ∀ e : Fin 128, (x2 (ix2 r ⟨128 * j.val + e.val, by omega⟩) : EReal) = ((q e : ℝ) : EReal))
    (h3 : ∀ κ e, (x3 (ix4 0 ⟨j.val, hj⟩ κ e) : EReal) = ((kk κ e : ℝ) : EReal))
    (h4 : ∀ κ, (x4 (ix2 κ d) : EReal) = ((v κ : ℝ) : EReal)) :
    mapV (F := Ideal) c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 j (ix3 0 r d)
      = ((attend (score q kk sl (512 * (grid0.coords t 1).val + r.val)) v : ℝ) : EReal) := by
  have hsl : k0_pay92 (F := Ideal) (slopeW (grid0.coords t) arg2 harg2 x0) = ((sl * (Real.log 2)⁻¹ : ℝ) : EReal) := by
    rw [pay92_eq, slope_read, h0, EReal.coe_mul]
  unfold mapV
  rw [T_eq]
  unfold st
  have hS : ∀ n < 8, ∀ k, sN (F := Ideal) c (grid0.coords t) arg5 arg14 (arg14.view.writes (Elt Ideal) arg14.view.junk (qsL arg4 harg4 x2)) (harg5.unread x3) j n (ix2 r k)
      = (((∑ e, q e * kk (key (grid0.coords t) n k) e) * qs : ℝ) : EReal) := fun n hn k => by
    have hK : ∀ e, (kN (F := Ideal) c (grid0.coords t) arg5 (harg5.unread x3) j n (ix2 k e) : EReal) = ((kk (key (grid0.coords t) n k) e : ℝ) : EReal) := fun e => by
      rw [← h3]
      have hb : 2048 * ch (grid0.coords t) n + k.val < 16384 := by rw [← key_val t n hn k]; exact (key (grid0.coords t) n k).isLt
      rw [← key_eq t n hn k hb]
      match n, hn, hb with
      | 0, _, hb => exact key_read arg5 harg5 x3 j hj _ (off5_eq t) _ k e hb
      | 1, _, hb => exact key_read arg5 harg5 x3 j hj _ (off6_eq t 0 0) _ k e hb
      | 2, _, hb => exact key_read arg5 harg5 x3 j hj _ (off6_eq t 0 1) _ k e hb
      | 3, _, hb => exact key_read arg5 harg5 x3 j hj _ (off6_eq t 1 0) _ k e hb
      | 4, _, hb => exact key_read arg5 harg5 x3 j hj _ (off6_eq t 1 1) _ k e hb
      | 5, _, hb => exact key_read arg5 harg5 x3 j hj _ (off6_eq t 2 0) _ k e hb
      | 6, _, hb => exact key_read arg5 harg5 x3 j hj _ (off6_eq t 2 1) _ k e hb
      | 7, _, hb => exact key_read arg5 harg5 x3 j hj _ (off9_eq t) _ k e hb
    unfold sN
    rw [score_at, Finset.sum_mul, ← coe_sum]
    refine Finset.sum_congr rfl fun e _ => ?_
    rw [query_read c arg4 harg4 arg14 x2 j hj, h2, hK, ← EReal.coe_mul, ← EReal.coe_mul]
    congr 1; ring
  have hV : ∀ n < 8, ∀ k, (vN (F := Ideal) c (grid0.coords t) arg6 (harg6.unread x4) n (ix2 k d) : EReal) = ((v (key (grid0.coords t) n k) : ℝ) : EReal) := fun n hn k => by
    rw [← h4]
    have hb : 2048 * ch (grid0.coords t) n + k.val < 16384 := by rw [← key_val t n hn k]; exact (key (grid0.coords t) n k).isLt
    rw [← key_eq t n hn k hb]
    match n, hn, hb with
    | 0, _, hb => exact val_read arg6 harg6 x4 _ (off7_eq t 0) _ k d hb
    | 1, _, hb => exact val_read arg6 harg6 x4 _ (off8_eq t 0) _ k d hb
    | 2, _, hb => exact val_read arg6 harg6 x4 _ (off7_eq t 1) _ k d hb
    | 3, _, hb => exact val_read arg6 harg6 x4 _ (off8_eq t 1) _ k d hb
    | 4, _, hb => exact val_read arg6 harg6 x4 _ (off7_eq t 2) _ k d hb
    | 5, _, hb => exact val_read arg6 harg6 x4 _ (off8_eq t 2) _ k d hb
    | 6, _, hb => exact val_read arg6 harg6 x4 _ (off10_eq t) _ k d hb
    | 7, _, hb => exact val_read arg6 harg6 x4 _ (off11_eq t) _ k d hb
  have hi1 : (grid0.coords t 1).val < 32 := (grid0.coords t 1).isLt
  have hC : ∀ n < 8, cN (F := Ideal) (v0W (grid0.coords t)) (kdW (grid0.coords t)) (k0_pay92 (slopeW (grid0.coords t) arg2 harg2 x0)) (iota .tc S512x1 32 [0] iota_S512x1_d0_w32) n (ix2 r 0)
      = ((crow (grid0.coords t) sl r n : ℝ) : EReal) := fun n hn => by
    by_cases h7 : n = 7
    · subst h7
      show Ideal.ofBits .f32 0x00000000#32 = _
      rw [Ideal.ofBits_zero_f32]; rfl
    · have hch := ch_lt t ⟨n, hn⟩
      have hc : cN (F := Ideal) (v0W (grid0.coords t)) (kdW (grid0.coords t)) (k0_pay92 (slopeW (grid0.coords t) arg2 harg2 x0)) (iota .tc S512x1 32 [0] iota_S512x1_d0_w32) n
          = cW (v0W (grid0.coords t)) (kdW (grid0.coords t)) (k0_pay92 (slopeW (grid0.coords t) arg2 harg2 x0)) (iota .tc S512x1 32 [0] iota_S512x1_d0_w32) (BitVec.ofNat 32 n) := by
        unfold cN; split <;> first | (exact absurd rfl h7) | rfl
      rw [hc, cW_at, hsl, sgn_eq t ⟨n, by omega⟩,
        toInt_add_small _ _ _ _ (toInt_small r.val (by omega)) (words t ⟨n, by omega⟩).1 (by rw [abs_lt]; simp only at hch ⊢; omega)]
      unfold crow
      rw [if_neg h7, ← EReal.coe_zero, ← EReal.coe_sub, ← EReal.coe_mul, ← EReal.coe_mul]
      push_cast
      rfl
  have hT : ∀ n < 8, ∀ k, tN (F := Ideal) (v0W (grid0.coords t)) (kdW (grid0.coords t)) (k0_pay92 (slopeW (grid0.coords t) arg2 harg2 x0)) (k0_pay93 (slopeW (grid0.coords t) arg2 harg2 x0)) (iota .tc S512x1 32 [0] iota_S512x1_d0_w32)
      (sN (F := Ideal) c (grid0.coords t) arg5 arg14 (arg14.view.writes (Elt Ideal) arg14.view.junk (qsL arg4 harg4 x2)) (harg5.unread x3) j n) n (ix2 r k)
      = ((score q kk sl (512 * (grid0.coords t 1).val + r.val) (key (grid0.coords t) n k) * (Real.log 2)⁻¹ - crow (grid0.coords t) sl r n : ℝ) : EReal) := fun n hn k => by
    have hch := ch_lt t ⟨n, hn⟩
    by_cases h7 : n = 7
    · subst h7
      show k0_pay84 (F := Ideal) _ _ _ _ _ _ (ix2 r k) = _
      rw [pay84_at, hS 7 hn k, hsl,
        toInt_absi _ _ (toInt_add_small _ _ _ _ (toInt_sub_small _ _ _ _ (toInt_small r.val (by omega)) (toInt_small k.val (by omega)) (by rw [abs_lt]; omega)) (words_diag t) (by rw [abs_lt]; simp only at hch ⊢; omega))
          (by rw [abs_lt]; simp only at hch ⊢; omega), ← EReal.coe_mul, ← EReal.coe_sub]
      congr 1
      unfold score crow qs
      rw [if_pos rfl, key_val t 7 hn]
      push_cast
      rw [show ((r.val : ℝ) - (k.val : ℝ) + (512 * ((grid0.coords t 1).val : ℝ) - 2048 * (ch (grid0.coords t) 7 : ℝ)))
        = 512 * ((grid0.coords t 1).val : ℝ) + (r.val : ℝ) - (2048 * (ch (grid0.coords t) 7 : ℝ) + (k.val : ℝ)) by ring]
      ring
    · have hc : ∀ s, tN (F := Ideal) (v0W (grid0.coords t)) (kdW (grid0.coords t)) (k0_pay92 (slopeW (grid0.coords t) arg2 harg2 x0)) (k0_pay93 (slopeW (grid0.coords t) arg2 harg2 x0)) (iota .tc S512x1 32 [0] iota_S512x1_d0_w32) s n
          = tW (kdW (grid0.coords t)) (k0_pay93 (slopeW (grid0.coords t) arg2 harg2 x0)) (BitVec.ofNat 32 n) s := fun s => by
        unfold tN; split <;> first | (exact absurd rfl h7) | rfl
      rw [hc, tW_at, hS n hn k, sgn_eq t ⟨n, by omega⟩, pay93_at, hsl, toInt_small k.val (by omega), ← EReal.coe_mul, ← EReal.coe_mul, ← EReal.coe_add]
      congr 1
      unfold score crow qs
      rw [if_neg h7, off_diag t n (by omega)]
      push_cast
      ring
  rw [online_quot r d (fun n k => score q kk sl (512 * (grid0.coords t 1).val + r.val) (key (grid0.coords t) n k) * (Real.log 2)⁻¹) (fun n k => v (key (grid0.coords t) n k))
    (crow (grid0.coords t) sl r) 8 (by omega) hC hT hV]
  simp only [two_pow_log]
  rw [sum_keys t (fun κ => Real.exp (score q kk sl (512 * (grid0.coords t 1).val + r.val) κ) * v κ), sum_keys t (fun κ => Real.exp (score q kk sl (512 * (grid0.coords t 1).val + r.val) κ))]
  rfl

end Cert.Proof.KernelIdeal

end
-- ==== Proof.BodyValue.lean ====
/- The body's output block at real operands. -/
module

public import proofs.«01_k».proof.Proof.MapValue

@[expose] public section

set_option maxRecDepth 16384

noncomputable section

namespace Cert.Proof.KernelIdeal

open Cert.KernelIdeal Cert.KernelIdeal.Gen
open Idealize.ShloMosaic Idealize.ShloMosaic.TcCoe

/-- The weight of the second map. -/
def lamE (l0 l1 l2 l3 : Fin 128 → EReal) (li : EReal) : EReal :=
  Ideal.exp (∑ e, l0 e * l1 e) - Ideal.exp (∑ e, l2 e * l3 e) + li
/-- A row normalised, gained and gated. -/
def tailE (o : Fin 256 → EReal) (g li ga : EReal) (d : Fin 256) : EReal :=
  o d * Ideal.rsqrt (Ideal.div (∑ e, o e * o e) (Ideal.ofBits .f32 0x43800000#32) + Ideal.ofBits .f32 0x358637BD#32) * g * (1 - li) * (ga * Ideal.logistic ga)

theorem pay100_at (li : Ideal .f32) (lv : Vec Ideal S4x128 .f32) (a b : Vec Ideal S1x512x256 .f32) (r : Fin 512) (d : Fin 256) :
    k0_pay100 (F := Ideal) li lv a b (ix2 r d)
      = a (ix3 0 r d) - lamE (fun e => lv (ix2 0 e)) (fun e => lv (ix2 1 e)) (fun e => lv (ix2 2 e)) (fun e => lv (ix2 3 e)) li * (b (ix3 0 r d) : EReal) := by
  unfold lamE
  pointwise [k0_pay100]

theorem pay102_at (li : Ideal .f32) (lv : Vec Ideal S4x128 .f32) (a b : Vec Ideal S1x512x256 .f32) (r : Fin 512) :
    k0_pay102 (F := Ideal) li lv a b (ix2 r 0)
      = Ideal.div (∑ e, k0_pay100 (F := Ideal) li lv a b (ix2 r e) * k0_pay100 (F := Ideal) li lv a b (ix2 r e)) (Ideal.ofBits .f32 0x43800000#32) := by
  pointwise [k0_pay102]

theorem pay1_at (li : Ideal .f32) (o : FVec Ideal S512x256 .f32) (g : FVec Ideal S1x256 .f32) (ms : FVec Ideal S512x1 .f32) (ga : Vec Ideal S512x256 .bf16) (r : Fin 512) (d : Fin 256) :
    k0_pay1 (F := Ideal) li o g ms ga (ix2 r d)
      = o (ix2 r d) * Ideal.rsqrt (ms (ix2 r 0) + Ideal.ofBits .f32 0x358637BD#32) * g (ix2 0 d) * (1 - li) * ((ga (ix2 r d) : EReal) * Ideal.logistic (ga (ix2 r d))) := by
  pointwise [k0_pay1]

variable (c : Dev nD) (arg2 : Memref sig .tc .smem S8 .f32) (harg2 : arg2.IsWhole) (arg3 : Memref sig .tc .smem S1 .f32) (harg3 : arg3.IsWhole) (arg4 : Memref sig .tc .vmem S512x256 .bf16) (harg4 : arg4.IsWhole) (arg5 : Memref sig .tc .vmem S1x2x16384x128 .bf16) (harg5 : arg5.IsWhole) (arg6 : Memref sig .tc .vmem S16384x256 .bf16) (harg6 : arg6.IsWhole) (arg7 : Memref sig .tc .vmem S512x256 .bf16) (harg7 : arg7.IsWhole) (arg8 : Memref sig .tc .vmem S1x256 .f32) (harg8 : arg8.IsWhole) (arg9 : Memref sig .tc .vmem S4x128 .f32) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S2x512x256 .f32) (harg13 : arg13.IsWhole) (arg14 : Memref sig .tc .vmem S2x512x128 .bf16) (harg14 : arg14.IsWhole) (arg15 : Memref sig .tc .vmem S512x2048 .f32) (harg15 : arg15.IsWhole) (arg16 : Memref sig .tc .vmem S512x2048 .f32) (harg16 : arg16.IsWhole)
  (x0 : Vec Ideal S8 .f32) (x1 : Vec Ideal S1 .f32) (x2 : Vec Ideal S512x256 .bf16) (x3 : Vec Ideal S1x2x16384x128 .bf16) (x4 : Vec Ideal S16384x256 .bf16) (x5 : Vec Ideal S512x256 .bf16) (x6 : Vec Ideal S1x256 .f32) (x7 : Vec Ideal S4x128 .f32)

/-- The difference of the two maps' means, over the real operands. -/
def headO (R : ℕ) (sl : ℝ) (q : Fin 2 → Fin 128 → ℝ) (kk : Fin 2 → Fin 16384 → Fin 128 → ℝ) (v : Fin 16384 → Fin 256 → ℝ) (lam : EReal) (d : Fin 256) : EReal :=
  ((attend (score (q 0) (kk 0) sl R) (fun κ => v κ d) : ℝ) : EReal) - lam * ((attend (score (q 1) (kk 1) sl R) (fun κ => v κ d) : ℝ) : EReal)

theorem body_at (t : Fin grid0.N) (r : Fin 512) (d : Fin 256)
    (sl : ℝ) (q : Fin 2 → Fin 128 → ℝ) (kk : Fin 2 → Fin 16384 → Fin 128 → ℝ) (v : Fin 16384 → Fin 256 → ℝ)
    (h0 : x0 (ix1 (grid0.coords t 0)) = ((sl : ℝ) : EReal))
    (h2 : ∀ (j : Fin 2) (e : Fin 128), (x2 (ix2 r ⟨128 * j.val + e.val, by omega⟩) : EReal) = ((q j e : ℝ) : EReal))
    (h3 : ∀ j κ e, (x3 (ix4 0 j κ e) : EReal) = ((kk j κ e : ℝ) : EReal))
    (h4 : ∀ κ e, (x4 (ix2 κ e) : EReal) = ((v κ e : ℝ) : EReal)) :
    (bodyVal (F := Ideal) c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (ix2 r d) : EReal)
      = tailE (headO (512 * (grid0.coords t 1).val + r.val) sl q kk v (lamE (fun e => x7 (ix2 0 e)) (fun e => x7 (ix2 1 e)) (fun e => x7 (ix2 2 e)) (fun e => x7 (ix2 3 e)) (x1 (ix1 0))))
          (x6 (ix2 0 d)) (x1 (ix1 0)) (x5 (ix2 r d)) d := by
  have hli : lamW arg3 harg3 x1 = x1 (ix1 0) := by
    unfold lamW
    rw [View.readAt_apply, harg3.read_unread]
    congr 1
    funext b
    fin_cases b
    rfl
  have hlv : lvW arg9 harg9 x7 = x7 := by
    unfold lvW
    rw [View.readAt_full, harg9.read_unread]
  have hm0 : ∀ e, mapV (F := Ideal) c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 ⟨0, by decide⟩ (ix3 0 r e) = _ := fun e =>
    map_at c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 t ⟨0, by decide⟩ (by decide) r e sl (q 0) (kk 0) (fun κ => v κ e) h0 (h2 0) (h3 0) (fun κ => h4 κ e)
  have hm1 : ∀ e, mapV (F := Ideal) c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 ⟨1, by decide⟩ (ix3 0 r e) = _ := fun e =>
    map_at c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x3 x4 t ⟨1, by decide⟩ (by decide) r e sl (q 1) (kk 1) (fun κ => v κ e) h0 (h2 1) (h3 1) (fun κ => h4 κ e)
  unfold bodyVal
  rw [pay1_at, pay102_at, hli, hlv, View.readAt_full, harg8.read_unread, View.readAt_full, harg7.read_unread]
  simp only [pay100_at, hm0, hm1]
  unfold k0_pay101
  rw [shapeCast_self]
  rfl

end Cert.Proof.KernelIdeal

end
-- ==== Proof.RefValue.lean ====
/- The reference's result at an index, over the extended reals. -/
module

public import proofs.«01_k».proof.Proof.BodyValue
public import proofs.«01_k».proof.Proof.Gen.ReferenceIdeal.Run

@[expose] public section

set_option maxRecDepth 16384

noncomputable section

namespace Cert.Proof.ReferenceIdeal

open Cert.ReferenceIdeal Cert.ReferenceIdeal.Gen
open Idealize.ShloMosaic Idealize.ShloMosaic.TcCoe

/-- The parts the columns of the projection are cut into. -/
def qR (z : FVec Ideal S16384x33280 .bf16) : FVec Ideal S16384x8x2x128 .f32 :=
  shapeCast _ (extractStridedSlice S16384x2048 ![0, 2048] (extf .f32 z bitsLt_bf16_f32) slices_S16384x33280_S16384x2048_0_2048) shapeCasts_S16384x2048_S16384x8x2x128
def kR (z : FVec Ideal S16384x33280 .bf16) : FVec Ideal S16384x8x2x128 .f32 :=
  shapeCast _ (extractStridedSlice S16384x2048 ![0, 4096] (extf .f32 z bitsLt_bf16_f32) slices_S16384x33280_S16384x2048_0_4096) shapeCasts_S16384x2048_S16384x8x2x128
def vR (z : FVec Ideal S16384x33280 .bf16) : FVec Ideal S16384x8x256 .f32 :=
  shapeCast _ (extractStridedSlice S16384x2048 ![0, 6144] (extf .f32 z bitsLt_bf16_f32) slices_S16384x33280_S16384x2048_0_6144) shapeCasts_S16384x2048_S16384x8x256
def gR (z : FVec Ideal S16384x33280 .bf16) : FVec Ideal S16384x2048 .f32 :=
  extractStridedSlice S16384x2048 ![0, 8192] (extf .f32 z bitsLt_bf16_f32) slices_S16384x33280_S16384x2048_0_8192

def posR : FVec Ideal S16384 .f32 := sitofp .f32 (iotaInDim S16384 32 0)
def slR : FVec Ideal S8 .f32 := fun i => FloatOps.ofBits .f32 (lit0 (S8.rowMajor i))

/-- The scores with the position bias, their exponentials relative to the row maximum, and the softmax. -/
def sR (q k : FVec Ideal S16384x8x2x128 .f32) (sl : FVec Ideal S8 .f32) (pos : FVec Ideal S16384 .f32) : FVec Ideal S2x8x16384x16384 .f32 :=
  subf (Host.divf (Host.dotGeneral dot_S16384x8x2x128_S16384x8x2x128_S2x8x16384x16384_3_3_0_0_21_21 none q k) (broadcastInDim S2x8x16384x16384 ![] bcast_S_S2x8x16384x16384 (Host.sqrt (constant S_ .f32 0x43000000#32)))) (broadcastInDim S2x8x16384x16384 ![0, 1, 2, 3] bcast_S1x8x16384x16384_S2x8x16384x16384_0_1_2_3 (broadcastInDim S1x8x16384x16384 ![1, 2, 3] bcast_S8x16384x16384_S1x8x16384x16384_1_2_3
    (mulf (broadcastInDim S8x16384x16384 ![0, 1, 2] bcast_S8x1x1_S8x16384x16384_0_1_2 (broadcastInDim S8x1x1 ![0] bcast_S8_S8x1x1_0 sl)) (broadcastInDim S8x16384x16384 ![0, 1, 2] bcast_S1x16384x16384_S8x16384x16384_0_1_2 (broadcastInDim S1x16384x16384 ![1, 2] bcast_S16384x16384_S1x16384x16384_1_2 (Host.absf (subf (broadcastInDim S16384x16384 ![0, 1] bcast_S16384x1_S16384x16384_0_1 (broadcastInDim S16384x1 ![0] bcast_S16384_S16384x1_0 pos)) (broadcastInDim S16384x16384 ![0, 1] bcast_S1x16384_S16384x16384_0_1 (broadcastInDim S1x16384 ![1] bcast_S16384_S1x16384_1 pos)))))))))
def mxR (s : FVec Ideal S2x8x16384x16384 .f32) : FVec Ideal S2x8x16384 .f32 :=
  maximumf (broadcastInDim S2x8x16384 ![] bcast_S_S2x8x16384 (constant S_ .f32 0xFF800000#32)) (Host.reduce FloatOps.maximumf s (constant S_ .f32 0xFF800000#32) reducesTo_S2x8x16384x16384_S2x8x16384_d3 h_S_)
def eR (s : FVec Ideal S2x8x16384x16384 .f32) : FVec Ideal S2x8x16384x16384 .f32 :=
  Host.exp (subf s (broadcastInDim S2x8x16384x16384 ![0, 1, 2, 3] bcast_S2x8x16384x1_S2x8x16384x16384_0_1_2_3 (broadcastInDim S2x8x16384x1 ![0, 1, 2] bcast_S2x8x16384_S2x8x16384x1_0_1_2 (mxR s))))
def pR (e : FVec Ideal S2x8x16384x16384 .f32) : FVec Ideal S2x8x16384x16384 .f32 :=
  Host.divf e (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduceAdd e (constant S_ .f32 0x00000000#32) reducesTo_S2x8x16384x16384_S2x8x16384_d3 h_S_)))
def lamR (l0 l1 l2 l3 : FVec Ideal S128 .f32) (li : FVec Ideal S1 .f32) : FVec Ideal S_ .f32 :=
  addf (subf (Host.exp (Host.reduceAdd (mulf l0 l1) (constant S_ .f32 0x00000000#32) reducesTo_S128_S_d0 h_S_)) (Host.exp (Host.reduceAdd (mulf l2 l3) (constant S_ .f32 0x00000000#32) reducesTo_S128_S_d0 h_S_))) (shapeCast _ li shapeCasts_S1_S_)
/-- The difference of the two maps, applied to the values. -/
def wR (p : FVec Ideal S2x8x16384x16384 .f32) (lam : FVec Ideal S_ .f32) : FVec Ideal S8x16384x16384 .f32 :=
  subf (shapeCast _ (extractStridedSlice S1x8x16384x16384 ![0, 0, 0, 0] p slices_S2x8x16384x16384_S1x8x16384x16384_0_0_0_0) shapeCasts_S1x8x16384x16384_S8x16384x16384) (mulf (broadcastInDim S8x16384x16384 ![] bcast_S_S8x16384x16384 lam) (shapeCast _ (extractStridedSlice S1x8x16384x16384 ![1, 0, 0, 0] p slices_S2x8x16384x16384_S1x8x16384x16384_1_0_0_0) shapeCasts_S1x8x16384x16384_S8x16384x16384))
def oR (v : FVec Ideal S16384x8x256 .f32) (w : FVec Ideal S8x16384x16384 .f32) : FVec Ideal S16384x8x256 .f32 :=
  transpose S16384x8x256 [2, 0, 1] (Host.dotGeneral dot_S16384x8x256_S8x16384x16384_S8x256x16384_0_2_2_1_1_0 none v w) transposes_S8x256x16384_S16384x8x256_2_0_1
/-- Each head normalised, gained and gated. -/
def yR (o : FVec Ideal S16384x8x256 .f32) (g : FVec Ideal S256 .f32) (li : FVec Ideal S1 .f32) (ga : FVec Ideal S16384x2048 .f32) : FVec Ideal S16384x2048 .bf16 :=
  truncf .bf16 (mulf (shapeCast _ (mulf (mulf (mulf o (broadcastInDim S16384x8x256 ![0, 1, 2] bcast_S16384x8x1_S16384x8x256_0_1_2 (Host.rsqrt (addf (Host.divf (broadcastInDim S16384x8x1 ![0, 1] bcast_S16384x8_S16384x8x1_0_1 (Host.reduceAdd (mulf o o) (constant S_ .f32 0x00000000#32) reducesTo_S16384x8x256_S16384x8_d2 h_S_)) (broadcastInDim S16384x8x1 ![] bcast_S_S16384x8x1 (constant S_ .f32 0x43800000#32))) (broadcastInDim S16384x8x1 ![] bcast_S_S16384x8x1 (constant S_ .f32 0x358637BD#32)))))) (broadcastInDim S16384x8x256 ![0, 1, 2] bcast_S1x1x256_S16384x8x256_0_1_2 (broadcastInDim S1x1x256 ![2] bcast_S256_S1x1x256_2 g))) (broadcastInDim S16384x8x256 ![] bcast_S_S16384x8x256 (subf (constant S_ .f32 0x3F800000#32) (shapeCast _ li shapeCasts_S1_S_)))) shapeCasts_S16384x8x256_S16384x2048) (mulf ga (Host.divf (broadcastInDim S16384x2048 ![] bcast_S_S16384x2048 (constant S_ .f32 0x3F800000#32)) (addf (broadcastInDim S16384x2048 ![] bcast_S_S16384x2048 (constant S_ .f32 0x3F800000#32)) (Host.exp (Host.negf ga)))))) bitsLt_bf16_f32

theorem res_eq (m : (ℓ : Loc nD τ sig) → Buf (Elt Ideal) ℓ) (c : Dev nD) (z : FVec Ideal S16384x33280 .bf16) (a1 : FVec Ideal S1 .f32) (a2 a3 a4 a5 : FVec Ideal S128 .f32) (a6 : FVec Ideal S256 .f32)
    (h0 : m ((c.tc : Thread nD τ).loc main_arg0) = z) (h1 : m ((c.tc : Thread nD τ).loc main_arg1) = a1) (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5) (h6 : m ((c.tc : Thread nD τ).loc main_arg6) = a6) :
    Cert.ReferenceIdeal.Value.res_main_v77 m c = yR (oR (vR z) (wR (pR (eR (sR (qR z) (kR z) slR posR))) (lamR a2 a3 a4 a5 a1))) a6 a1 (gR z) := by
  subst h0 h1 h2 h3 h4 h5 h6
  rfl

theorem qR_at (z : FVec Ideal S16384x33280 .bf16) (i : Fin 16384) (h : Fin 8) (a : Fin 2) (d : Fin 128) :
    qR z (ix4 i h a d) = (z (ix2 i ⟨2048 + (h.val * 256 + a.val * 128 + d.val), by omega⟩) : EReal) := by
  pointwise [qR]
theorem kR_at (z : FVec Ideal S16384x33280 .bf16) (i : Fin 16384) (h : Fin 8) (a : Fin 2) (d : Fin 128) :
    kR z (ix4 i h a d) = (z (ix2 i ⟨4096 + (h.val * 256 + a.val * 128 + d.val), by omega⟩) : EReal) := by
  pointwise [kR]
theorem vR_at (z : FVec Ideal S16384x33280 .bf16) (i : Fin 16384) (h : Fin 8) (d : Fin 256) :
    vR z (ix3 i h d) = (z (ix2 i ⟨6144 + (h.val * 256 + d.val), by omega⟩) : EReal) := by
  pointwise [vR]
theorem gR_at (z : FVec Ideal S16384x33280 .bf16) (i : Fin 16384) (h : Fin 8) (d : Fin 256) :
    gR z (ix2 i ⟨256 * h.val + d.val, by omega⟩) = (z (ix2 i ⟨8192 + (256 * h.val + d.val), by omega⟩) : EReal) := by
  pointwise [gR]

theorem sR_at (q k : FVec Ideal S16384x8x2x128 .f32) (sl : FVec Ideal S8 .f32) (pos : FVec Ideal S16384 .f32) (a : Fin 2) (h : Fin 8) (i j : Fin 16384) :
    sR q k sl pos (ix4 a h i j) = Ideal.div (∑ d, q (ix4 i h a d) * k (ix4 j h a d)) (Ideal.sqrt (Ideal.ofBits .f32 0x43000000#32)) - sl (ix1 h) * FloatOps.absf (F := Ideal) (φ := .f32) (pos (ix1 i) - pos (ix1 j)) := by
  pointwise [sR]

theorem eR_at (s : FVec Ideal S2x8x16384x16384 .f32) (a : Fin 2) (h : Fin 8) (i j : Fin 16384) :
    eR s (ix4 a h i j) = Ideal.exp (s (ix4 a h i j) - mxR s (ix3 a h i)) := by
  pointwise [eR]

theorem pR_at (e : FVec Ideal S2x8x16384x16384 .f32) (a : Fin 2) (h : Fin 8) (i j : Fin 16384) :
    pR e (ix4 a h i j) = Ideal.div (e (ix4 a h i j)) (∑ j, e (ix4 a h i j)) := by
  pointwise [pR]

theorem lamR_at (l0 l1 l2 l3 : FVec Ideal S128 .f32) (li : FVec Ideal S1 .f32) (x : S_.Idx) :
    lamR l0 l1 l2 l3 li x = Cert.Proof.KernelIdeal.lamE (fun e => l0 (ix1 e)) (fun e => l1 (ix1 e)) (fun e => l2 (ix1 e)) (fun e => l3 (ix1 e)) (li (ix1 0)) := by
  unfold Cert.Proof.KernelIdeal.lamE
  pointwise [lamR]

theorem wR_at (p : FVec Ideal S2x8x16384x16384 .f32) (lam : FVec Ideal S_ .f32) (h : Fin 8) (i j : Fin 16384) :
    wR p lam (ix3 h i j) = p (ix4 0 h i j) - lam ix0 * p (ix4 1 h i j) := by
  pointwise [wR]

theorem oR_at (v : FVec Ideal S16384x8x256 .f32) (w : FVec Ideal S8x16384x16384 .f32) (i : Fin 16384) (h : Fin 8) (d : Fin 256) :
    oR v w (ix3 i h d) = ∑ j, v (ix3 j h d) * w (ix3 h i j) := by
  pointwise [oR]

theorem yR_at (o : FVec Ideal S16384x8x256 .f32) (g : FVec Ideal S256 .f32) (li : FVec Ideal S1 .f32) (ga : FVec Ideal S16384x2048 .f32) (i : Fin 16384) (h : Fin 8) (d : Fin 256) :
    (yR o g li ga (ix2 i ⟨256 * h.val + d.val, by omega⟩) : EReal)
      = Cert.Proof.KernelIdeal.tailE (fun e => o (ix3 i h e)) (g (ix1 d)) (li (ix1 0)) (ga (ix2 i ⟨256 * h.val + d.val, by omega⟩)) d := by
  unfold Cert.Proof.KernelIdeal.tailE
  pointwise [yR]
  rfl

end Cert.Proof.ReferenceIdeal

end
-- ==== Proof.RefReal.lean ====
/- The reference's result, from real queries, keys, values and mixing weights. -/
module

public import proofs.«01_k».proof.Proof.RefValue

@[expose] public section

set_option maxRecDepth 16384

noncomputable section

namespace Cert.Proof.ReferenceIdeal

open Cert.ReferenceIdeal Cert.ReferenceIdeal.Gen
open Idealize.ShloMosaic Idealize.ShloMosaic.TcCoe
open Cert.Proof.KernelIdeal (score attend lamE tailE headO toInt_small)

/-- A maximum over the last axis, at an index. -/
theorem reduce_max_at {n0 n1 n2 n3 : ℕ} (h : (⟨4, ![n0, n1, n2, n3]⟩ : Shape).ReducesTo [3] ⟨3, ![n0, n1, n2]⟩) {u : Shape} (hu : 0 < u.numel)
    (x : FVec Ideal ⟨4, ![n0, n1, n2, n3]⟩ .f32) (b : FVec Ideal u .f32) (i0 : Fin n0) (i1 : Fin n1) (i2 : Fin n2) :
    Host.reduce (FloatOps.maximumf (F := Ideal) (φ := .f32)) x b h hu (ix3 i0 i1 i2) = (Finset.univ.fold max (b (Shape.Idx.first hu) : EReal) (fun k => (x (ix4 i0 i1 i2 k) : EReal)) : EReal) :=
  (Host.reduce_eq_fold (max : EReal → EReal → EReal) x b h hu (ix3 i0 i1 i2)).trans (h.fold_fiber_r4_a3 (ix3 i0 i1 i2) (max : EReal → EReal → EReal) _ x)

theorem max_real {n0 n1 n2 n3 : ℕ} [Nonempty (Fin n3)] (h : (⟨4, ![n0, n1, n2, n3]⟩ : Shape).ReducesTo [3] ⟨3, ![n0, n1, n2]⟩) {u : Shape} (hu : 0 < u.numel)
    (x : FVec Ideal ⟨4, ![n0, n1, n2, n3]⟩ .f32) (b : FVec Ideal u .f32) (c : FVec Ideal ⟨3, ![n0, n1, n2]⟩ .f32) (i0 : Fin n0) (i1 : Fin n1) (i2 : Fin n2)
    (hb : b (Shape.Idx.first hu) = (⊥ : EReal)) (hc : c (ix3 i0 i1 i2) = (⊥ : EReal)) (f : Fin n3 → ℝ) (hs : ∀ k, x (ix4 i0 i1 i2 k) = ((f k : ℝ) : EReal)) :
    ∃ M : ℝ, maximumf c (Host.reduce (FloatOps.maximumf (F := Ideal) (φ := .f32)) x b h hu) (ix3 i0 i1 i2) = (M : EReal) := by
  obtain ⟨M, hM⟩ := fold_max_coe f
  have h1 := reduce_max_at h hu x b i0 i1 i2
  rw [hb, funext hs, hM] at h1
  refine ⟨M, ?_⟩
  show max (c (ix3 i0 i1 i2) : EReal) (Host.reduce (FloatOps.maximumf (F := Ideal) (φ := .f32)) x b h hu (ix3 i0 i1 i2)) = _
  rw [h1, hc]
  exact max_eq_right bot_le

theorem mxR_real (s : FVec Ideal S2x8x16384x16384 .f32) (a : Fin 2) (h : Fin 8) (i : Fin 16384) (f : Fin 16384 → ℝ)
    (hs : ∀ j, s (ix4 a h i j) = ((f j : ℝ) : EReal)) : ∃ M : ℝ, mxR s (ix3 a h i) = (M : EReal) := by
  unfold mxR
  exact max_real (n3 := 16384) reducesTo_S2x8x16384x16384_S2x8x16384_d3 h_S_ s (constant S_ .f32 0xFF800000#32) _ a h i
    Cert.Proof.KernelIdeal.ofBits_bot Cert.Proof.KernelIdeal.ofBits_bot f hs

/-- The softmax is free of the shift by the maximum. -/
theorem pR_real (s : FVec Ideal S2x8x16384x16384 .f32) (a : Fin 2) (h : Fin 8) (i : Fin 16384) (f : Fin 16384 → ℝ)
    (hs : ∀ j, s (ix4 a h i j) = ((f j : ℝ) : EReal)) (j : Fin 16384) :
    pR (eR s) (ix4 a h i j) = ((Real.exp (f j) / ∑ κ, Real.exp (f κ) : ℝ) : EReal) := by
  obtain ⟨M, hM⟩ := mxR_real s a h i f hs
  have he : ∀ κ, eR s (ix4 a h i κ) = ((Real.exp (f κ - M) : ℝ) : EReal) := fun κ => by
    rw [eR_at, hs, hM, ← EReal.coe_sub, Ideal.exp_coe]
  have hsum : (∑ κ, Real.exp (f κ - M)) = (∑ κ, Real.exp (f κ)) * (Real.exp M)⁻¹ := by
    rw [Finset.sum_mul]
    exact Finset.sum_congr rfl fun κ _ => by rw [Real.exp_sub, div_eq_mul_inv]
  have hpos : 0 < ∑ κ, Real.exp (f κ) := Finset.sum_pos (fun κ _ => Real.exp_pos _) Finset.univ_nonempty
  have hM0 := Real.exp_pos M
  rw [pR_at, he, Finset.sum_congr rfl fun κ _ => he κ, coe_sum, Ideal.div_coe (hsum ▸ (mul_pos hpos (inv_pos.mpr hM0)).ne'), ← EReal.coe_mul]
  refine congrArg (fun x : ℝ => (x : EReal)) ?_
  rw [hsum, Real.exp_sub]
  generalize (∑ κ, Real.exp (f κ)) = D at hpos
  field_simp

theorem posR_at (i : Fin 16384) : posR (ix1 i) = (((i.val : ℕ) : ℝ) : EReal) := by
  have h : posR (ix1 i) = (((BitVec.ofNat 32 i.val).toInt : ℝ) : EReal) := by
    pointwise [posR]
    rfl
  rw [h, toInt_small i.val (by omega)]
  norm_num

theorem sqrt_at : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee]
    rw [← EReal.coe_mul]
    norm_num
  rw [h, Ideal.sqrt_coe, if_neg (by norm_num)]

theorem absf_coe (a : ℝ) : FloatOps.absf (F := Ideal) (φ := .f32) (a : EReal) = ((|a| : ℝ) : EReal) := by
  show max (a : EReal) (-(a : EReal)) = _
  rw [← EReal.coe_neg, ← coe_max]
  rfl

/-- The scores of one row. -/
theorem sR_real (q k : FVec Ideal S16384x8x2x128 .f32) (sl : FVec Ideal S8 .f32) (a : Fin 2) (h : Fin 8) (i : Fin 16384)
    (slr : ℝ) (qr : Fin 128 → ℝ) (kr : Fin 16384 → Fin 128 → ℝ) (hsl : sl (ix1 h) = (slr : EReal))
    (hq : ∀ d, q (ix4 i h a d) = ((qr d : ℝ) : EReal)) (hk : ∀ j d, k (ix4 j h a d) = ((kr j d : ℝ) : EReal)) (j : Fin 16384) :
    sR q k sl posR (ix4 a h i j) = ((score qr kr slr i.val j : ℝ) : EReal) := by
  rw [sR_at, hsl, posR_at, posR_at, sqrt_at, ← EReal.coe_sub, absf_coe, ← EReal.coe_mul,
    Finset.sum_congr rfl fun d _ => by rw [hq d, hk j d, ← EReal.coe_mul], coe_sum, Ideal.div_coe (by positivity), ← EReal.coe_mul, ← EReal.coe_sub, one_div]
  rfl

/-- One head's output before the normalisation. -/
theorem oR_real (v : FVec Ideal S16384x8x256 .f32) (s : FVec Ideal S2x8x16384x16384 .f32) (lam : FVec Ideal S_ .f32) (i : Fin 16384) (h : Fin 8) (d : Fin 256)
    (f : Fin 2 → Fin 16384 → ℝ) (L : ℝ) (vr : Fin 16384 → ℝ) (hs : ∀ a j, s (ix4 a h i j) = ((f a j : ℝ) : EReal)) (hL : lam ix0 = (L : EReal))
    (hv : ∀ j, v (ix3 j h d) = ((vr j : ℝ) : EReal)) :
    oR v (wR (pR (eR s)) lam) (ix3 i h d) = ((attend (f 0) vr : ℝ) : EReal) - (L : EReal) * ((attend (f 1) vr : ℝ) : EReal) := by
  have hw : ∀ j, wR (pR (eR s)) lam (ix3 h i j) = ((Real.exp (f 0 j) / (∑ κ, Real.exp (f 0 κ)) - L * (Real.exp (f 1 j) / ∑ κ, Real.exp (f 1 κ)) : ℝ) : EReal) := fun j => by
    rw [wR_at, pR_real s 0 h i (f 0) (hs 0), pR_real s 1 h i (f 1) (hs 1), hL, ← EReal.coe_mul, ← EReal.coe_sub]
  rw [oR_at, Finset.sum_congr rfl fun j _ => by rw [hv j, hw j, ← EReal.coe_mul], coe_sum, ← EReal.coe_mul, ← EReal.coe_sub]
  refine congrArg (fun x : ℝ => (x : EReal)) ?_
  unfold attend
  rw [Finset.sum_div, Finset.sum_div, Finset.mul_sum, ← Finset.sum_sub_distrib]
  exact Finset.sum_congr rfl fun j _ => by ring

theorem lamE_real (l0 l1 l2 l3 : Fin 128 → ℝ) (li : ℝ) : ∃ L : ℝ, lamE (fun e => (l0 e : EReal)) (fun e => (l1 e : EReal)) (fun e => (l2 e : EReal)) (fun e => (l3 e : EReal)) (li : EReal) = (L : EReal) := by
  refine ⟨Real.exp (∑ e, l0 e * l1 e) - Real.exp (∑ e, l2 e * l3 e) + li, ?_⟩
  unfold lamE
  simp only [← EReal.coe_mul, coe_sum, Ideal.exp_coe, ← EReal.coe_sub, ← EReal.coe_add]

end Cert.Proof.ReferenceIdeal

end
-- ==== Proof.Result.lean ====
/- The result of the layer's attention at an index, from arrays that hold real numbers where the precondition asks for them. -/
module

public import proofs.«01_k».proof.Proof.RefReal
public import proofs.«01_k».proof.Pre_finite
public import Idealize.ShloMosaic.Lib.ReduceAll

@[expose] public section

set_option maxRecDepth 16384

noncomputable section

namespace Cert.Proof

open Idealize.ShloMosaic Idealize.ShloMosaic.TcCoe
open Cert.ReferenceIdeal (S16384x33280 S1 S128 S256 S8 S16384x2048)
open Cert.Proof.KernelIdeal (score attend lamE tailE headO)
open Cert.Proof.ReferenceIdeal

/-- The arrays hold real numbers: the queries', keys' and values' columns, and what the mixing weight is made of. -/
structure Reals (z : FVec Ideal S16384x33280 .bf16) (a1 : FVec Ideal S1 .f32) (a2 a3 a4 a5 : FVec Ideal S128 .f32) : Prop where
  z : ∀ (i : Fin 16384) (n : Fin 33280), 2048 ≤ n.val → n.val < 8192 → (z (ix2 i n) : EReal) = (((z (ix2 i n) : EReal).toReal : ℝ) : EReal)
  a1 : (a1 (ix1 0) : EReal) = (((a1 (ix1 0) : EReal).toReal : ℝ) : EReal)
  a2 : ∀ e, (a2 (ix1 e) : EReal) = (((a2 (ix1 e) : EReal).toReal : ℝ) : EReal)
  a3 : ∀ e, (a3 (ix1 e) : EReal) = (((a3 (ix1 e) : EReal).toReal : ℝ) : EReal)
  a4 : ∀ e, (a4 (ix1 e) : EReal) = (((a4 (ix1 e) : EReal).toReal : ℝ) : EReal)
  a5 : ∀ e, (a5 (ix1 e) : EReal) = (((a5 (ix1 e) : EReal).toReal : ℝ) : EReal)

/-- The head's queries, keys, values and slope, as real numbers. -/
def qv (z : FVec Ideal S16384x33280 .bf16) (h : Fin 8) (i : Fin 16384) (j : Fin 2) (e : Fin 128) : ℝ := (z (ix2 i ⟨2048 + (h.val * 256 + j.val * 128 + e.val), by omega⟩) : EReal).toReal
def kv (z : FVec Ideal S16384x33280 .bf16) (h : Fin 8) (j : Fin 2) (i : Fin 16384) (e : Fin 128) : ℝ := (z (ix2 i ⟨4096 + (h.val * 256 + j.val * 128 + e.val), by omega⟩) : EReal).toReal
def vv (z : FVec Ideal S16384x33280 .bf16) (h : Fin 8) (i : Fin 16384) (e : Fin 256) : ℝ := (z (ix2 i ⟨6144 + (h.val * 256 + e.val), by omega⟩) : EReal).toReal
def slope (h : Fin 8) : ℝ := (slR (ix1 h) : EReal).toReal

theorem slope_coe (h : Fin 8) : (slR (ix1 h) : EReal) = ((slope h : ℝ) : EReal) := by
  have key : ∀ k : Fin 8, (Ideal.ofBits .f32 (Cert.ReferenceIdeal.lit0 k) : EReal) ≠ ⊤ ∧ (Ideal.ofBits .f32 (Cert.ReferenceIdeal.lit0 k) : EReal) ≠ ⊥ := by
    intro k
    fin_cases k <;> simp [Ideal.ofBits, Ideal.ieee, Cert.ReferenceIdeal.lit0, ← EReal.coe_mul]
  exact (EReal.coe_toReal (key _).1 (key _).2).symm

variable (z : FVec Ideal S16384x33280 .bf16) (a1 : FVec Ideal S1 .f32) (a2 a3 a4 a5 : FVec Ideal S128 .f32) (a6 : FVec Ideal S256 .f32)

/-- The mixing weight. -/
def lam : EReal := lamE (fun e => a2 (ix1 e)) (fun e => a3 (ix1 e)) (fun e => a4 (ix1 e)) (fun e => a5 (ix1 e)) (a1 (ix1 0))

theorem lam_real (H : Reals z a1 a2 a3 a4 a5) : ∃ L : ℝ, lam a1 a2 a3 a4 a5 = (L : EReal) := by
  obtain ⟨L, hL⟩ := lamE_real (fun e => (a2 (ix1 e) : EReal).toReal) (fun e => (a3 (ix1 e) : EReal).toReal) (fun e => (a4 (ix1 e) : EReal).toReal) (fun e => (a5 (ix1 e) : EReal).toReal) (a1 (ix1 0) : EReal).toReal
  refine ⟨L, hL ▸ ?_⟩
  unfold lam
  rw [← H.a1, ← funext H.a2, ← funext H.a3, ← funext H.a4, ← funext H.a5]

/-- The reference's result. -/
def REF : FVec Ideal S16384x2048 .bf16 := yR (oR (vR z) (wR (pR (eR (sR (qR z) (kR z) slR posR))) (lamR a2 a3 a4 a5 a1))) a6 a1 (gR z)

theorem REF_at (H : Reals z a1 a2 a3 a4 a5) (i : Fin 16384) (h : Fin 8) (d : Fin 256) :
    (REF z a1 a2 a3 a4 a5 a6 (ix2 i ⟨256 * h.val + d.val, by omega⟩) : EReal)
      = tailE (headO i.val (slope h) (qv z h i) (kv z h) (vv z h) (lam a1 a2 a3 a4 a5)) (a6 (ix1 d)) (a1 (ix1 0))
          (z (ix2 i ⟨8192 + (256 * h.val + d.val), by omega⟩)) d := by
  obtain ⟨L, hL⟩ := lam_real z a1 a2 a3 a4 a5 H
  have ho : ∀ e : Fin 256, oR (vR z) (wR (pR (eR (sR (qR z) (kR z) slR posR))) (lamR a2 a3 a4 a5 a1)) (ix3 i h e)
      = headO i.val (slope h) (qv z h i) (kv z h) (vv z h) (lam a1 a2 a3 a4 a5) e := fun e => by
    rw [hL]
    refine oR_real (vR z) (sR (qR z) (kR z) slR posR) (lamR a2 a3 a4 a5 a1) i h e (fun a => score (qv z h i a) (kv z h a) (slope h) i.val) L (fun κ => vv z h κ e) ?_ ?_ ?_
    · intro a j
      refine sR_real (qR z) (kR z) slR a h i (slope h) (qv z h i a) (kv z h a) (slope_coe h) ?_ ?_ j
      · intro d'
        exact (qR_at z i h a d').trans (H.z i _ (by simp only; omega) (by simp only; omega))
      · intro j' d'
        exact (kR_at z j' h a d').trans (H.z j' _ (by simp only; omega) (by simp only; omega))
    · exact (lamR_at a2 a3 a4 a5 a1 ix0).trans hL
    · intro j
      exact (vR_at z j h e).trans (H.z j _ (by simp only; omega) (by simp only; omega))
  rw [REF, yR_at, gR_at, funext ho]

/-! The precondition, as printed, says just that. -/

theorem real_of_lt (a : EReal) (h : FloatOps.cmpf (F := Ideal) (φ := .f32) .olt (FloatOps.hostAbsf (F := Ideal) (φ := .f32) a) (Ideal.ofBits .f32 0x7F800000#32) = 1#1) :
    a = ((a.toReal : ℝ) : EReal) := by
  have ht : Ideal.ofBits .f32 0x7F800000#32 = ⊤ := by simp [Ideal.ofBits, Ideal.ieee]
  have h1 : max a (-a) < ⊤ := by
    have h2 : Ideal.cmp .olt (max a (-a)) (Ideal.ofBits .f32 0x7F800000#32) = 1#1 := h
    rw [ht] at h2
    by_contra h3
    simp [Ideal.cmp, h3] at h2
  refine (EReal.coe_toReal ?_ ?_).symm
  · rintro rfl; simp at h1
  · rintro rfl; simp at h1

theorem preFacts : Cert.Pre_finite.Facts where
  slices_S16384x33280_S16384x6144_0_2048 := by decide
  bitsLt_bf16_f32 := by decide
  bcast_S_S16384x6144 := by decide
  reducesTo_S16384x6144_S_d0_1 := by decide
  h_S_ := by decide
  bcast_S_S1 := by decide
  reducesTo_S1_S_d0 := by decide
  bcast_S_S128 := by decide
  reducesTo_S128_S_d0 := by decide

theorem reals_of_pre (h : (letI := preFacts; Cert.Pre_finite.fn (F := Ideal) z a1 a2 a3 a4 a5 a6) = fun _ => 1#1) : Reals z a1 a2 a3 a4 a5 := by
  letI := preFacts
  have h0 := congrFun h ix0
  dsimp only [Cert.Pre_finite.fn, Cert.Pre_finite.fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨hz, h1⟩ := IntOp.andi_eq_one.1 h0
  refine ⟨fun i n hn hn' => ?_, ?_, fun e => ?_, fun e => ?_, fun e => ?_, fun e => ?_⟩
  · have hh := Host.reduce_andi_all _ _ _ _ ix0 hz (ix2 i ⟨n.val - 2048, by omega⟩)
    have hs : extractStridedSlice Cert.Pre_finite.S16384x6144 ![0, 2048] z Cert.Pre_finite.Facts.slices_S16384x33280_S16384x6144_0_2048 (ix2 i ⟨n.val - 2048, by omega⟩) = z (ix2 i n) := by
      pointwise []
      exact congrArg (fun k => z (ix2 i k)) (Fin.ext (by simp only; omega))
    rw [← hs]
    exact real_of_lt _ hh
  · exact real_of_lt _ (Host.reduce_andi_all _ _ _ _ ix0 h1 (ix1 0))
  · exact real_of_lt _ (Host.reduce_andi_all _ _ _ _ ix0 h2 (ix1 e))
  · exact real_of_lt _ (Host.reduce_andi_all _ _ _ _ ix0 h3 (ix1 e))
  · exact real_of_lt _ (Host.reduce_andi_all _ _ _ _ ix0 h4 (ix1 e))
  · exact real_of_lt _ (Host.reduce_andi_all _ _ _ _ ix0 h5 (ix1 e))

end Cert.Proof

end
-- ==== Proof.Blocks.lean ====
/- The kernel's blocks at a grid point, read off the arrays. -/
module

public import proofs.«01_k».proof.Proof.Frame
public import proofs.«01_k».proof.Proof.Result

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- The index maps: the grid's first coordinate is the head, the second the block of query rows. -/
theorem idx : ∀ t : Fin cfg0.N,
    win0_0.index t = ![0] ∧ win0_1.index t = ![0]
    ∧ win0_2.index t = ![(grid0.coords t 1).val, 8 + (grid0.coords t 0).val]
    ∧ win0_3.index t = ![(grid0.coords t 0).val, 0, 0, 0]
    ∧ win0_4.index t = ![0, 24 + (grid0.coords t 0).val]
    ∧ win0_5.index t = ![(grid0.coords t 1).val, 32 + (grid0.coords t 0).val]
    ∧ win0_6.index t = ![0, 0] ∧ win0_7.index t = ![0, 0]
    ∧ win0_8.index t = ![(grid0.coords t 1).val, (grid0.coords t 0).val] :=
  (by decide +kernel : ∀ t : Fin grid0.N, _)

variable (m : (ℓ : Loc nD τ sig) → Buf (Elt Ideal) ℓ) (c : Dev nD)

theorem head_lt (t : Fin cfg0.N) : (grid0.coords t 0).val < 8 := (grid0.coords t 0).isLt
theorem rowblock_lt (t : Fin cfg0.N) : (grid0.coords t 1).val < 32 := (grid0.coords t 1).isLt

/-- A row of the block of queries, among all rows. -/
def row (t : Fin cfg0.N) (r : Fin 512) : Fin 16384 := ⟨512 * (grid0.coords t 1).val + r.val, by have := rowblock_lt t; omega⟩
/-- The head of a grid point. -/
def head (t : Fin cfg0.N) : Fin 8 := ⟨(grid0.coords t 0).val, head_lt t⟩

abbrev Z : FVec Ideal S16384x33280 .bf16 := m ((c.tc : Thread nD τ).loc main_arg0)

theorem blk0 (t : Fin cfg0.N) (h : Fin 8) : (iblk m c 0 t (ix1 h) : EReal) = Ideal.ofBits .f32 (lit0 (S8.rowMajor (ix1 h))) := by
  have hv : V m c main_cst = (show FVec Ideal S8 .f32 from fun i => FloatOps.ofBits .f32 (lit0 (S8.rowMajor i))) := by
    entry_read
    rfl
  have e : ((cfg0.win 0).blk t).view.emb (ix1 h) = ix1 h := by blk_ext [idx t]
  show V m c main_cst (((cfg0.win 0).blk t).view.emb (ix1 h)) = _
  rw [hv, e]
  rfl

theorem blk1 (t : Fin cfg0.N) : (iblk m c 1 t (ix1 0) : EReal) = m ((c.tc : Thread nD τ).loc main_arg1) (ix1 0) := by
  blk_ext [iblk, V, idx t]

theorem blk2 (t : Fin cfg0.N) (r : Fin 512) (n : Fin 256) :
    (iblk m c 2 t (ix2 r n) : EReal) = Z m c (ix2 (row t r) ⟨2048 + ((head t).val * 256 + n.val), by have := (head t).isLt; omega⟩) := by
  have := head_lt t; have := rowblock_lt t
  unfold row head
  blk_ext [iblk, V, idx t]

theorem blk4 (t : Fin cfg0.N) (κ : Fin 16384) (n : Fin 256) :
    (iblk m c 4 t (ix2 κ n) : EReal) = Z m c (ix2 κ ⟨6144 + ((head t).val * 256 + n.val), by have := (head t).isLt; omega⟩) := by
  have := head_lt t; have := rowblock_lt t
  unfold head
  blk_ext [iblk, V, idx t]

theorem blk5 (t : Fin cfg0.N) (r : Fin 512) (n : Fin 256) :
    (iblk m c 5 t (ix2 r n) : EReal) = Z m c (ix2 (row t r) ⟨8192 + (256 * (head t).val + n.val), by have := (head t).isLt; omega⟩) := by
  have := head_lt t; have := rowblock_lt t
  unfold row head
  blk_ext [iblk, V, idx t]

theorem blk3 (t : Fin cfg0.N) (j : Fin 2) (κ : Fin 16384) (e : Fin 128) :
    (iblk m c 3 t (ix4 0 j κ e) : EReal) = Z m c (ix2 κ ⟨4096 + ((head t).val * 256 + j.val * 128 + e.val), by have := (head t).isLt; omega⟩) := by
  have := head_lt t
  have hv : V m c main_v7 = transpose S8x2x16384x128 [1, 2, 0, 3] (shapeCast S16384x8x2x128 (extractStridedSlice S16384x2048 ![0, 4096] (Z m c) slices_S16384x33280_S16384x2048_0_4096) shapeCasts_S16384x2048_S16384x8x2x128) transposes_S16384x8x2x128_S8x2x16384x128_1_2_0_3 := by entry_read; rfl
  have e' : ((cfg0.win 3).blk t).view.emb (ix4 0 j κ e) = ix4 (head t) j κ e := by unfold head; blk_ext [idx t]
  show V m c main_v7 (((cfg0.win 3).blk t).view.emb (ix4 0 j κ e)) = _
  rw [hv, e']
  pointwise []

theorem blk6 (t : Fin cfg0.N) (d : Fin 256) : (iblk m c 6 t (ix2 0 d) : EReal) = m ((c.tc : Thread nD τ).loc main_arg6) (ix1 d) := by
  have hv : V m c main_v8 = shapeCast S1x256 (m ((c.tc : Thread nD τ).loc main_arg6) : FVec Ideal S256 .f32) shapeCasts_S256_S1x256 := by entry_read; rfl
  have e' : ((cfg0.win 6).blk t).view.emb (ix2 0 d) = ix2 0 d := by blk_ext [idx t]
  show V m c main_v8 (((cfg0.win 6).blk t).view.emb (ix2 0 d)) = _
  rw [hv, e']
  pointwise []

theorem cat_at (x y z w : FVec Ideal S128 .f32) (e : Fin 128) :
    let X : FVec Ideal S4x128 .f32 := concatenate S4x128 0 [⟨S1x128, broadcastInDim S1x128 ![1] bcast_S128_S1x128_1 x⟩, ⟨S1x128, broadcastInDim S1x128 ![1] bcast_S128_S1x128_1 y⟩, ⟨S1x128, broadcastInDim S1x128 ![1] bcast_S128_S1x128_1 z⟩, ⟨S1x128, broadcastInDim S1x128 ![1] bcast_S128_S1x128_1 w⟩] concatenates_S1x128_S1x128_S1x128_S1x128_S4x128_d0
    X (ix2 0 e) = x (ix1 e) ∧ X (ix2 1 e) = y (ix1 e) ∧ X (ix2 2 e) = z (ix1 e) ∧ X (ix2 3 e) = w (ix1 e) := by
  intro X
  refine ⟨?_, ?_, ?_, ?_⟩
  · pointwise [X]
  · pointwise [X]
  · pointwise [X]
  · pointwise [X]

theorem nary4 (σ : Valuation τ sig (Elt Ideal)) (x y z w : FVec Ideal S1x128 .f32)
    (h0 : σ (Proc.devRef .tc main_v0) = x) (h1 : σ (Proc.devRef .tc main_v1) = y) (h2 : σ (Proc.devRef .tc main_v2) = z) (h3 : σ (Proc.devRef .tc main_v3) = w)
    (f : ((k : Fin 4) → ((![main_v0, main_v1, main_v2, main_v3] : Fin 4 → Ref sig .tc) k).ty.Contents (Elt Ideal)) → main_v4.ty.Contents (Elt Ideal))
    (hf : ∀ u, f u = (concatenate S4x128 0 [⟨S1x128, (u 0 : (⟨S1x128, .f32⟩ : BufTy).Contents (Elt Ideal))⟩, ⟨S1x128, (u 1 : (⟨S1x128, .f32⟩ : BufTy).Contents (Elt Ideal))⟩, ⟨S1x128, (u 2 : (⟨S1x128, .f32⟩ : BufTy).Contents (Elt Ideal))⟩, ⟨S1x128, (u 3 : (⟨S1x128, .f32⟩ : BufTy).Contents (Elt Ideal))⟩] concatenates_S1x128_S1x128_S1x128_S1x128_S4x128_d0 : (⟨S4x128, .f32⟩ : BufTy).Contents (Elt Ideal))) :
    f (fun k => σ (Proc.devRef .tc ((![main_v0, main_v1, main_v2, main_v3] : Fin 4 → Ref sig .tc) k)))
      = (concatenate S4x128 0 [⟨S1x128, x⟩, ⟨S1x128, y⟩, ⟨S1x128, z⟩, ⟨S1x128, w⟩] concatenates_S1x128_S1x128_S1x128_S1x128_S4x128_d0 : FVec Ideal S4x128 .f32) := by
  subst h0 h1 h2 h3
  exact hf _

theorem V_main_v4 : V m c main_v4 = concatenate S4x128 0 [⟨S1x128, broadcastInDim S1x128 ![1] bcast_S128_S1x128_1 (m ((c.tc : Thread nD τ).loc main_arg2) : FVec Ideal S128 .f32)⟩, ⟨S1x128, broadcastInDim S1x128 ![1] bcast_S128_S1x128_1 (m ((c.tc : Thread nD τ).loc main_arg3) : FVec Ideal S128 .f32)⟩, ⟨S1x128, broadcastInDim S1x128 ![1] bcast_S128_S1x128_1 (m ((c.tc : Thread nD τ).loc main_arg4) : FVec Ideal S128 .f32)⟩, ⟨S1x128, broadcastInDim S1x128 ![1] bcast_S128_S1x128_1 (m ((c.tc : Thread nD τ).loc main_arg5) : FVec Ideal S128 .f32)⟩] concatenates_S1x128_S1x128_S1x128_S1x128_S4x128_d0 := by
  unfold V
  rw [StableHlo.after_cons, StableHlo.after_cons, StableHlo.after_cons, StableHlo.after_cons, StableHlo.after_cons, StableHlo.after_cons, StableHlo.after_cons, StableHlo.after_cons, StableHlo.after_cons, StableHlo.after_cons, StableHlo.after_nil,
    StableHlo.reshape_result_ne (h := by decide), StableHlo.unary_result_ne (h := by decide), StableHlo.reshape_result_ne (h := by decide), StableHlo.unary_result_ne (h := by decide), StableHlo.nary_result]
  refine nary4 _ _ _ _ _ ?_ ?_ ?_ ?_ _ (fun _ => rfl)
  · rw [StableHlo.unary_result_ne (h := by decide), StableHlo.unary_result_ne (h := by decide), StableHlo.unary_result_ne (h := by decide), StableHlo.unary_result, StableHlo.nullary_result_ne (h := by decide)]
  · rw [StableHlo.unary_result_ne (h := by decide), StableHlo.unary_result_ne (h := by decide), StableHlo.unary_result, StableHlo.unary_result_ne (h := by decide), StableHlo.nullary_result_ne (h := by decide)]
  · rw [StableHlo.unary_result_ne (h := by decide), StableHlo.unary_result, StableHlo.unary_result_ne (h := by decide), StableHlo.unary_result_ne (h := by decide), StableHlo.nullary_result_ne (h := by decide)]
  · rw [StableHlo.unary_result, StableHlo.unary_result_ne (h := by decide), StableHlo.unary_result_ne (h := by decide), StableHlo.unary_result_ne (h := by decide), StableHlo.nullary_result_ne (h := by decide)]

theorem blk7_at (t : Fin cfg0.N) (k : Fin 4) (e : Fin 128) : iblk m c 7 t (ix2 k e) = V m c main_v4 (ix2 k e) := by
  have e' : ((cfg0.win 7).blk t).view.emb (ix2 k e) = ix2 k e := by blk_ext [idx t]
  show V m c main_v4 (((cfg0.win 7).blk t).view.emb (ix2 k e)) = _
  rw [e']

end Cert.Proof.KernelIdeal

end
-- ==== Proof.Final.lean ====
/- The kernel's result is the reference's. -/
module

public import proofs.«01_k».proof.Defs
public import proofs.«01_k».proof.Proof.Blocks

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-- The reference's result of the kernel's arguments. -/
abbrev REFm : FVec Ideal S16384x2048 .bf16 :=
  REF (Z m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The precondition on core `c`'s arguments. -/
abbrev RealsM : Prop :=
  Reals (Z m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

theorem slope_blk (t : Fin cfg0.N) : (iblk m c 0 t (ix1 (grid0.coords t 0)) : EReal) = ((slope (head t) : ℝ) : EReal) :=
  (blk0 m c t (head t)).trans ((slope_coe (head t)).symm.trans rfl).symm

/-- A block of the result, at a point. -/
theorem point (H : RealsM m c) (t : Fin cfg0.N) (r : Fin 512) (d : Fin 256) :
    (outsAt0 m c t (ix2 r d) : EReal) = REFm m c (ix2 (row t r) ⟨256 * (head t).val + d.val, by have := (head t).isLt; omega⟩) := by
  unfold outsAt0
  refine (body_at c _ _ _ _ _ _ _ _ _ _ _ _ _ _ _ _ _ _ _ _ _ _ _ _ _ _ _ _ _ _ _ _ _ _ _ _ _ _ t r d (slope (head t)) (qv (Z m c) (head t) (row t r)) (kv (Z m c) (head t)) (vv (Z m c) (head t)) ?_ ?_ ?_ ?_).trans ?_
  · exact slope_blk m c t
  · intro j e
    have hh := (head t).isLt
    refine (blk2 m c t r ⟨128 * j.val + e.val, by omega⟩).trans ?_
    have e1 : (⟨2048 + ((head t).val * 256 + (128 * j.val + e.val)), by omega⟩ : Fin 33280) = ⟨2048 + ((head t).val * 256 + j.val * 128 + e.val), by omega⟩ := Fin.ext (by simp only; omega)
    exact (congrArg (fun k => (Z m c (ix2 (row t r) k) : EReal)) e1).trans (H.z _ _ (by simp only; omega) (by simp only; omega))
  · intro j κ e
    have hh := (head t).isLt
    exact (blk3 m c t j κ e).trans (H.z _ _ (by simp only; omega) (by simp only; omega))
  · intro κ e
    have hh := (head t).isLt
    exact (blk4 m c t κ e).trans (H.z _ _ (by simp only; omega) (by simp only; omega))
  · refine Eq.trans ?_ (REF_at (Z m c) _ _ _ _ _ _ H (row t r) (head t) d).symm
    have hl : lamE (fun e => iblk m c 7 t (ix2 0 e)) (fun e => iblk m c 7 t (ix2 1 e)) (fun e => iblk m c 7 t (ix2 2 e)) (fun e => iblk m c 7 t (ix2 3 e)) (iblk m c 1 t (ix1 0))
        = lam (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
      have e0 := funext fun e => (blk7_at m c t 0 e).trans ((congrFun (V_main_v4 m c) _).trans (cat_at _ _ _ _ e).1)
      have e1 := funext fun e => (blk7_at m c t 1 e).trans ((congrFun (V_main_v4 m c) _).trans (cat_at _ _ _ _ e).2.1)
      have e2 := funext fun e => (blk7_at m c t 2 e).trans ((congrFun (V_main_v4 m c) _).trans (cat_at _ _ _ _ e).2.2.1)
      have e3 := funext fun e => (blk7_at m c t 3 e).trans ((congrFun (V_main_v4 m c) _).trans (cat_at _ _ _ _ e).2.2.2)
      unfold lam
      exact (congr (congr (congr (congr (congrArg lamE e0) e1) e2) e3) (blk1 m c t))
    exact congr (congr (congr (congrArg₂ tailE (congrArg (headO _ _ _ _ _) hl) (blk6 m c t d)) (blk1 m c t)) (blk5 m c t r d)) rfl

theorem final (H : RealsM m c) : (dats m 0 c).arrAt 8 (cfgs 0).N = REFm m c := by
  refine (dats m 0 c).arrAt_eq_of_covers 8 (REFm m c) (by decide +kernel) fun t _ y => ?_
  blk_simp
  rw [after0_8]
  idx_vars y
  refine (point m c H t _ _).trans ?_
  have := head_lt t; have := rowblock_lt t
  refine congrArg (fun k => REFm m c k) ?_
  unfold row head
  blk_ext [idx t]

end Cert.Proof.KernelIdeal

namespace Cert.Proof

open Idealize.ShloMosaic Idealize.ShloMosaic.TcCoe Idealize.SL.Sem

theorem algebraic : letI := preFacts; Cert.algebraic_KernelIdeal_ReferenceIdeal_pre_finite := by
  letI := preFacts
  intro m g m' g' hpre hagree
  refine ⟨fun c => KernelIdeal.REFm m c, ?_, ?_⟩
  · refine (θ_run Cert.KernelIdeal.defs _ _).mono (fun r h c => ⟨?_, h.2 c⟩) (θ_run_and (KernelIdeal.run_main m g) (KernelIdeal.unchanged m g))
    exact ((h.1 c).1 8).trans (KernelIdeal.final m c (reals_of_pre _ _ _ _ _ _ _ (hpre c)))
  · refine (θ_run Cert.ReferenceIdeal.defs _ _).mono (fun r h c => ⟨(h c).1.trans ?_, (h c).2⟩) (Cert.ReferenceIdeal.Value.run (F := Ideal) m' g')
    obtain ⟨e0, e1, e2, e3, e4, e5, e6⟩ := hagree c
    exact ReferenceIdeal.res_eq m' c _ _ _ _ _ _ _ e0 e1 e2 e3 e4 e5 e6

end Cert.Proof

end
-- ==== Proof.InRun.lean ====
/- The input projection's reference: its run, and its result column by column. -/
module

public import proofs.«01_k».proof.Defs
public import proofs.«01_k».proof.Proof.Gen.Reference2Ideal
public import Idealize.ShloMosaic.Lib.StableHlo.Run
public import Idealize.ShloMosaic.Lib.StableHlo.RunRead
public import Idealize.ShloMosaic.Lib.DynamicIndex
public import Idealize.ShloMosaic.Lib.Pipeline.ValueKit

@[expose] public section

set_option maxRecDepth 16384

noncomputable section

namespace Cert.Proof.Reference2Ideal

open Cert.Reference2Ideal Cert.Reference2Ideal.Gen
open Idealize.ShloMosaic Idealize.ShloMosaic.TcCoe Idealize.ShloMosaic.Tactic Idealize.ShloMosaic.StableHlo Idealize.SL.Sem

section

variable {F : FTy → Type} [FloatOps F]

/-- The columns put in the kernel's order. -/
def cols (lat : FVec F S16384x2048 .f32) (a : FVec F S16384x8192 .f32) (gates : FVec F S16384x12288 .f32) (cc : FVec F S16384x8192 .f32)
    (gb : FVec F S16384x2048 .f32) (kr : FVec F S16384x64 .f32) (hi lo : FVec F S16384x32 .f32) (rest : FVec F S16384x384 .f32) : FVec F S16384x33280 .f32 :=
  concatenate S16384x33280 1 [⟨S16384x2048, lat⟩, ⟨S16384x8192, a⟩, ⟨S16384x12288, gates⟩, ⟨S16384x8192, cc⟩, ⟨S16384x2048, gb⟩, ⟨S16384x64, kr⟩, ⟨S16384x32, hi⟩, ⟨S16384x32, lo⟩, ⟨S16384x384, rest⟩] concatenates_S16384x2048_S16384x8192_S16384x12288_S16384x8192_S16384x2048_S16384x64_S16384x32_S16384x32_S16384x384_S16384x33280_d1

/-- The operations up to the layer's index. -/
abbrev opsI : List (HloOp τ sig (Elt F)) :=
  [ unary main_arg0 main_v0 ((extf .f32 · bitsLt_bf16_f32) : (⟨S16384x4096, .bf16⟩ : BufTy).Contents (Elt F) → (⟨S16384x4096, .f32⟩ : BufTy).Contents (Elt F)),
    reshape main_arg2 main_v1 (rfl : (.i32 : EltTy) = .i32) shapeCasts_S1_S_,
    nullary main_c (constantI S_ 32 0#32),
    binary main_v1 main_c main_v2 (cmpi .slt : (⟨S_, .i32⟩ : BufTy).Contents (Elt F) → (⟨S_, .i32⟩ : BufTy).Contents (Elt F) → (⟨S_, .i1⟩ : BufTy).Contents (Elt F)),
    nullary main_c_0 (constantI S_ 32 4#32),
    binary main_v1 main_c_0 main_v3 (addi : (⟨S_, .i32⟩ : BufTy).Contents (Elt F) → (⟨S_, .i32⟩ : BufTy).Contents (Elt F) → (⟨S_, .i32⟩ : BufTy).Contents (Elt F)),
    ternary main_v2 main_v3 main_v1 main_v4 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v5 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 4096#32),
    binary main_c_3 main_c_4 main_v6 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v5 main_v6 main_c_5 main_v7 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v8 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 32832#32),
    binary main_c_8 main_c_9 main_v9 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v8 main_v9 main_c_10 main_v10 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
/-- The layer's weights and the product. -/
abbrev opsJ : List (HloOp τ sig (Elt F)) :=
  [ unaryIndexed main_arg1 ![main_v4, main_v7, main_v10] ⟨S_, .i32⟩ main_v11 ((fun x i => Host.dynamicSlice S1x4096x32832 x (fun k => (i k (Shape.Idx.first h_S_)).toInt) sliceFits_S4x4096x32832_S1x4096x32832) : (⟨S4x4096x32832, .f32⟩ : BufTy).Contents (Elt F) → (Fin 3 → (⟨S_, .i32⟩ : BufTy).Contents (Elt F)) → (⟨S1x4096x32832, .f32⟩ : BufTy).Contents (Elt F)),
    reshape main_v11 main_v12 (rfl : (.f32 : EltTy) = .f32) shapeCasts_S1x4096x32832_S4096x32832,
    binary main_v0 main_v12 main_v13 ((fun l r => Host.dotGeneral dot_S16384x4096_S4096x32832_S16384x32832_1_0_0_1_n_n none l r) : (⟨S16384x4096, .f32⟩ : BufTy).Contents (Elt F) → (⟨S4096x32832, .f32⟩ : BufTy).Contents (Elt F) → (⟨S16384x32832, .f32⟩ : BufTy).Contents (Elt F)) ]
/-- The columns. -/
abbrev opsA : List (HloOp τ sig (Elt F)) :=
  [ unary main_v13 main_v14 ((extractStridedSlice S16384x8192 ![0, 0] · slices_S16384x32832_S16384x8192_0_0) : (⟨S16384x32832, .f32⟩ : BufTy).Contents (Elt F) → (⟨S16384x8192, .f32⟩ : BufTy).Contents (Elt F)),
    unary main_v13 main_v15 ((extractStridedSlice S16384x2048 ![0, 8192] · slices_S16384x32832_S16384x2048_0_8192) : (⟨S16384x32832, .f32⟩ : BufTy).Contents (Elt F) → (⟨S16384x2048, .f32⟩ : BufTy).Contents (Elt F)),
    unary main_v13 main_v16 ((extractStridedSlice S16384x64 ![0, 10240] · slices_S16384x32832_S16384x64_0_10240) : (⟨S16384x32832, .f32⟩ : BufTy).Contents (Elt F) → (⟨S16384x64, .f32⟩ : BufTy).Contents (Elt F)),
    unary main_v13 main_v17 ((extractStridedSlice S16384x2048 ![0, 10304] · slices_S16384x32832_S16384x2048_0_10304) : (⟨S16384x32832, .f32⟩ : BufTy).Contents (Elt F) → (⟨S16384x2048, .f32⟩ : BufTy).Contents (Elt F)),
    unary main_v13 main_v18 ((extractStridedSlice S16384x8192 ![0, 12352] · slices_S16384x32832_S16384x8192_0_12352) : (⟨S16384x32832, .f32⟩ : BufTy).Contents (Elt F) → (⟨S16384x8192, .f32⟩ : BufTy).Contents (Elt F)),
    unary main_v13 main_v19 ((extractStridedSlice S16384x12288 ![0, 20544] · slices_S16384x32832_S16384x12288_0_20544) : (⟨S16384x32832, .f32⟩ : BufTy).Contents (Elt F) → (⟨S16384x12288, .f32⟩ : BufTy).Contents (Elt F)),
    nullary main_cst (constant S_ .f32 0x00000000#32),
    unary main_cst main_v20 (broadcastInDim S16384x384 ![] bcast_S_S16384x384 : (⟨S_, .f32⟩ : BufTy).Contents (Elt F) → (⟨S16384x384, .f32⟩ : BufTy).Contents (Elt F)),
    unary main_v16 main_v21 ((extractStridedSlice S16384x32 ![0, 32] · slices_S16384x64_S16384x32_0_32) : (⟨S16384x64, .f32⟩ : BufTy).Contents (Elt F) → (⟨S16384x32, .f32⟩ : BufTy).Contents (Elt F)),
    unary main_v16 main_v22 ((extractStridedSlice S16384x32 ![0, 0] · slices_S16384x64_S16384x32_0_0) : (⟨S16384x64, .f32⟩ : BufTy).Contents (Elt F) → (⟨S16384x32, .f32⟩ : BufTy).Contents (Elt F)) ]
/-- The columns put together and rounded. -/
abbrev opsB : List (HloOp τ sig (Elt F)) :=
  [ nary ![main_v15, main_v14, main_v19, main_v18, main_v17, main_v16, main_v21, main_v22, main_v20] main_v23 (fun u => cols (u 0) (u 1) (u 2) (u 3) (u 4) (u 5) (u 6) (u 7) (u 8)),
    unary main_v23 main_v24 ((truncf .bf16 · bitsLt_bf16_f32) : (⟨S16384x33280, .f32⟩ : BufTy).Contents (Elt F) → (⟨S16384x33280, .bf16⟩ : BufTy).Contents (Elt F)) ]

theorem main_eq (c : Dev nD) : main (F := F) c = seq (opsI ++ (opsJ ++ (opsA ++ opsB))) := rfl
end

theorem no_scoped_refs : (Finset.univ.filter fun b : Ref sig .tc => b.isScoped) = ∅ := by decide
theorem no_scoped_sems : (Finset.univ.filter fun sm : SemLoc sig => sm.isScoped .tc) = ∅ := by decide
theorem opsI_sub : (opsI (F := Ideal)).Forall fun op => op.bufs ⊆ tcRefs τ sig :=
  ⟨unary_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub ..⟩
theorem opsJ_sub : (opsJ (F := Ideal)).Forall fun op => op.bufs ⊆ tcRefs τ sig :=
  ⟨unaryIndexed_bufs_sub .., reshape_bufs_sub .., binary_bufs_sub ..⟩
theorem opsA_sub : (opsA (F := Ideal)).Forall fun op => op.bufs ⊆ tcRefs τ sig :=
  ⟨unary_bufs_sub .., unary_bufs_sub .., unary_bufs_sub .., unary_bufs_sub .., unary_bufs_sub .., unary_bufs_sub .., nullary_bufs_sub .., unary_bufs_sub .., unary_bufs_sub .., unary_bufs_sub ..⟩
theorem opsB_sub : (opsB (F := Ideal)).Forall fun op => op.bufs ⊆ tcRefs τ sig :=
  ⟨nary_bufs_sub .., unary_bufs_sub ..⟩

theorem after_app (k l : List (HloOp τ sig (Elt Ideal))) (σ : Valuation τ sig (Elt Ideal)) : after (k ++ l) σ = after l (after k σ) := by
  induction k generalizing σ with
  | nil => rfl
  | cons o k ih => exact ih _

variable (σ : Valuation τ sig (Elt Ideal))

/-- jax's index: a negative one counts from the end. -/
abbrev wrap (i : IVec S_ 32) (d : BitVec 32) : IVec S_ 32 := select (cmpi .slt i (constantI S_ 32 0#32)) (addi i (constantI S_ 32 d)) i

theorem readI0 : after opsI σ main_v0 = (extf .f32 (σ main_arg0 : FVec Ideal S16384x4096 .bf16) bitsLt_bf16_f32 : FVec Ideal S16384x4096 .f32) := by after_reads_simp
theorem readI1 : after opsI σ main_arg1 = σ main_arg1 := by after_reads_simp
theorem readI4 : after opsI σ main_v4 = wrap (shapeCast S_ (σ main_arg2 : IVec S1 32) shapeCasts_S1_S_) 4#32 := by after_reads_simp; rfl
theorem readI7 : after opsI σ main_v7 = wrap (constantI S_ 32 0#32) 4096#32 := by after_reads_simp
theorem readI10 : after opsI σ main_v10 = wrap (constantI S_ 32 0#32) 32832#32 := by after_reads_simp

theorem slices_layer (n : Nat) (hn : n < 4) : S4x4096x32832.Slices ![n, 0, 0] S1x4096x32832 :=
  ⟨rfl, by intro a; fin_cases a <;> simp <;> omega⟩

/-- The product, in the weights' own order of columns. -/
def prod (h : FVec Ideal S16384x4096 .bf16) (w : FVec Ideal S4x4096x32832 .f32) (n : Nat) (hn : n < 4) : FVec Ideal S16384x32832 .f32 :=
  Host.dotGeneral dot_S16384x4096_S4096x32832_S16384x32832_1_0_0_1_n_n none (extf .f32 h bitsLt_bf16_f32)
    (shapeCast S4096x32832 (extractStridedSlice S1x4096x32832 ![n, 0, 0] w (slices_layer n hn)) shapeCasts_S1x4096x32832_S4096x32832)

theorem readJ (h : FVec Ideal S16384x4096 .bf16) (n : Nat) (hn : n < 4) (h0 : σ main_v0 = (extf .f32 h bitsLt_bf16_f32 : FVec Ideal S16384x4096 .f32))
    (h4 : ((σ main_v4 : IVec S_ 32) (Shape.Idx.first h_S_)).toInt = n) (h7 : ((σ main_v7 : IVec S_ 32) (Shape.Idx.first h_S_)).toInt = 0)
    (h10 : ((σ main_v10 : IVec S_ 32) (Shape.Idx.first h_S_)).toInt = 0) :
    after opsJ σ main_v13 = prod h (σ main_arg1) n hn := by
  rw [after_cons, after_cons, after_cons, after_nil, binary_result, reshape_result, unaryIndexed_result', reshape_result_ne (h := by decide), unaryIndexed_result_ne (h := by decide), h0]
  unfold prod
  beta_reduce
  rw [Host.dynamicSlice_eq_extractStridedSlice S1x4096x32832 _ _ ![n, 0, 0] _ (slices_layer n hn)]
  · rfl
  · intro a
    fin_cases a
    · exact h4
    · exact h7
    · exact h10

theorem read14 : after opsA σ main_v14 = extractStridedSlice S16384x8192 ![0, 0] (σ main_v13 : FVec Ideal S16384x32832 .f32) slices_S16384x32832_S16384x8192_0_0 := by after_reads_simp
theorem read15 : after opsA σ main_v15 = extractStridedSlice S16384x2048 ![0, 8192] (σ main_v13 : FVec Ideal S16384x32832 .f32) slices_S16384x32832_S16384x2048_0_8192 := by after_reads_simp
theorem read16 : after opsA σ main_v16 = extractStridedSlice S16384x64 ![0, 10240] (σ main_v13 : FVec Ideal S16384x32832 .f32) slices_S16384x32832_S16384x64_0_10240 := by after_reads_simp
theorem read17 : after opsA σ main_v17 = extractStridedSlice S16384x2048 ![0, 10304] (σ main_v13 : FVec Ideal S16384x32832 .f32) slices_S16384x32832_S16384x2048_0_10304 := by after_reads_simp
theorem read18 : after opsA σ main_v18 = extractStridedSlice S16384x8192 ![0, 12352] (σ main_v13 : FVec Ideal S16384x32832 .f32) slices_S16384x32832_S16384x8192_0_12352 := by after_reads_simp
theorem read19 : after opsA σ main_v19 = extractStridedSlice S16384x12288 ![0, 20544] (σ main_v13 : FVec Ideal S16384x32832 .f32) slices_S16384x32832_S16384x12288_0_20544 := by after_reads_simp
theorem read20 : after opsA σ main_v20 = broadcastInDim S16384x384 ![] bcast_S_S16384x384 (constant S_ .f32 0x00000000#32 : FVec Ideal S_ .f32) := by after_reads_simp
theorem read21 : after opsA σ main_v21 = extractStridedSlice S16384x32 ![0, 32] (extractStridedSlice S16384x64 ![0, 10240] (σ main_v13 : FVec Ideal S16384x32832 .f32) slices_S16384x32832_S16384x64_0_10240) slices_S16384x64_S16384x32_0_32 := by after_reads_simp
theorem read22 : after opsA σ main_v22 = extractStridedSlice S16384x32 ![0, 0] (extractStridedSlice S16384x64 ![0, 10240] (σ main_v13 : FVec Ideal S16384x32832 .f32) slices_S16384x32832_S16384x64_0_10240) slices_S16384x64_S16384x32_0_0 := by after_reads_simp

theorem readB : after opsB σ main_v24 = (truncf .bf16 (cols (F := Ideal) (σ main_v15) (σ main_v14) (σ main_v19) (σ main_v18) (σ main_v17) (σ main_v16) (σ main_v21) (σ main_v22) (σ main_v20)) bitsLt_bf16_f32 : FVec Ideal S16384x33280 .bf16) := by
  rw [after_cons, after_cons, after_nil, unary_result, nary_result]
  rfl

/-- The reference's result, from the product. -/
def res (z : FVec Ideal S16384x32832 .f32) : FVec Ideal S16384x33280 .bf16 :=
  truncf .bf16 (cols (extractStridedSlice S16384x2048 ![0, 8192] z slices_S16384x32832_S16384x2048_0_8192)
    (extractStridedSlice S16384x8192 ![0, 0] z slices_S16384x32832_S16384x8192_0_0)
    (extractStridedSlice S16384x12288 ![0, 20544] z slices_S16384x32832_S16384x12288_0_20544)
    (extractStridedSlice S16384x8192 ![0, 12352] z slices_S16384x32832_S16384x8192_0_12352)
    (extractStridedSlice S16384x2048 ![0, 10304] z slices_S16384x32832_S16384x2048_0_10304)
    (extractStridedSlice S16384x64 ![0, 10240] z slices_S16384x32832_S16384x64_0_10240)
    (extractStridedSlice S16384x32 ![0, 32] (extractStridedSlice S16384x64 ![0, 10240] z slices_S16384x32832_S16384x64_0_10240) slices_S16384x64_S16384x32_0_32)
    (extractStridedSlice S16384x32 ![0, 0] (extractStridedSlice S16384x64 ![0, 10240] z slices_S16384x32832_S16384x64_0_10240) slices_S16384x64_S16384x32_0_0)
    (broadcastInDim S16384x384 ![] bcast_S_S16384x384 (constant S_ .f32 0x00000000#32 : FVec Ideal S_ .f32))) bitsLt_bf16_f32

theorem one (l : IVec S1 32) (i j : S1.Idx) : l i = l j :=
  congrArg l (funext fun a => by fin_cases a; exact Subsingleton.elim (α := Fin 1) _ _)

theorem result (n : Nat) (hn : n < 4) (hl : ((σ main_arg2 : IVec S1 32) (fun a => ⟨0, by fin_cases a; decide⟩)).toInt = n) :
    after (opsI ++ (opsJ ++ (opsA ++ opsB))) σ main_v24 = res (prod (σ main_arg0) (σ main_arg1) n hn) := by
  rw [after_app, after_app, after_app, readB, read14, read15, read16, read17, read18, read19, read20, read21, read22,
    readJ _ (σ main_arg0) n hn (readI0 σ) ?_ ?_ ?_, readI1]
  · rfl
  · have e : (shapeCast S_ (σ main_arg2 : IVec S1 32) shapeCasts_S1_S_) (Shape.Idx.first h_S_) = (σ main_arg2 : IVec S1 32) (fun a => ⟨0, by fin_cases a; decide⟩) := one _ _ _
    rw [readI4, wrap, select_slt_zero_of_nonneg]
    · rw [e, hl]
    · rw [e, hl]; omega
  · rw [readI7]; decide
  · rw [readI10]; decide

end Cert.Proof.Reference2Ideal

end
-- ==== Proof.InRange.lean ====
/- The layer's number under the precondition, and with it the blocks of the weights inside the array. -/
module

public import proofs.«01_k».proof.Defs
public import proofs.«01_k».proof.Proof.Gen.Kernel2.Frame
public import proofs.«01_k».proof.Proof.Gen.Kernel2Ideal.Frame
public import Idealize.ShloMosaic.Lib.ReduceAll
public import Idealize.ShloMosaic.Lib.Pipeline.ValueKit

@[expose] public section

set_option maxRecDepth 16384

noncomputable section

namespace Cert.Proof

open Idealize.ShloMosaic Idealize.ShloMosaic.TcCoe Idealize.ShloMosaic.Tactic

theorem inRangeFacts : Cert.Pre_in_range.Facts where
  bcast_S_S1 := by decide
  reducesTo_S1_S_d0 := by decide
  h_S_ := by decide

/-- A word that is at least 0 and below 4, read signed, is a number below 4. -/
theorem word_of_range (x : BitVec 32) (h0 : BitVec.ofBool ((0#32).sle x) = 1#1) (h1 : BitVec.ofBool (x.slt 4#32) = 1#1) :
    ∃ n : Nat, n < 4 ∧ x = BitVec.ofNat 32 n := by
  have e0 : (0#32).sle x = true := by by_contra h; rw [Bool.not_eq_true] at h; rw [h] at h0; exact absurd h0 (by decide)
  have e1 : x.slt 4#32 = true := by by_contra h; rw [Bool.not_eq_true] at h; rw [h] at h1; exact absurd h1 (by decide)
  simp only [BitVec.sle, BitVec.slt, decide_eq_true_eq] at e0 e1
  have z0 : (0#32).toInt = 0 := by decide
  have z4 : (4#32).toInt = 4 := by decide
  rw [z0] at e0
  rw [z4] at e1
  refine ⟨x.toNat, ?_, BitVec.eq_of_toNat_eq (by rw [BitVec.toNat_ofNat]; exact (Nat.mod_eq_of_lt x.isLt).symm)⟩
  have := x.isLt
  rw [BitVec.toInt_eq_toNat_cond] at e0 e1
  split at e0 <;> omega

theorem layer_of_pre {F : FTy → Type} [FloatOps F] (a0 : FVec F Cert.Pre_in_range.S16384x4096 .bf16) (a1 : FVec F Cert.Pre_in_range.S4x4096x32832 .f32) (l : IVec Cert.Pre_in_range.S1 32)
    (h : (letI := inRangeFacts; Cert.Pre_in_range.fn (F := F) a0 a1 l) = fun _ => 1#1) : ∃ n : Nat, n < 4 ∧ ∀ i, l i = BitVec.ofNat 32 n := by
  letI := inRangeFacts
  have h0 := congrFun h ix0
  dsimp only [Cert.Pre_in_range.fn] at h0
  obtain ⟨ha, hb⟩ := IntOp.andi_eq_one.1 (Host.reduce_andi_all _ _ _ _ ix0 h0 (ix1 0))
  obtain ⟨n, hn, e⟩ := word_of_range (l (ix1 0)) ha hb
  exact ⟨n, hn, fun i => (congrArg l (funext fun a => by fin_cases a; exact Subsingleton.elim (α := Fin 1) _ _)).trans e⟩

end Cert.Proof

namespace Cert.Proof.Kernel2

open Cert.Kernel2 Cert.Kernel2.Gen
open Idealize.ShloMosaic Idealize.ShloMosaic.TcCoe Idealize.ShloMosaic.Tactic

section

variable {F : FTy → Type} [FloatOps F]

theorem transform_1 (pf : pre0.Contents (Elt F)) (n : Nat) (hn : n < 4) (h : ∀ i, pf 0 i = BitVec.ofNat 32 n) (i : grid0.Coords) :
    cc0_transform_1 inb_S1_S1_0 numel1_S1 pf i = ![n, 0, (i 1).val] := by
  have e : pf.at 0 (Rect.unit (s := S1) ![0] S1.size inb_S1_S1_0) numel1_S1 = BitVec.ofNat 32 n := h _
  have hi : (i 1).val < 65 := (i 1).isLt
  unfold cc0_transform_1
  rw [e]
  funext a
  fin_cases a
  · show (BitVec.ofNat 32 n).toNat = n
    rw [BitVec.toNat_ofNat]; omega
  · rfl
  · show (BitVec.ofNat 32 (i 1).val).toNat = (i 1).val
    rw [BitVec.toNat_ofNat]; omega

theorem ok_of (pf : pre0.Contents (Elt F)) (n : Nat) (hn : n < 4) (h : ∀ i, pf 0 i = BitVec.ofNat 32 n) : ok0 pf := by
  intro i
  have hi : (i 1).val < 65 := (i 1).isLt
  have e := transform_1 pf n hn h i
  have hb : ∀ a, (cc0_transform_1 inb_S1_S1_0 numel1_S1 pf i a + 1) * S1x4096x512.size a ≤ S4x4096x33280.size a := by
    rw [e]
    intro a
    fin_cases a
    · show (n + 1) * 1 ≤ 4; omega
    · show (0 + 1) * 4096 ≤ 4096; omega
    · show ((i 1).val + 1) * 512 ≤ 33280; omega
  exact ⟨hb, .inr (.inr ⟨by decide, rfl, rfl, rfl⟩)⟩

variable (m : (ℓ : Loc nD τ sig) → Buf (Elt F) ℓ)

theorem ok_of_layer (n : Nat) (hn : n < 4) (h : ∀ i, (m (((0 : Dev nD).tc : Thread nD τ).loc main_arg2) : IVec S1 32) i = BitVec.ofNat 32 n) : Ok m :=
  ok_of (tbl m) n hn fun i => (congrFun (V_main_arg2 m 0) i).trans (h i)

end

theorem ok_of_pre (m : (ℓ : Loc nD τ sig) → Buf (Elt Bits) ℓ) (h : letI := inRangeFacts; Cert.Pre_Kernel2 m) : Ok m := by
  obtain ⟨n, hn, e⟩ := layer_of_pre _ _ _ (h 0)
  exact ok_of_layer m n hn e

end Cert.Proof.Kernel2

namespace Cert.Proof.Kernel2Ideal

open Cert.Kernel2Ideal Cert.Kernel2Ideal.Gen
open Idealize.ShloMosaic Idealize.ShloMosaic.TcCoe Idealize.ShloMosaic.Tactic

section

variable {F : FTy → Type} [FloatOps F]

theorem transform_1 (pf : pre0.Contents (Elt F)) (n : Nat) (hn : n < 4) (h : ∀ i, pf 0 i = BitVec.ofNat 32 n) (i : grid0.Coords) :
    cc0_transform_1 inb_S1_S1_0 numel1_S1 pf i = ![n, 0, (i 1).val] := by
  have e : pf.at 0 (Rect.unit (s := S1) ![0] S1.size inb_S1_S1_0) numel1_S1 = BitVec.ofNat 32 n := h _
  have hi : (i 1).val < 65 := (i 1).isLt
  unfold cc0_transform_1
  rw [e]
  funext a
  fin_cases a
  · show (BitVec.ofNat 32 n).toNat = n
    rw [BitVec.toNat_ofNat]; omega
  · rfl
  · show (BitVec.ofNat 32 (i 1).val).toNat = (i 1).val
    rw [BitVec.toNat_ofNat]; omega

theorem ok_of (pf : pre0.Contents (Elt F)) (n : Nat) (hn : n < 4) (h : ∀ i, pf 0 i = BitVec.ofNat 32 n) : ok0 pf := by
  intro i
  have hi : (i 1).val < 65 := (i 1).isLt
  have e := transform_1 pf n hn h i
  have hb : ∀ a, (cc0_transform_1 inb_S1_S1_0 numel1_S1 pf i a + 1) * S1x4096x512.size a ≤ S4x4096x33280.size a := by
    rw [e]
    intro a
    fin_cases a
    · show (n + 1) * 1 ≤ 4; omega
    · show (0 + 1) * 4096 ≤ 4096; omega
    · show ((i 1).val + 1) * 512 ≤ 33280; omega
  exact ⟨hb, .inr (.inr ⟨by decide, rfl, rfl, rfl⟩)⟩

variable (m : (ℓ : Loc nD τ sig) → Buf (Elt F) ℓ)

theorem ok_of_layer (n : Nat) (hn : n < 4) (h : ∀ i, (m (((0 : Dev nD).tc : Thread nD τ).loc main_arg2) : IVec S1 32) i = BitVec.ofNat 32 n) : Ok m :=
  ok_of (tbl m) n hn fun i => (congrFun (V_main_arg2 m 0) i).trans (h i)

end

theorem ok_of_pre (m : (ℓ : Loc nD τ sig) → Buf (Elt Ideal) ℓ) (h : letI := inRangeFacts; Cert.Pre_Kernel2Ideal m) : Ok m := by
  obtain ⟨n, hn, e⟩ := layer_of_pre _ _ _ (h 0)
  exact ok_of_layer m n hn e

end Cert.Proof.Kernel2Ideal

end
-- ==== Proof.InCols.lean ====
/- The columns of the input projection in the kernel's order: the weights' columns put in it before the launch, the
   product's columns put in it after. -/
module

public import proofs.«01_k».proof.Proof.InRun
public import proofs.«01_k».proof.Proof.InRange

@[expose] public section

set_option maxRecDepth 16384

noncomputable section

namespace Cert.Proof

open Idealize.ShloMosaic Idealize.ShloMosaic.TcCoe Idealize.ShloMosaic.Tactic

/-- Column `n` of the kernel's order, from the columns in the weights' own order: the latents, `a`, the gates, `c`, `gb`,
    the keys' rotated part, that part with its halves exchanged, and columns of zeros. -/
def pick (n : Fin 33280) (x : Fin 32832 → EReal) : EReal :=
  if h : n.val < 2048 then x ⟨n.val + 8192, by omega⟩
  else if h : n.val < 10240 then x ⟨n.val - 2048, by omega⟩
  else if h : n.val < 22528 then x ⟨n.val - 10240 + 20544, by omega⟩
  else if h : n.val < 30720 then x ⟨n.val - 22528 + 12352, by omega⟩
  else if h : n.val < 32768 then x ⟨n.val - 30720 + 10304, by omega⟩
  else if h : n.val < 32832 then x ⟨n.val - 32768 + 10240, by omega⟩
  else if h : n.val < 32864 then x ⟨n.val - 32832 + 10272, by omega⟩
  else if h : n.val < 32896 then x ⟨n.val - 32864 + 10240, by omega⟩
  else 0

/-- Two ladders agree rung by rung. -/
theorem rung {α : Type} {c d : Prop} [Decidable c] [Decidable d] {t : c → α} {t' : d → α} {e : ¬c → α} {e' : ¬d → α}
    (hc : c ↔ d) (ht : ∀ h h', t h = t' h') (he : ∀ h h', e h = e' h') : dite c t e = dite d t' e' := by
  by_cases h : c
  · rw [dif_pos h, dif_pos (hc.1 h)]; exact ht _ _
  · rw [dif_neg h, dif_neg fun h' => h (hc.2 h')]; exact he _ _

/-- Two rungs against one. -/
theorem rungs {α : Type} {a b d : Prop} [Decidable a] [Decidable b] [Decidable d] {t : a → α} {u : b → α} {t' : d → α} {e : ¬b → α} {e' : ¬d → α}
    (h1 : a → d) (h2 : ¬a → (b ↔ d)) (ht : ∀ h h', t h = t' h') (hu : ¬a → ∀ h h', u h = t' h') (he : ∀ h h', e h = e' h') :
    (if h : a then t h else dite b u e) = dite d t' e' := by
  by_cases h : a
  · rw [dif_pos h, dif_pos (h1 h)]; exact ht _ _
  · rw [dif_neg h]; exact rung (h2 h) (hu h) he

/-- A product's column is the product with the weights' column. -/
theorem pick_sum {K : Nat} (n : Fin 33280) (a : Fin K → EReal) (w : Fin K → Fin 32832 → EReal) :
    pick n (fun q => ∑ k, a k * w k q) = ∑ k, a k * pick n (w k) := by
  unfold pick
  split_ifs <;> first | rfl | simp

end Cert.Proof

namespace Cert.Proof.Reference2Ideal

open Cert.Reference2Ideal Cert.Reference2Ideal.Gen
open Idealize.ShloMosaic Idealize.ShloMosaic.TcCoe Idealize.ShloMosaic.Tactic

theorem res_at (z : FVec Ideal S16384x32832 .f32) (i : Fin 16384) (n : Fin 33280) : res z (ix2 i n) = pick n fun q => z (ix2 i q) := by
  pointwise [res, cols]
  unfold pick
  have hz : ∀ q q' : Fin 32832, q.val = q'.val → z (ix2 i q) = z (ix2 i q') := fun q q' e => congrArg (fun q => z (ix2 i q)) (Fin.ext e)
  iterate 8 refine rung (by omega) (fun h h' => hz _ _ (by first | (simp only; done) | (simp only; omega))) fun _ _ => ?_
  rfl

theorem prod_at (h : FVec Ideal S16384x4096 .bf16) (w : FVec Ideal S4x4096x32832 .f32) (l : Nat) (hl : l < 4) (i : Fin 16384) (q : Fin 32832) :
    prod h w l hl (ix2 i q) = ∑ k : Fin 4096, (h (ix2 i k) : EReal) * w (ix3 ⟨l, hl⟩ k q) := by
  pointwise [prod]

end Cert.Proof.Reference2Ideal

namespace Cert.Proof.Kernel2Ideal

open Cert.Kernel2Ideal Cert.Kernel2Ideal.Gen
open Idealize.ShloMosaic Idealize.ShloMosaic.TcCoe Idealize.ShloMosaic.Tactic Idealize.ShloMosaic.StableHlo

section

variable {F : FTy → Type} [FloatOps F]

/-- The weights' columns put in the kernel's order. -/
def cols (cq : FVec F S4x4096x1536 .f32) (ckv : FVec F S4x4096x512 .f32) (a : FVec F S4x4096x8192 .f32) (gates : FVec F S4x4096x12288 .f32)
    (cc : FVec F S4x4096x8192 .f32) (gb : FVec F S4x4096x2048 .f32) (kr krs : FVec F S4x4096x64 .f32) (rest : FVec F S4x4096x384 .f32) : FVec F S4x4096x33280 .f32 :=
  concatenate S4x4096x33280 2 [⟨S4x4096x1536, cq⟩, ⟨S4x4096x512, ckv⟩, ⟨S4x4096x8192, a⟩, ⟨S4x4096x12288, gates⟩, ⟨S4x4096x8192, cc⟩, ⟨S4x4096x2048, gb⟩, ⟨S4x4096x64, kr⟩, ⟨S4x4096x64, krs⟩, ⟨S4x4096x384, rest⟩] concatenates_S4x4096x1536_S4x4096x512_S4x4096x8192_S4x4096x12288_S4x4096x8192_S4x4096x2048_S4x4096x64_S4x4096x64_S4x4096x384_S4x4096x33280_d2

/-- The last two operations before the launch. -/
abbrev opsT : List (HloOp τ sig (Elt F)) :=
  [ nary ![main_v1, main_v2, main_v0, main_v6, main_v5, main_v4, main_v3, main_v10, main_v7] main_v11 (fun u => cols (u 0) (u 1) (u 2) (u 3) (u 4) (u 5) (u 6) (u 7) (u 8)),
    unary main_v11 main_v12 ((truncf .bf16 · bitsLt_bf16_f32) : (⟨S4x4096x33280, .f32⟩ : BufTy).Contents (Elt F) → (⟨S4x4096x33280, .bf16⟩ : BufTy).Contents (Elt F)) ]

theorem host_eq : (hostOps0 : List (HloOp τ sig (Elt F))) = hostOps0.take 12 ++ opsT := rfl

end

variable (σ : Valuation τ sig (Elt Ideal))

theorem after_app (k l : List (HloOp τ sig (Elt Ideal))) (σ : Valuation τ sig (Elt Ideal)) : after (k ++ l) σ = after l (after k σ) := by
  induction k generalizing σ with
  | nil => rfl
  | cons o k ih => exact ih _

theorem readT : after opsT σ main_v12 = (truncf .bf16 (cols (F := Ideal) (σ main_v1) (σ main_v2) (σ main_v0) (σ main_v6) (σ main_v5) (σ main_v4) (σ main_v3) (σ main_v10) (σ main_v7)) bitsLt_bf16_f32 : FVec Ideal S4x4096x33280 .bf16) := by
  rw [after_cons, after_cons, after_nil, unary_result, nary_result]
  rfl

theorem read0 : after (hostOps0.take 12) σ main_v0 = extractStridedSlice S4x4096x8192 ![0, 0, 0] (σ main_arg1 : FVec Ideal S4x4096x32832 .f32) slices_S4x4096x32832_S4x4096x8192_0_0_0 := by
  simp only [hostOps0, List.take_succ_cons, List.take_zero]
  after_reads_simp
theorem read1 : after (hostOps0.take 12) σ main_v1 = extractStridedSlice S4x4096x1536 ![0, 0, 8192] (σ main_arg1 : FVec Ideal S4x4096x32832 .f32) slices_S4x4096x32832_S4x4096x1536_0_0_8192 := by
  simp only [hostOps0, List.take_succ_cons, List.take_zero]
  after_reads_simp
theorem read2 : after (hostOps0.take 12) σ main_v2 = extractStridedSlice S4x4096x512 ![0, 0, 9728] (σ main_arg1 : FVec Ideal S4x4096x32832 .f32) slices_S4x4096x32832_S4x4096x512_0_0_9728 := by
  simp only [hostOps0, List.take_succ_cons, List.take_zero]
  after_reads_simp
theorem read3 : after (hostOps0.take 12) σ main_v3 = extractStridedSlice S4x4096x64 ![0, 0, 10240] (σ main_arg1 : FVec Ideal S4x4096x32832 .f32) slices_S4x4096x32832_S4x4096x64_0_0_10240 := by
  simp only [hostOps0, List.take_succ_cons, List.take_zero]
  after_reads_simp
theorem read4 : after (hostOps0.take 12) σ main_v4 = extractStridedSlice S4x4096x2048 ![0, 0, 10304] (σ main_arg1 : FVec Ideal S4x4096x32832 .f32) slices_S4x4096x32832_S4x4096x2048_0_0_10304 := by
  simp only [hostOps0, List.take_succ_cons, List.take_zero]
  after_reads_simp
theorem read5 : after (hostOps0.take 12) σ main_v5 = extractStridedSlice S4x4096x8192 ![0, 0, 12352] (σ main_arg1 : FVec Ideal S4x4096x32832 .f32) slices_S4x4096x32832_S4x4096x8192_0_0_12352 := by
  simp only [hostOps0, List.take_succ_cons, List.take_zero]
  after_reads_simp
theorem read6 : after (hostOps0.take 12) σ main_v6 = extractStridedSlice S4x4096x12288 ![0, 0, 20544] (σ main_arg1 : FVec Ideal S4x4096x32832 .f32) slices_S4x4096x32832_S4x4096x12288_0_0_20544 := by
  simp only [hostOps0, List.take_succ_cons, List.take_zero]
  after_reads_simp
theorem read7 : after (hostOps0.take 12) σ main_v7 = broadcastInDim S4x4096x384 ![] bcast_S_S4x4096x384 (constant S_ .f32 0x00000000#32 : FVec Ideal S_ .f32) := by
  simp only [hostOps0, List.take_succ_cons, List.take_zero]
  after_reads_simp
theorem read8 : after (hostOps0.take 11) σ main_v8 = extractStridedSlice S4x4096x32 ![0, 0, 32] (extractStridedSlice S4x4096x64 ![0, 0, 10240] (σ main_arg1 : FVec Ideal S4x4096x32832 .f32) slices_S4x4096x32832_S4x4096x64_0_0_10240) slices_S4x4096x64_S4x4096x32_0_0_32 := by
  simp only [hostOps0, List.take_succ_cons, List.take_zero]
  after_reads_simp
theorem read9 : after (hostOps0.take 11) σ main_v9 = extractStridedSlice S4x4096x32 ![0, 0, 0] (extractStridedSlice S4x4096x64 ![0, 0, 10240] (σ main_arg1 : FVec Ideal S4x4096x32832 .f32) slices_S4x4096x32832_S4x4096x64_0_0_10240) slices_S4x4096x64_S4x4096x32_0_0_0 := by
  simp only [hostOps0, List.take_succ_cons, List.take_zero]
  after_reads_simp

/-- The halves exchanged. -/
def swap (k : FVec Ideal S4x4096x64 .f32) : FVec Ideal S4x4096x64 .f32 :=
  concatenate S4x4096x64 2 [⟨S4x4096x32, extractStridedSlice S4x4096x32 ![0, 0, 32] k slices_S4x4096x64_S4x4096x32_0_0_32⟩, ⟨S4x4096x32, extractStridedSlice S4x4096x32 ![0, 0, 0] k slices_S4x4096x64_S4x4096x32_0_0_0⟩] concatenates_S4x4096x32_S4x4096x32_S4x4096x64_d2

/-- The operation that exchanges them. -/
abbrev opS : HloOp τ sig (Elt Ideal) :=
  binary main_v8 main_v9 main_v10 ((fun a b => concatenate S4x4096x64 2 [⟨S4x4096x32, a⟩, ⟨S4x4096x32, b⟩] concatenates_S4x4096x32_S4x4096x32_S4x4096x64_d2) : (⟨S4x4096x32, .f32⟩ : BufTy).Contents (Elt Ideal) → (⟨S4x4096x32, .f32⟩ : BufTy).Contents (Elt Ideal) → (⟨S4x4096x64, .f32⟩ : BufTy).Contents (Elt Ideal))

theorem take_eq : (hostOps0 : List (HloOp τ sig (Elt Ideal))).take 12 = hostOps0.take 11 ++ [opS] := rfl

theorem read10 : after (hostOps0.take 12) σ main_v10 = swap (extractStridedSlice S4x4096x64 ![0, 0, 10240] (σ main_arg1 : FVec Ideal S4x4096x32832 .f32) slices_S4x4096x32832_S4x4096x64_0_0_10240) := by
  rw [take_eq, after_app, after_cons, after_nil, binary_result, read8, read9]
  rfl

/-- The prepared weights. -/
def wts (w : FVec Ideal S4x4096x32832 .f32) : FVec Ideal S4x4096x33280 .bf16 :=
  truncf .bf16 (cols (extractStridedSlice S4x4096x1536 ![0, 0, 8192] w slices_S4x4096x32832_S4x4096x1536_0_0_8192)
    (extractStridedSlice S4x4096x512 ![0, 0, 9728] w slices_S4x4096x32832_S4x4096x512_0_0_9728)
    (extractStridedSlice S4x4096x8192 ![0, 0, 0] w slices_S4x4096x32832_S4x4096x8192_0_0_0)
    (extractStridedSlice S4x4096x12288 ![0, 0, 20544] w slices_S4x4096x32832_S4x4096x12288_0_0_20544)
    (extractStridedSlice S4x4096x8192 ![0, 0, 12352] w slices_S4x4096x32832_S4x4096x8192_0_0_12352)
    (extractStridedSlice S4x4096x2048 ![0, 0, 10304] w slices_S4x4096x32832_S4x4096x2048_0_0_10304)
    (extractStridedSlice S4x4096x64 ![0, 0, 10240] w slices_S4x4096x32832_S4x4096x64_0_0_10240)
    (swap (extractStridedSlice S4x4096x64 ![0, 0, 10240] w slices_S4x4096x32832_S4x4096x64_0_0_10240))
    (broadcastInDim S4x4096x384 ![] bcast_S_S4x4096x384 (constant S_ .f32 0x00000000#32 : FVec Ideal S_ .f32))) bitsLt_bf16_f32

theorem entry_split : after ((hostOps0 : List (HloOp τ sig (Elt Ideal))).take 12 ++ opsT) σ main_v12 = wts (σ main_arg1) := by
  rw [after_app, readT, read0, read1, read2, read3, read4, read5, read6, read7, read10]
  rfl

theorem entry : after hostOps0 σ main_v12 = wts (σ main_arg1) :=
  (congrArg (fun l => after l σ (Proc.devRef .tc main_v12)) (host_eq (F := Ideal))).trans (entry_split σ)

theorem wts_at (w : FVec Ideal S4x4096x32832 .f32) (l : Fin 4) (k : Fin 4096) (n : Fin 33280) : wts w (ix3 l k n) = pick n fun q => w (ix3 l k q) := by
  pointwise [wts, cols, swap]
  unfold pick
  have hz : ∀ q q' : Fin 32832, q.val = q'.val → w (ix3 l k q) = w (ix3 l k q') := fun q q' e => congrArg (fun q => w (ix3 l k q)) (Fin.ext e)
  refine rungs (by omega) (by omega) (fun h h' => hz _ _ (by first | (simp only; done) | (simp only; omega))) (fun h1 h h' => hz _ _ (by first | (simp only; done) | (simp only; omega))) fun _ _ => ?_
  iterate 5 refine rung (by omega) (fun h h' => hz _ _ (by first | (simp only; done) | (simp only; omega))) fun _ _ => ?_
  have hx : n.val - 1536 - 512 - 8192 - 12288 - 8192 - 2048 - 64 < 64 ↔ n.val < 32896 := by omega
  have hy : n.val - 1536 - 512 - 8192 - 12288 - 8192 - 2048 - 64 < 32 ↔ n.val < 32864 := by omega
  by_cases h : n.val < 32864
  · refine (dif_pos (hx.2 (by omega))).trans ((dif_pos (hy.2 h)).trans (Eq.trans ?_ (dif_pos h).symm))
    exact hz _ _ (by simp only; omega)
  · by_cases h' : n.val < 32896
    · refine (dif_pos (hx.2 h')).trans ((dif_neg fun g => h (hy.1 g)).trans (Eq.trans ?_ ((dif_neg h).trans (dif_pos h')).symm))
      exact hz _ _ (by simp only; omega)
    · exact (dif_neg fun g => h' (hx.1 g)).trans ((dif_neg h).trans (dif_neg h')).symm

end Cert.Proof.Kernel2Ideal

end
-- ==== Proof.InProj.lean ====
/- The input projection: every block of the result is the reference's, and the reference's run. -/
module

public import proofs.«01_k».proof.Proof.InCols
public import proofs.«01_k».proof.Proof.InRange

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic Idealize.SL.Sem

/-- The result: the product's columns in the kernel's order. -/
abbrev REF (h : FVec Ideal S16384x4096 .bf16) (w : FVec Ideal S4x4096x32832 .f32) (n : Nat) (hn : n < 4) : FVec Ideal S16384x33280 .bf16 :=
  Cert.Proof.Reference2Ideal.res (Cert.Proof.Reference2Ideal.prod h w n hn)

theorem REF_at (h : FVec Ideal S16384x4096 .bf16) (w : FVec Ideal S4x4096x32832 .f32) (n : Nat) (hn : n < 4) (i : Fin 16384) (j : Fin 33280) :
    REF h w n hn (ix2 i j) = ∑ k : Fin 4096, (h (ix2 i k) : EReal) * wts w (ix3 ⟨n, hn⟩ k j) := by
  rw [REF, Reference2Ideal.res_at]
  simp only [Reference2Ideal.prod_at, wts_at]
  exact pick_sum j _ _

theorem pay_at (x : FVec Ideal S1024x4096 .bf16) (w : FVec Ideal S1x4096x512 .bf16) (i : Fin 1024) (j : Fin 512) :
    k0_pay1 x w (ix2 i j) = ∑ k : Fin 4096, (x (ix2 i k) : EReal) * w (ix3 0 k j) := by
  pointwise [k0_pay1]

theorem idx0 : ∀ t : Fin grid0.N, cc0_transform_0 (grid0.coords t) = ![(grid0.coords t 0).val, 0] := by decide +kernel
theorem idx2 : ∀ t : Fin grid0.N, cc0_transform_2 (grid0.coords t) = ![(grid0.coords t 0).val, (grid0.coords t 1).val] := by decide +kernel
theorem onto : ∀ (a : Fin 16) (b : Fin 65), cc0_transform_2 (grid0.coords ⟨a.val * 65 + b.val, by have := a.isLt; have := b.isLt; show _ < 1040; omega⟩) = ![a.val, b.val] := by decide +kernel

variable (m : (ℓ : Loc nD τ sig) → Buf (Elt Ideal) ℓ) (c : Dev nD) (hO : Ok m) (n : Nat) (hn : n < 4)

abbrev REFm : FVec Ideal S16384x33280 .bf16 :=
  REF (m ((c.tc : Thread nD τ).loc main_arg0)) (m ((c.tc : Thread nD τ).loc main_arg1)) n hn

theorem covers : ((cfgM m hO).win 2).Covers := by
  have key : ∀ β : (a : Fin 2) → Fin (((cfgM m hO).win 2).nblk a), ∃ t : Fin grid0.N, ∀ a : Fin 2, cc0_transform_2 (grid0.coords t) a = (β a).val := fun β => by
    have n0 : ((cfgM m hO).win 2).nblk (0 : Fin 2) = 16 := (by decide : (S16384x33280.size 0 + S1024x512.size 0 - 1) / S1024x512.size 0 = 16)
    have n1 : ((cfgM m hO).win 2).nblk (1 : Fin 2) = 65 := (by decide : (S16384x33280.size 1 + S1024x512.size 1 - 1) / S1024x512.size 1 = 65)
    have h0 : (β 0).val < 16 := n0 ▸ (β 0).isLt
    have h1 : (β 1).val < 65 := n1 ▸ (β 1).isLt
    refine ⟨⟨(β 0).val * 65 + (β 1).val, by show _ < 1040; omega⟩, fun a => ?_⟩
    have e := congrFun (onto ⟨(β 0).val, h0⟩ ⟨(β 1).val, h1⟩) a
    refine e.trans ?_
    fin_cases a <;> rfl
  refine ⟨fun a => ?_, fun β => ?_⟩
  · revert a
    show ∀ a : Fin 2, 0 < S1024x512.size a
    decide
  · obtain ⟨t, ht⟩ := key β
    exact ⟨t, flush0_2 _ _, fun a => ⟨ht a, .inl rfl⟩⟩

theorem emb0 (t : Fin grid0.N) (i : Fin 1024) (k : Fin 4096) (r : Fin 16384) (hr : r.val = (grid0.coords t 0).val * 1024 + i.val) :
    (((cfgM m hO).win 0).blk t).view.emb (ix2 i k) = (ix2 r k : S16384x4096.Idx) := by
  funext a
  apply Fin.ext
  fin_cases a
  · show cc0_transform_0 (grid0.coords t) 0 * 1024 + 1 * i.val = r.val
    rw [idx0 t, hr]
    show (grid0.coords t 0).val * 1024 + 1 * i.val = _
    omega
  · show cc0_transform_0 (grid0.coords t) 1 * 4096 + 1 * k.val = k.val
    rw [idx0 t]
    show 0 * 4096 + 1 * k.val = _
    omega

theorem emb1 (hl : ∀ i, tbl m 0 i = BitVec.ofNat 32 n) (t : Fin grid0.N) (k : Fin 4096) (j : Fin 512) (q : Fin 33280) (hq : q.val = (grid0.coords t 1).val * 512 + j.val) :
    (((cfgM m hO).win 1).blk t).view.emb (ix3 (0 : Fin 1) k j) = (ix3 ⟨n, hn⟩ k q : S4x4096x33280.Idx) := by
  have e : cc0_transform_1 inb_S1_S1_0 numel1_S1 (tbl m) (grid0.coords t) = ![n, 0, (grid0.coords t 1).val] := transform_1 (tbl m) n hn hl (grid0.coords t)
  funext a
  apply Fin.ext
  fin_cases a
  · show cc0_transform_1 inb_S1_S1_0 numel1_S1 (tbl m) (grid0.coords t) 0 * 1 + 1 * 0 = n
    rw [e]
    show n * 1 + 1 * 0 = n
    omega
  · show cc0_transform_1 inb_S1_S1_0 numel1_S1 (tbl m) (grid0.coords t) 1 * 4096 + 1 * k.val = k.val
    rw [e]
    show 0 * 4096 + 1 * k.val = _
    omega
  · show cc0_transform_1 inb_S1_S1_0 numel1_S1 (tbl m) (grid0.coords t) 2 * 512 + 1 * j.val = q.val
    rw [e, hq]
    show (grid0.coords t 1).val * 512 + 1 * j.val = _
    omega

theorem emb2 (t : Fin grid0.N) (i : Fin 1024) (j : Fin 512) (r : Fin 16384) (hr : r.val = (grid0.coords t 0).val * 1024 + i.val)
    (q : Fin 33280) (hq : q.val = (grid0.coords t 1).val * 512 + j.val) :
    (((cfgM m hO).win 2).blk t).view.emb (ix2 i j) = (ix2 r q : S16384x33280.Idx) := by
  funext a
  apply Fin.ext
  fin_cases a
  · show cc0_transform_2 (grid0.coords t) 0 * 1024 + 1 * i.val = r.val
    rw [idx2 t, hr]
    show (grid0.coords t 0).val * 1024 + 1 * i.val = _
    omega
  · show cc0_transform_2 (grid0.coords t) 1 * 512 + 1 * j.val = q.val
    rw [idx2 t, hq]
    show (grid0.coords t 1).val * 512 + 1 * j.val = _
    omega

theorem point (hl : ∀ i, tbl m 0 i = BitVec.ofNat 32 n) (t : Fin grid0.N) (i : Fin 1024) (j : Fin 512) :
    k0_pay1 (iblk m hO c 0 t) (iblk m hO c 1 t) (ix2 i j) = REFm m c n hn ((((cfgM m hO).win 2).blk t).view.emb (ix2 i j)) := by
  have c0 : (grid0.coords t 0).val < 16 := (grid0.coords t 0).isLt
  have c1 : (grid0.coords t 1).val < 65 := (grid0.coords t 1).isLt
  have hi := i.isLt
  have hj := j.isLt
  rw [emb2 m hO t i j ⟨(grid0.coords t 0).val * 1024 + i.val, by omega⟩ rfl ⟨(grid0.coords t 1).val * 512 + j.val, by omega⟩ rfl, REFm, REF_at]
  refine (pay_at _ _ i j).trans (Finset.sum_congr rfl fun k _ => congrArg₂ (fun a b : EReal => a * b) ?_ ?_)
  · show V m c main_arg0 ((((cfgM m hO).win 0).blk t).view.emb (ix2 i k)) = _
    rw [emb0 m hO t i k ⟨(grid0.coords t 0).val * 1024 + i.val, by omega⟩ rfl, V_main_arg0]
  · show V m c main_v12 ((((cfgM m hO).win 1).blk t).view.emb (ix3 (0 : Fin 1) k j)) = _
    rw [emb1 m hO n hn hl t k j ⟨(grid0.coords t 1).val * 512 + j.val, by omega⟩ rfl]
    exact congrFun (entry fun b => m (c, b)) _

theorem point_y (hl : ∀ i, tbl m 0 i = BitVec.ofNat 32 n) (t : Fin grid0.N) (y : S1024x512.Idx) :
    k0_pay1 (iblk m hO c 0 t) (iblk m hO c 1 t) y = REFm m c n hn ((((cfgM m hO).win 2).blk t).view.emb y) := by
  obtain ⟨i, j, rfl⟩ : ∃ (i : Fin 1024) (j : Fin 512), y = ix2 i j := ⟨y 0, y 1, by funext a; fin_cases a <;> rfl⟩
  exact point m c hO n hn hl t i j

theorem final (hl : ∀ i, tbl m 0 i = BitVec.ofNat 32 n) : (dats m hO 0 c).arrAt 2 (cfgM m hO).N = REFm m c n hn := by
  refine (dats m hO 0 c).arrAt_eq_of_covers 2 _ (covers m hO) fun t _ y => ?_
  blk_simp
  rw [after0_2]
  unfold outsAt0
  frame_out
  exact (congrFun (congrArg₂ k0_pay1 (Memref.IsWhole.read_unread _ _) (Memref.IsWhole.read_unread _ _)) y).trans (point_y m c hO n hn hl t y)

end Cert.Proof.Kernel2Ideal

namespace Cert.Proof.Reference2Ideal

open Cert.Reference2Ideal Cert.Reference2Ideal.Gen
open Idealize.ShloMosaic Idealize.ShloMosaic.TcCoe Idealize.ShloMosaic.Tactic Idealize.ShloMosaic.StableHlo Idealize.SL.Sem

theorem kept0 (σ : Valuation τ sig (Elt Ideal)) : after (opsI ++ (opsJ ++ (opsA ++ opsB))) σ main_arg0 = σ main_arg0 := by
  rw [after_app, after_app, after_app]; after_reads_simp
theorem kept1 (σ : Valuation τ sig (Elt Ideal)) : after (opsI ++ (opsJ ++ (opsA ++ opsB))) σ main_arg1 = σ main_arg1 := by
  rw [after_app, after_app, after_app]; after_reads_simp
theorem kept2 (σ : Valuation τ sig (Elt Ideal)) : after (opsI ++ (opsJ ++ (opsA ++ opsB))) σ main_arg2 = σ main_arg2 := by
  rw [after_app, after_app, after_app]; after_reads_simp

theorem ops_sub : (opsI (F := Ideal) ++ (opsJ ++ (opsA ++ opsB))).Forall fun op : HloOp τ sig (Elt Ideal) => op.bufs ⊆ tcRefs τ sig := by
  rw [List.forall_append, List.forall_append, List.forall_append]
  exact ⟨opsI_sub, opsJ_sub, opsA_sub, opsB_sub⟩

/-- Every run ends with the arrays at the operations' results and the arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v24) = after (opsI ++ (opsJ ++ (opsA ++ opsB))) (fun b => m (c, b)) main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c main_v24, (h c main_arg0).trans (kept0 _), (h c main_arg1).trans (kept1 _), (h c main_arg2).trans (kept2 _)⟩)
    (run_seq no_scoped_refs no_scoped_sems defs main (fun _ => opsI ++ (opsJ ++ (opsA ++ opsB))) main_eq (fun _ => ops_sub) m g)

end Cert.Proof.Reference2Ideal

namespace Cert.Proof

open Idealize.ShloMosaic Idealize.ShloMosaic.TcCoe Idealize.SL.Sem

theorem algebraic2 : letI := inRangeFacts; Cert.algebraic_Kernel2Ideal_Reference2Ideal := by
  intro m g m' g' hpre hagree
  have hO := Kernel2Ideal.ok_of_pre m hpre
  obtain ⟨n, hn, hl⟩ := layer_of_pre _ _ _ (hpre 0)
  have ht : ∀ i, Cert.Kernel2Ideal.Gen.tbl m 0 i = BitVec.ofNat 32 n := fun i => (congrFun (Cert.Kernel2Ideal.Gen.V_main_arg2 m 0) i).trans (hl i)
  refine ⟨fun c => Kernel2Ideal.REFm m c n hn, ?_, ?_⟩
  · refine (θ_run Cert.Kernel2Ideal.defs _ _).mono (fun r h c => ⟨?_, h.2 c⟩) (θ_run_and (Cert.Kernel2Ideal.Gen.run_main m g hO) (Cert.Kernel2Ideal.Gen.unchanged m g hO))
    exact ((h.1 c).1 2).trans (Kernel2Ideal.final m c hO n hn ht)
  · refine (θ_run Cert.Reference2Ideal.defs _ _).mono (fun r h c => ⟨(h c).1.trans ?_, (h c).2⟩) (Reference2Ideal.run m' g')
    obtain ⟨e0, e1, e2⟩ := hagree c
    obtain rfl : c = 0 := Subsingleton.elim _ _
    refine (Reference2Ideal.result _ n hn ?_).trans ?_
    · show (m' (((0 : Dev Cert.Reference2Ideal.nD).tc : Thread Cert.Reference2Ideal.nD Cert.Reference2Ideal.τ).loc Cert.Reference2Ideal.main_arg2) _ : BitVec 32).toInt = n
      rw [e2]
      refine (congrArg BitVec.toInt (hl _)).trans ?_
      rw [toInt_ofNat_of_lt (by omega)]
    · exact congrArg₂ (fun a b => Kernel2Ideal.REF a b n hn) e0 e1

end Cert.Proof

end
-- ==== Proof.OutProj.lean ====
/- The output projection: every block of the result is the reference's. -/
module

public import proofs.«01_k».proof.Defs
public import proofs.«01_k».proof.Proof.Gen.Kernel3Ideal.Frame
public import proofs.«01_k».proof.Proof.Gen.Reference3Ideal.Run
public import Idealize.ShloMosaic.Lib.Pipeline.ValueKit

@[expose] public section

set_option maxRecDepth 16384

noncomputable section

namespace Cert.Proof.Kernel3Ideal

open Cert.Kernel3Ideal Cert.Kernel3Ideal.Gen
open Idealize.ShloMosaic Idealize.ShloMosaic.TcCoe Idealize.ShloMosaic.Tactic Idealize.SL.Sem

/-- The reference's result. -/
abbrev REF (a : FVec Ideal S16384x4096 .bf16) (w : FVec Ideal S4096x4096 .f32) (x : FVec Ideal S16384x4096 .f32) : FVec Ideal S16384x4096 .f32 :=
  addf x (Host.dotGeneral Cert.Reference3Ideal.dot_S16384x4096_S4096x4096_S16384x4096_1_0_0_1_n_n none (extf .f32 a Cert.Reference3Ideal.Gen.bitsLt_bf16_f32) w)

theorem idx : ∀ t : Fin cfg0.N,
    win0_0.index t = ![(grid0.coords t 0).val, 0] ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

variable (m : (ℓ : Loc nD τ sig) → Buf (Elt Ideal) ℓ) (c : Dev nD)

abbrev REFm : FVec Ideal S16384x4096 .f32 :=
  REF (m ((c.tc : Thread nD τ).loc main_arg0)) (m ((c.tc : Thread nD τ).loc main_arg1)) (m ((c.tc : Thread nD τ).loc main_arg2))

theorem point (t : Fin cfg0.N) (y) : k0_pay1 (iblk m c 2 t) (iblk m c 0 t) (iblk m c 1 t) y = REFm m c (((cfg0.win 3).blk t).view.emb y) := by
  pointwise [k0_pay1, REFm, REF]
  blk_point [iblk, V, idx t]

theorem final : (dats m 0 c).arrAt 3 (cfgs 0).N = REFm m c := by
  refine (dats m 0 c).arrAt_eq_of_covers 3 _ (by decide +kernel) fun t _ y => ?_
  blk_simp
  rw [after0_3]
  frame_out
  exact point m c t y

end Cert.Proof.Kernel3Ideal

namespace Cert.Proof

open Idealize.ShloMosaic Idealize.ShloMosaic.TcCoe Idealize.SL.Sem

theorem algebraic3 : Cert.algebraic_Kernel3Ideal_Reference3Ideal := by
  intro m g m' g' _ hagree
  refine ⟨fun c => Kernel3Ideal.REFm m c, ?_, ?_⟩
  · refine (θ_run Cert.Kernel3Ideal.defs _ _).mono (fun r h c => ⟨?_, h.2 c⟩) (θ_run_and (Cert.Kernel3Ideal.Gen.run_main m g) (Cert.Kernel3Ideal.Gen.unchanged m g))
    exact ((h.1 c).1 3).trans (Kernel3Ideal.final m c)
  · refine (θ_run Cert.Reference3Ideal.defs _ _).mono (fun r h c => ⟨(h c).1.trans ?_, (h c).2⟩) (Cert.Reference3Ideal.Value.run (F := Ideal) m' g')
    obtain ⟨e0, e1, e2⟩ := hagree c
    rw [e0, e1, e2]

end Cert.Proof

end
-- ==== Proof.Merge.lean ====
/- The merge of the three branches: every block of the result is the reference's. -/
module

public import proofs.«01_k».proof.Defs
public import proofs.«01_k».proof.Proof.Gen.Kernel4Ideal.Frame
public import proofs.«01_k».proof.Proof.Gen.Reference4Ideal.Run
public import Idealize.ShloMosaic.Lib.Pipeline.ValueKit

@[expose] public section

set_option maxRecDepth 16384

noncomputable section

namespace Cert.Proof.Kernel4Ideal

open Cert.Kernel4Ideal Cert.Kernel4Ideal.Gen
open Idealize.ShloMosaic Idealize.ShloMosaic.TcCoe Idealize.ShloMosaic.Tactic Idealize.SL.Sem

/-- The reference's sigmoid of a gate. -/
abbrev gate (s : FVec Ideal S16384x4096 .bf16) : FVec Ideal S16384x4096 .f32 :=
  Host.divf (broadcastInDim S16384x4096 ![] Cert.Reference4Ideal.Gen.bcast_S_S16384x4096 (constant Cert.Reference4Ideal.S_ .f32 0x3F800000#32))
    (addf (broadcastInDim S16384x4096 ![] Cert.Reference4Ideal.Gen.bcast_S_S16384x4096 (constant Cert.Reference4Ideal.S_ .f32 0x3F800000#32))
      (Host.exp (Host.negf (extf .f32 s Cert.Reference4Ideal.Gen.bitsLt_bf16_f32))))

/-- A branch's result through its weights. -/
abbrev through (y : FVec Ideal S16384x2048 .bf16) (w : FVec Ideal S2048x4096 .f32) : FVec Ideal S16384x4096 .f32 :=
  Host.dotGeneral Cert.Reference4Ideal.dot_S16384x2048_S2048x4096_S16384x4096_1_0_0_1_n_n none (extf .f32 y Cert.Reference4Ideal.Gen.bitsLt_bf16_f32) w

/-- The reference's result. -/
abbrev REF (ya yb yc : FVec Ideal S16384x2048 .bf16) (wa wb wc : FVec Ideal S2048x4096 .f32) (z : FVec Ideal S16384x33280 .bf16) : FVec Ideal S16384x4096 .bf16 :=
  truncf .bf16
    (addf (addf
      (mulf (gate (extractStridedSlice S16384x4096 ![0, 10240] z Cert.Reference4Ideal.Gen.slices_S16384x33280_S16384x4096_0_10240)) (through ya wa))
      (mulf (gate (extractStridedSlice S16384x4096 ![0, 14336] z Cert.Reference4Ideal.Gen.slices_S16384x33280_S16384x4096_0_14336)) (through yb wb)))
      (mulf (gate (extractStridedSlice S16384x4096 ![0, 18432] z Cert.Reference4Ideal.Gen.slices_S16384x33280_S16384x4096_0_18432)) (through yc wc)))
    Cert.Reference4Ideal.Gen.bitsLt_bf16_f32

theorem one_bits : Ideal.ofBits .f32 0x3F800000#32 = (1 : EReal) := by
  simp [Ideal.ofBits, Ideal.ieee]
  rw [← EReal.coe_mul]
  norm_num

theorem idx : ∀ t : Fin cfg0.N,
    (win0_0.index t = ![(grid0.coords t 0).val, 0] ∧ win0_1.index t = ![(grid0.coords t 0).val, 0] ∧ win0_2.index t = ![(grid0.coords t 0).val, 0])
    ∧ (win0_3.index t = ![0, (grid0.coords t 1).val] ∧ win0_4.index t = ![0, (grid0.coords t 1).val] ∧ win0_5.index t = ![0, (grid0.coords t 1).val])
    ∧ win0_6.index t = ![(grid0.coords t 0).val, 10 + (grid0.coords t 1).val]
    ∧ win0_7.index t = ![(grid0.coords t 0).val, 14 + (grid0.coords t 1).val]
    ∧ win0_8.index t = ![(grid0.coords t 0).val, 18 + (grid0.coords t 1).val]
    ∧ win0_9.index t = ![(grid0.coords t 0).val, (grid0.coords t 1).val] :=
  (by decide +kernel : ∀ t : Fin grid0.N, _)

variable (m : (ℓ : Loc nD τ sig) → Buf (Elt Ideal) ℓ) (c : Dev nD)

abbrev REFm : FVec Ideal S16384x4096 .bf16 :=
  REF (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

theorem rows_lt (t : Fin cfg0.N) : (grid0.coords t 0).val < 32 := (grid0.coords t 0).isLt
theorem cols_lt (t : Fin cfg0.N) : (grid0.coords t 1).val < 4 := (grid0.coords t 1).isLt

/-- An index of the gates' columns: `o` blocks in, at the grid point's block. -/
def gateAt (t : Fin cfg0.N) (o : ℕ) (ho : o ≤ 18) (y : S512x1024.Idx) : S16384x33280.Idx :=
  ix2 ⟨(grid0.coords t 0).val * 512 + (y 0).val, by have := rows_lt t; have : (y 0).val < 512 := (y 0).isLt; omega⟩
    ⟨(o + (grid0.coords t 1).val) * 1024 + (y 1).val, by have := cols_lt t; have : (y 1).val < 1024 := (y 1).isLt; omega⟩

theorem X6 (t : Fin cfg0.N) (y : S512x1024.Idx) : (X0_6 m c t y : EReal) = m ((c.tc : Thread nD τ).loc main_arg6) (gateAt t 10 (by omega) y) := by
  unfold X0_6 Pipeline.Window.fill gateAt
  rw [dif_pos (moved0_6 t y)]
  blk_ext [iblk, V, idx t]
theorem X7 (t : Fin cfg0.N) (y : S512x1024.Idx) : (X0_7 m c t y : EReal) = m ((c.tc : Thread nD τ).loc main_arg6) (gateAt t 14 (by omega) y) := by
  unfold X0_7 Pipeline.Window.fill gateAt
  rw [dif_pos (moved0_7 t y)]
  blk_ext [iblk, V, idx t]
theorem X8 (t : Fin cfg0.N) (y : S512x1024.Idx) : (X0_8 m c t y : EReal) = m ((c.tc : Thread nD τ).loc main_arg6) (gateAt t 18 (by omega) y) := by
  unfold X0_8 Pipeline.Window.fill gateAt
  rw [dif_pos (moved0_8 t y)]
  blk_ext [iblk, V, idx t]

theorem point (t : Fin cfg0.N) (y) :
    k0_pay1 (X0_6 m c t) (iblk m c 0 t) (iblk m c 3 t) (X0_7 m c t) (iblk m c 1 t) (iblk m c 4 t) (X0_8 m c t) (iblk m c 2 t) (iblk m c 5 t) y
      = REFm m c (((cfg0.win 9).blk t).view.emb y) := by
  pointwise [k0_pay1, REFm, REF, gate, through, one_bits, Ideal.logistic]
  rw [X6, X7, X8]
  unfold gateAt
  blk_point [iblk, V, idx t]

theorem final : (dats m 0 c).arrAt 9 (cfgs 0).N = REFm m c := by
  refine (dats m 0 c).arrAt_eq_of_covers 9 _ (by decide +kernel) fun t _ y => ?_
  blk_simp
  rw [after0_9]
  unfold outsAt0
  frame_out
  exact point m c t y

end Cert.Proof.Kernel4Ideal

namespace Cert.Proof

open Idealize.ShloMosaic Idealize.ShloMosaic.TcCoe Idealize.SL.Sem

theorem algebraic4 : Cert.algebraic_Kernel4Ideal_Reference4Ideal := by
  intro m g m' g' _ hagree
  refine ⟨fun c => Kernel4Ideal.REFm m c, ?_, ?_⟩
  · refine (θ_run Cert.Kernel4Ideal.defs _ _).mono (fun r h c => ⟨?_, h.2 c⟩) (θ_run_and (Cert.Kernel4Ideal.Gen.run_main m g) (Cert.Kernel4Ideal.Gen.unchanged m g))
    exact ((h.1 c).1 9).trans (Kernel4Ideal.final m c)
  · refine (θ_run Cert.Reference4Ideal.defs _ _).mono (fun r h c => ⟨(h c).1.trans ?_, (h c).2⟩) (Cert.Reference4Ideal.Value.run (F := Ideal) m' g')
    obtain ⟨e0, e1, e2, e3, e4, e5, e6⟩ := hagree c
    rw [e0, e1, e2, e3, e4, e5, e6]

end Cert.Proof

end
-- ==== Proof.Norm.lean ====
/- The final norm: every block of the result is the reference's. -/
module

public import proofs.«01_k».proof.Defs
public import proofs.«01_k».proof.Proof.Gen.Kernel5Ideal.Frame
public import proofs.«01_k».proof.Proof.Gen.Reference5Ideal.Run
public import Idealize.ShloMosaic.Lib.Pipeline.ValueKit
public import Idealize.ShloMosaic.Lib.StableHlo.RunRead

@[expose] public section

set_option maxRecDepth 16384

noncomputable section

namespace Cert.Proof.Reference5Ideal

open Cert.Reference5Ideal Cert.Reference5Ideal.Gen
open Idealize.ShloMosaic Idealize.ShloMosaic.TcCoe Idealize.ShloMosaic.Tactic

/-- A row by the root of its mean square, by the gain. -/
def scaled (f : Fin 4096 → EReal) (g : EReal) (j : Fin 4096) : EReal :=
  f j * Ideal.rsqrt (Ideal.div (∑ k, f k * f k) (Ideal.ofBits .f32 0x45800000#32) + Ideal.ofBits .f32 0x358637BD#32) * g

/-- The reference's result. -/
def REF (x : FVec Ideal S16384x4096 .f32) (g : FVec Ideal S4096 .f32) : FVec Ideal S16384x4096 .f32 :=
  mulf (mulf x (broadcastInDim S16384x4096 ![0, 1] bcast_S16384x1_S16384x4096_0_1 (Host.rsqrt (addf (Host.divf (broadcastInDim S16384x1 ![0] bcast_S16384_S16384x1_0
    (Host.reduceAdd (mulf x x) (constant S_ .f32 0x00000000#32) reducesTo_S16384x4096_S16384_d1 h_S_)) (broadcastInDim S16384x1 ![] bcast_S_S16384x1 (constant S_ .f32 0x45800000#32)))
    (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 g))

theorem REF_at (x : FVec Ideal S16384x4096 .f32) (g : FVec Ideal S4096 .f32) (i : Fin 16384) (j : Fin 4096) :
    REF x g (ix2 i j) = scaled (fun k => x (ix2 i k)) (g (ix1 j)) j := by
  pointwise [REF, scaled]

end Cert.Proof.Reference5Ideal

namespace Cert.Proof.Kernel5Ideal

open Cert.Kernel5Ideal Cert.Kernel5Ideal.Gen Cert.Proof.Reference5Ideal
open Idealize.ShloMosaic Idealize.ShloMosaic.TcCoe Idealize.ShloMosaic.Tactic Idealize.SL.Sem

theorem pay_at (x : FVec Ideal S256x4096 .f32) (g : FVec Ideal S1x4096 .f32) (i : Fin 256) (j : Fin 4096) :
    k0_pay1 (F := Ideal) x g (ix2 i j) = scaled (fun k => x (ix2 i k)) (g (ix2 0 j)) j := by
  pointwise [k0_pay1, scaled]

theorem idx : ∀ t : Fin cfg0.N, win0_0.index t = ![(grid0.coords t 0).val, 0] ∧ win0_1.index t = ![0, 0] ∧ win0_2.index t = ![(grid0.coords t 0).val, 0] :=
  (by decide +kernel : ∀ t : Fin grid0.N, _)

variable (m : (ℓ : Loc nD τ sig) → Buf (Elt Ideal) ℓ) (c : Dev nD)

abbrev REFm : FVec Ideal S16384x4096 .f32 :=
  REF (m ((c.tc : Thread nD τ).loc main_arg0)) (m ((c.tc : Thread nD τ).loc main_arg1))

theorem emb0 (t : Fin cfg0.N) (i : Fin 256) (k : Fin 4096) (r : Fin 16384) (hr : r.val = (grid0.coords t 0).val * 256 + i.val) :
    ((cfg0.win 0).blk t).view.emb (ix2 i k) = (ix2 r k : S16384x4096.Idx) := by
  have e := (idx t).1
  funext a
  apply Fin.ext
  fin_cases a
  · show win0_0.index t 0 * 256 + 1 * i.val = r.val
    rw [e, hr]
    show (grid0.coords t 0).val * 256 + 1 * i.val = _
    omega
  · show win0_0.index t 1 * 4096 + 1 * k.val = k.val
    rw [e]
    show 0 * 4096 + 1 * k.val = _
    omega

theorem emb2 (t : Fin cfg0.N) (i : Fin 256) (k : Fin 4096) (r : Fin 16384) (hr : r.val = (grid0.coords t 0).val * 256 + i.val) :
    ((cfg0.win 2).blk t).view.emb (ix2 i k) = (ix2 r k : S16384x4096.Idx) := by
  have e := (idx t).2.2
  funext a
  apply Fin.ext
  fin_cases a
  · show win0_2.index t 0 * 256 + 1 * i.val = r.val
    rw [e, hr]
    show (grid0.coords t 0).val * 256 + 1 * i.val = _
    omega
  · show win0_2.index t 1 * 4096 + 1 * k.val = k.val
    rw [e]
    show 0 * 4096 + 1 * k.val = _
    omega

theorem emb1 (t : Fin cfg0.N) (j : Fin 4096) : ((cfg0.win 1).blk t).view.emb (ix2 (0 : Fin 1) j) = (ix2 (0 : Fin 1) j : S1x4096.Idx) := by
  have e := (idx t).2.1
  funext a
  apply Fin.ext
  fin_cases a
  · show win0_1.index t 0 * 1 + 1 * 0 = 0
    rw [e]
    rfl
  · show win0_1.index t 1 * 4096 + 1 * j.val = j.val
    rw [e]
    show 0 * 4096 + 1 * j.val = _
    omega

theorem gain : V m c main_v0 = shapeCast S1x4096 (m ((c.tc : Thread nD τ).loc main_arg1) : FVec Ideal S4096 .f32) shapeCasts_S4096_S1x4096 := by
  show StableHlo.after hostOps0 (fun b => m (c, b)) main_v0 = _
  after_reads_simp
  rfl

theorem gain_at (g : FVec Ideal S4096 .f32) (j : Fin 4096) : shapeCast S1x4096 g shapeCasts_S4096_S1x4096 (ix2 (0 : Fin 1) j) = g (ix1 j) := by
  pointwise []

theorem point (t : Fin cfg0.N) (y : S256x4096.Idx) : k0_pay1 (iblk m c 0 t) (iblk m c 1 t) y = REFm m c (((cfg0.win 2).blk t).view.emb y) := by
  obtain ⟨i, j, rfl⟩ : ∃ (i : Fin 256) (j : Fin 4096), y = ix2 i j := ⟨y 0, y 1, by funext a; fin_cases a <;> rfl⟩
  have c0 : (grid0.coords t 0).val < 64 := (grid0.coords t 0).isLt
  have hi := i.isLt
  rw [emb2 t i j ⟨(grid0.coords t 0).val * 256 + i.val, by omega⟩ rfl]
  refine (pay_at _ _ i j).trans (.trans ?_ (REF_at _ _ _ _).symm)
  refine congrArg₂ (fun f g => scaled f g j) (funext fun k => ?_) ?_
  · show V m c main_arg0 (((cfg0.win 0).blk t).view.emb (ix2 i k)) = _
    rw [emb0 t i k ⟨(grid0.coords t 0).val * 256 + i.val, by omega⟩ rfl]
    exact congrFun (V_main_arg0 m c) _
  · show V m c main_v0 (((cfg0.win 1).blk t).view.emb (ix2 (0 : Fin 1) j)) = _
    rw [emb1 t j, gain]
    exact gain_at _ j

theorem final : (dats m 0 c).arrAt 2 (cfgs 0).N = REFm m c := by
  refine (dats m 0 c).arrAt_eq_of_covers 2 _ (by decide +kernel) fun t _ y => ?_
  blk_simp
  rw [after0_2]
  frame_out
  exact point m c t y

end Cert.Proof.Kernel5Ideal

namespace Cert.Proof

open Idealize.ShloMosaic Idealize.ShloMosaic.TcCoe Idealize.SL.Sem

theorem algebraic5 : Cert.algebraic_Kernel5Ideal_Reference5Ideal := by
  intro m g m' g' _ hagree
  refine ⟨fun c => Kernel5Ideal.REFm m c, ?_, ?_⟩
  · refine (θ_run Cert.Kernel5Ideal.defs _ _).mono (fun r h c => ⟨?_, h.2 c⟩) (θ_run_and (Cert.Kernel5Ideal.Gen.run_main m g) (Cert.Kernel5Ideal.Gen.unchanged m g))
    exact ((h.1 c).1 2).trans (Kernel5Ideal.final m c)
  · refine (θ_run Cert.Reference5Ideal.defs _ _).mono (fun r h c => ⟨(h c).1.trans ?_, (h c).2⟩) (Cert.Reference5Ideal.Value.run (F := Ideal) m' g')
    obtain ⟨e0, e1⟩ := hagree c
    rw [e0, e1]
    rfl

end Cert.Proof

end
-- ==== Proof.MlaStep.lean ====
/- Branch B's attention: the blocks of the result as a fold over the chunks of keys, read at a row. -/
module

public import proofs.«01_k».proof.Proof.Sums
public import proofs.«01_k».proof.Proof.Gen.Kernel6Ideal.Frame
public import Idealize.ShloMosaic.Lib.Pipeline.ValueKit

@[expose] public section

set_option maxRecDepth 16384

noncomputable section

namespace Cert.Proof.Kernel6Ideal

open Cert.Kernel6Ideal Cert.Kernel6Ideal.Gen
open Idealize.ShloMosaic Idealize.ShloMosaic.TcCoe Idealize.ShloMosaic.Tactic Idealize.SL.Sem

/-- The chunk of rows that starts at row `o`. -/
def rowsAt (x : Vec Ideal S16384x256 .bf16) (o : ℕ) : Vec Ideal S2048x256 .bf16 := fun i => x (ix2 (Fin.ofNat 16384 (o + (i 0).val)) (i 1))

/-- The running maximum and the running sums over the first `n` chunks. -/
def fold (q : Vec Ideal S512x256 .bf16) (k v : ℕ → Vec Ideal S2048x256 .bf16) : ℕ → FVec Ideal S512x1 .f32 × FVec Ideal S512x256 .f32
  | 0 => (k0_pay2, k0_pay3)
  | n + 1 => (k0_pay12 (fold q k v n).1 (k0_pay6 q (k n)),
      k0_pay11 (fold q k v n).1 (k0_pay6 q (k n)) (k0_pay5 q (k n)) (fold q k v n).2 (v n))

theorem ld_eq (x : Vec Ideal S16384x256 .bf16) (o : ℕ) (ho : o + 2048 ≤ 16384) (inb : ∀ a, (![o, 0] : Fin 2 → ℕ) a + (![2048, 256] : Fin 2 → ℕ) a ≤ S16384x256.size a) :
    View.ld x (Rect.unit (s := S16384x256) ![o, 0] ![2048, 256] inb) = rowsAt x o := by
  funext i
  refine congrArg x ?_
  have h0 : (i 0).val < 2048 := (i 0).isLt
  funext a
  apply Fin.ext
  fin_cases a
  · show o + 1 * (i 0).val = (o + (i 0).val) % 16384
    rw [Nat.mod_eq_of_lt (by omega), one_mul]
  · show 0 + 1 * (i 1).val = (i 1).val
    omega

/-- The chunks as the body loads them. -/
def loads (x : Vec Ideal S16384x256 .bf16) : ℕ → Vec Ideal S2048x256 .bf16
  | 0 => View.ld x (Rect.unit (s := S16384x256) ![0, 0] ![2048, 256] (by decide))
  | 1 => View.ld x (Rect.unit (s := S16384x256) ![2048, 0] ![2048, 256] (by decide))
  | 2 => View.ld x (Rect.unit (s := S16384x256) ![4096, 0] ![2048, 256] (by decide))
  | 3 => View.ld x (Rect.unit (s := S16384x256) ![6144, 0] ![2048, 256] (by decide))
  | 4 => View.ld x (Rect.unit (s := S16384x256) ![8192, 0] ![2048, 256] (by decide))
  | 5 => View.ld x (Rect.unit (s := S16384x256) ![10240, 0] ![2048, 256] (by decide))
  | 6 => View.ld x (Rect.unit (s := S16384x256) ![12288, 0] ![2048, 256] (by decide))
  | _ => View.ld x (Rect.unit (s := S16384x256) ![14336, 0] ![2048, 256] (by decide))

theorem loads_eq (x : Vec Ideal S16384x256 .bf16) : ∀ n < 8, loads x n = rowsAt x (2048 * n) := by
  intro n hn
  interval_cases n <;> exact ld_eq x _ (by decide) _

variable (m : (ℓ : Loc nD τ sig) → Buf (Elt Ideal) ℓ) (c : Dev nD)

theorem out_eq (t : Fin cfg0.N) (y : S512x128.Idx) :
    outsAt0 m c t y = k0_pay1 (k0_pay55 (fold (iblk m c 0 t) (loads (iblk m c 1 t)) (loads (iblk m c 2 t)) 8).2 (iblk m c 3 t)) y := by
  unfold outsAt0
  frame_out
  rfl

/-! The step at a row. -/

theorem ofBits_bot : Ideal.ofBits .f32 0xFF800000#32 = ⊥ := by simp [Ideal.ofBits, Ideal.ieee]

theorem scores_at (q : FVec Ideal S512x256 .bf16) (k : FVec Ideal S2048x256 .bf16) (r : Fin 512) (j : Fin 2048) :
    k0_pay5 (F := Ideal) q k (ix2 r j) = ∑ d, (q (ix2 r d) : EReal) * k (ix2 j d) := by
  pointwise [k0_pay5, k0_pay4]

theorem rowmax_at (q : FVec Ideal S512x256 .bf16) (k : FVec Ideal S2048x256 .bf16) (r : Fin 512) :
    k0_pay6 (F := Ideal) q k (ix2 r 0) = Finset.univ.fold max ⊥ (fun j : Fin 2048 => ∑ d, (q (ix2 r d) : EReal) * k (ix2 j d)) := by
  pointwise [k0_pay6, k0_pay4]
  rw [ofBits_bot]

theorem max_at (a x : FVec Ideal S512x1 .f32) (r : Fin 512) : k0_pay12 (F := Ideal) a x (ix2 r 0) = max (a (ix2 r 0) : EReal) (x (ix2 r 0)) := by
  pointwise [k0_pay12, k0_pay10]

theorem acc_at (a x : FVec Ideal S512x1 .f32) (s : FVec Ideal S512x2048 .f32) (o : FVec Ideal S512x256 .f32) (v : FVec Ideal S2048x256 .bf16) (r : Fin 512) (d : Fin 256) :
    k0_pay11 (F := Ideal) a x s o v (ix2 r d) = Ideal.exp2 ((a (ix2 r 0) : EReal) - max (a (ix2 r 0) : EReal) (x (ix2 r 0))) * o (ix2 r d)
      + ∑ j, Ideal.exp2 ((s (ix2 r j) : EReal) - max (a (ix2 r 0) : EReal) (x (ix2 r 0))) * v (ix2 j d) := by
  pointwise [k0_pay11, k0_pay10]
  rfl

theorem start_m (r : Fin 512) : (k0_pay2 (F := Ideal)) (ix2 r 0) = ⊥ := by
  pointwise [k0_pay2]
  exact ofBits_bot
theorem start_a (r : Fin 512) (d : Fin 256) : (k0_pay3 (F := Ideal)) (ix2 r d) = 0 := by
  pointwise [k0_pay3]

/-- A number gated: by itself times its logistic. -/
def gated (o g : EReal) : EReal := o * (g * Ideal.div 1 (1 + Ideal.exp (-g)))

theorem out_at (a : FVec Ideal S512x256 .f32) (g : FVec Ideal S512x128 .bf16) (r : Fin 512) (d : Fin 128) :
    (k0_pay1 (F := Ideal) (k0_pay55 a g) (ix2 r d) : EReal) = gated (a (ix2 r ⟨d.val, by omega⟩) * Ideal.div 1 (a (ix2 r 128))) (g (ix2 r d)) := by
  pointwise [k0_pay1, k0_pay55, gated]
  rfl

/-! The fold's sums. -/

/-- A non-negative real factor goes into a sum of extended reals. -/
theorem mul_sum_coe {ι : Type} (s : Finset ι) (w : ℝ) (hw : 0 ≤ w) (f : ι → EReal) : (w : EReal) * ∑ k ∈ s, f k = ∑ k ∈ s, (w : EReal) * f k := by
  classical
  induction s using Finset.induction_on with
  | empty => simp
  | insert a s ha ih =>
    rw [Finset.sum_insert ha, Finset.sum_insert ha, EReal.left_distrib_of_nonneg_of_ne_top (by exact_mod_cast hw) (EReal.coe_ne_top _), ih]

theorem shift_sumE (y : ℕ → Fin 2048 → ℝ) (u : ℕ → Fin 2048 → EReal) (n : ℕ) (M M' : ℝ) :
    (((2 : ℝ) ^ (M - M') : ℝ) : EReal) * (∑ j ∈ Finset.range n, ∑ k, (((2 : ℝ) ^ (y j k - M) : ℝ) : EReal) * u j k) + ∑ k, (((2 : ℝ) ^ (y n k - M') : ℝ) : EReal) * u n k
      = ∑ j ∈ Finset.range (n + 1), ∑ k, (((2 : ℝ) ^ (y j k - M') : ℝ) : EReal) * u j k := by
  have h2 : (0 : ℝ) ≤ 2 ^ (M - M') := (Real.rpow_pos_of_pos two_pos _).le
  rw [Finset.sum_range_succ, mul_sum_coe _ _ h2]
  congr 1
  refine Finset.sum_congr rfl fun j _ => ?_
  rw [mul_sum_coe _ _ h2]
  refine Finset.sum_congr rfl fun k _ => ?_
  rw [← mul_assoc, ← EReal.coe_mul, two_pow_shift]

/-- After a chunk or more: a real maximum, and the sums relative to it. -/
theorem online (q : FVec Ideal S512x256 .bf16) (k v : ℕ → FVec Ideal S2048x256 .bf16) (r : Fin 512) (y : ℕ → Fin 2048 → ℝ) (N : ℕ)
    (hy : ∀ n < N, ∀ j, ∑ d, (q (ix2 r d) : EReal) * k n (ix2 j d) = ((y n j : ℝ) : EReal)) :
    ∀ n < N, ∃ M : ℝ, (fold q k v (n + 1)).1 (ix2 r 0) = (M : EReal) ∧
      ∀ d, (fold q k v (n + 1)).2 (ix2 r d) = ∑ i ∈ Finset.range (n + 1), ∑ j, (((2 : ℝ) ^ (y i j - M) : ℝ) : EReal) * (v i (ix2 j d) : EReal)
  | 0, h => by
    obtain ⟨M, hM⟩ := fold_max_coe (fun j => y 0 j)
    have hx : k0_pay6 (F := Ideal) q (k 0) (ix2 r 0) = (M : EReal) := by rw [rowmax_at, funext (hy 0 h), hM]
    have hm : max ((k0_pay2 (F := Ideal)) (ix2 r 0) : EReal) (k0_pay6 (F := Ideal) q (k 0) (ix2 r 0)) = (M : EReal) := by
      rw [start_m, hx]; exact max_eq_right bot_le
    refine ⟨M, (max_at _ _ r).trans hm, fun d => ?_⟩
    refine (acc_at k0_pay2 _ _ k0_pay3 _ r d).trans ?_
    rw [hm, start_a, mul_zero, zero_add, Finset.sum_range_one]
    refine Finset.sum_congr rfl fun j _ => ?_
    rw [scores_at, hy 0 h, ← EReal.coe_sub, exp2_at]
  | n + 1, h => by
    obtain ⟨M₀, h₀, ha⟩ := online q k v r y N hy n (by omega)
    obtain ⟨M₁, hM₁⟩ := fold_max_coe (fun j => y (n + 1) j)
    have hx : k0_pay6 (F := Ideal) q (k (n + 1)) (ix2 r 0) = (M₁ : EReal) := by rw [rowmax_at, funext (hy (n + 1) h), hM₁]
    have hm : max ((fold q k v (n + 1)).1 (ix2 r 0) : EReal) (k0_pay6 (F := Ideal) q (k (n + 1)) (ix2 r 0)) = ((max M₀ M₁ : ℝ) : EReal) := by
      rw [h₀, hx, coe_max]
    refine ⟨max M₀ M₁, (max_at _ _ r).trans hm, fun d => ?_⟩
    refine (acc_at _ _ _ _ _ r d).trans ?_
    rw [hm, h₀, ha d, ← EReal.coe_sub, exp2_at, ← shift_sumE y (fun i j => v i (ix2 j d)) (n + 1) M₀]
    refine congrArg₂ (fun a b : EReal => a + b) rfl (Finset.sum_congr rfl fun j _ => ?_)
    rw [scores_at, hy (n + 1) h, ← EReal.coe_sub, exp2_at]

/-- Values weighted by powers of two of the scores. -/
def attendE (y : Fin 16384 → ℝ) (u : Fin 16384 → EReal) : EReal := ∑ κ, (((2 : ℝ) ^ y κ / ∑ κ', (2 : ℝ) ^ y κ' : ℝ) : EReal) * u κ

/-- Key `j` of chunk `n`. -/
def key (n : ℕ) (j : Fin 2048) : Fin 16384 := Fin.ofNat 16384 (2048 * n + j.val)

theorem sum_keys {A : Type} [AddCommMonoid A] (f : Fin 16384 → A) : (∑ n ∈ Finset.range 8, ∑ j, f (key n j)) = ∑ κ, f κ := by
  have h1 : ∀ n : Fin 8, (∑ j, f (key n.val j)) = ∑ j : Fin 2048, f (finProdFinEquiv (n, j)) := fun n =>
    Finset.sum_congr rfl fun j _ => congrArg f (Fin.ext (by
      rw [finProdFinEquiv_apply_val]
      show (2048 * n.val + j.val) % 16384 = j.val + 2048 * n.val
      have := n.isLt; have := j.isLt
      rw [Nat.mod_eq_of_lt (by omega)]; omega))
  rw [Finset.sum_range, Finset.sum_congr rfl fun n _ => h1 n, ← Fintype.sum_prod_type']
  exact (finProdFinEquiv (m := 8) (n := 2048)).sum_comp f

/-- The sums at the end, normalised. -/
theorem normed (y : Fin 16384 → ℝ) (u : Fin 16384 → EReal) (M : ℝ) :
    (∑ n ∈ Finset.range 8, ∑ j, (((2 : ℝ) ^ (y (key n j) - M) : ℝ) : EReal) * u (key n j))
      * Ideal.div 1 (∑ n ∈ Finset.range 8, ∑ j, (((2 : ℝ) ^ (y (key n j) - M) : ℝ) : EReal) * 1) = attendE y u := by
  have hpos : 0 < ∑ κ, (2 : ℝ) ^ y κ := Finset.sum_pos (fun κ _ => Real.rpow_pos_of_pos two_pos _) Finset.univ_nonempty
  have hsh : ∀ κ, (2 : ℝ) ^ (y κ - M) = 2 ^ y κ * ((2 : ℝ) ^ M)⁻¹ := fun κ => by rw [Real.rpow_sub two_pos, div_eq_mul_inv]
  have hM : (0 : ℝ) < 2 ^ M := Real.rpow_pos_of_pos two_pos M
  have hsum : (∑ κ, (2 : ℝ) ^ (y κ - M)) = (∑ κ, (2 : ℝ) ^ y κ) * ((2 : ℝ) ^ M)⁻¹ := by
    rw [Finset.sum_mul]; exact Finset.sum_congr rfl fun κ _ => hsh κ
  have hD : 0 < ∑ κ, (2 : ℝ) ^ (y κ - M) := hsum ▸ mul_pos hpos (inv_pos.mpr hM)
  rw [sum_keys (fun κ => (((2 : ℝ) ^ (y κ - M) : ℝ) : EReal) * u κ), sum_keys (fun κ => (((2 : ℝ) ^ (y κ - M) : ℝ) : EReal) * 1)]
  simp only [mul_one]
  rw [coe_sum, ← EReal.coe_one, Ideal.div_coe hD.ne', ← EReal.coe_mul, mul_comm, mul_sum_coe _ _ (le_of_lt (by first | exact mul_pos one_pos (inv_pos.mpr hD) | exact mul_pos one_pos (one_div_pos.mpr hD)))]
  refine Finset.sum_congr rfl fun κ _ => ?_
  rw [← mul_assoc, ← EReal.coe_mul]
  refine congrArg (fun x : ℝ => (x : EReal) * u κ) ?_
  rw [hsum, hsh]
  generalize (∑ κ, (2 : ℝ) ^ y κ) = D at hpos
  field_simp

end Cert.Proof.Kernel6Ideal

end
-- ==== Proof.MlaRef.lean ====
/- Branch B's attention: the reference's result at an index, and the arrays the precondition admits. -/
module

public import proofs.«01_k».proof.Proof.MlaStep
public import proofs.«01_k».proof.Proof.Gen.Reference6Ideal.Run
public import proofs.«01_k».proof.Pre_prepared
public import Idealize.ShloMosaic.Lib.ReduceAll

@[expose] public section

set_option maxRecDepth 16384

noncomputable section

namespace Cert.Proof.Reference6Ideal

open Cert.Reference6Ideal Cert.Reference6Ideal.Gen
open Idealize.ShloMosaic Idealize.ShloMosaic.TcCoe
open Cert.Proof.Kernel6Ideal (attendE gated ofBits_bot)

/-- The heads of queries or keys. -/
def headsR (x : FVec Ideal S16384x4096 .bf16) : FVec Ideal S16384x16x256 .f32 :=
  extf .f32 (shapeCast S16384x16x256 x shapeCasts_S16384x4096_S16384x16x256) bitsLt_bf16_f32
/-- The heads of values, without the column of ones and what follows it. -/
def valsR (x : FVec Ideal S16384x4096 .bf16) : FVec Ideal S16384x16x128 .f32 :=
  extf .f32 (extractStridedSlice S16384x16x128 ![0, 0, 0] (shapeCast S16384x16x256 x shapeCasts_S16384x4096_S16384x16x256) slices_S16384x16x256_S16384x16x128_0_0_0) bitsLt_bf16_f32
/-- The scores, in natural units. -/
def sR (q k : FVec Ideal S16384x16x256 .f32) : FVec Ideal S16x16384x16384 .f32 :=
  mulf (Host.dotGeneral dot_S16384x16x256_S16384x16x256_S16x16384x16384_2_2_0_0_1_1 none q k) (broadcastInDim S16x16384x16384 ![] bcast_S_S16x16384x16384 (Host.log (constant S_ .f32 0x40000000#32)))
def mxR (s : FVec Ideal S16x16384x16384 .f32) : FVec Ideal S16x16384 .f32 :=
  maximumf (broadcastInDim S16x16384 ![] bcast_S_S16x16384 (constant S_ .f32 0xFF800000#32)) (Host.reduce FloatOps.maximumf s (constant S_ .f32 0xFF800000#32) reducesTo_S16x16384x16384_S16x16384_d2 h_S_)
def eR (s : FVec Ideal S16x16384x16384 .f32) : FVec Ideal S16x16384x16384 .f32 :=
  Host.exp (subf s (broadcastInDim S16x16384x16384 ![0, 1, 2] bcast_S16x16384x1_S16x16384x16384_0_1_2 (broadcastInDim S16x16384x1 ![0, 1] bcast_S16x16384_S16x16384x1_0_1 (mxR s))))
def pR (e : FVec Ideal S16x16384x16384 .f32) : FVec Ideal S16x16384x16384 .f32 :=
  Host.divf e (broadcastInDim S16x16384x16384 ![0, 1, 2] bcast_S16x16384x1_S16x16384x16384_0_1_2 (broadcastInDim S16x16384x1 ![0, 1] bcast_S16x16384_S16x16384x1_0_1 (Host.reduceAdd e (constant S_ .f32 0x00000000#32) reducesTo_S16x16384x16384_S16x16384_d2 h_S_)))
def oR (v : FVec Ideal S16384x16x128 .f32) (p : FVec Ideal S16x16384x16384 .f32) : FVec Ideal S16384x16x128 .f32 :=
  transpose S16384x16x128 [2, 0, 1] (Host.dotGeneral dot_S16384x16x128_S16x16384x16384_S16x128x16384_0_2_2_1_1_0 none v p) transposes_S16x128x16384_S16384x16x128_2_0_1
def gR (z : FVec Ideal S16384x33280 .bf16) : FVec Ideal S16384x2048 .f32 :=
  extf .f32 (extractStridedSlice S16384x2048 ![0, 30720] z slices_S16384x33280_S16384x2048_0_30720) bitsLt_bf16_f32
def yR (o : FVec Ideal S16384x16x128 .f32) (g : FVec Ideal S16384x2048 .f32) : FVec Ideal S16384x2048 .bf16 :=
  truncf .bf16 (mulf (shapeCast S16384x2048 o shapeCasts_S16384x16x128_S16384x2048) (mulf g (Host.divf (broadcastInDim S16384x2048 ![] bcast_S_S16384x2048 (constant S_ .f32 0x3F800000#32)) (addf (broadcastInDim S16384x2048 ![] bcast_S_S16384x2048 (constant S_ .f32 0x3F800000#32)) (Host.exp (Host.negf g)))))) bitsLt_bf16_f32

/-- The reference's result. -/
def REF (q k v : FVec Ideal S16384x4096 .bf16) (z : FVec Ideal S16384x33280 .bf16) : FVec Ideal S16384x2048 .bf16 :=
  yR (oR (valsR v) (pR (eR (sR (headsR q) (headsR k))))) (gR z)

theorem headsR_at (x : FVec Ideal S16384x4096 .bf16) (i : Fin 16384) (h : Fin 16) (d : Fin 256) :
    headsR x (ix3 i h d) = (x (ix2 i ⟨h.val * 256 + d.val, by omega⟩) : EReal) := by
  pointwise [headsR]
theorem valsR_at (x : FVec Ideal S16384x4096 .bf16) (i : Fin 16384) (h : Fin 16) (d : Fin 128) :
    valsR x (ix3 i h d) = (x (ix2 i ⟨h.val * 256 + d.val, by omega⟩) : EReal) := by
  pointwise [valsR]
theorem gR_at (z : FVec Ideal S16384x33280 .bf16) (i : Fin 16384) (n : Fin 2048) :
    gR z (ix2 i n) = (z (ix2 i ⟨30720 + n.val, by omega⟩) : EReal) := by
  pointwise [gR]
theorem sR_at (q k : FVec Ideal S16384x16x256 .f32) (h : Fin 16) (i j : Fin 16384) :
    sR q k (ix3 h i j) = (∑ d, q (ix3 i h d) * k (ix3 j h d)) * Ideal.log (Ideal.ofBits .f32 0x40000000#32) := by
  pointwise [sR]
theorem eR_at (s : FVec Ideal S16x16384x16384 .f32) (h : Fin 16) (i j : Fin 16384) :
    eR s (ix3 h i j) = Ideal.exp (s (ix3 h i j) - mxR s (ix2 h i)) := by
  pointwise [eR]
theorem pR_at (e : FVec Ideal S16x16384x16384 .f32) (h : Fin 16) (i j : Fin 16384) :
    pR e (ix3 h i j) = Ideal.div (e (ix3 h i j)) (∑ j, e (ix3 h i j)) := by
  pointwise [pR]
theorem oR_at (v : FVec Ideal S16384x16x128 .f32) (p : FVec Ideal S16x16384x16384 .f32) (i : Fin 16384) (h : Fin 16) (d : Fin 128) :
    oR v p (ix3 i h d) = ∑ j, v (ix3 j h d) * p (ix3 h i j) := by
  pointwise [oR]
theorem yR_at (o : FVec Ideal S16384x16x128 .f32) (g : FVec Ideal S16384x2048 .f32) (i : Fin 16384) (h : Fin 16) (d : Fin 128) :
    (yR o g (ix2 i ⟨128 * h.val + d.val, by omega⟩) : EReal) = gated (o (ix3 i h d)) (g (ix2 i ⟨128 * h.val + d.val, by omega⟩)) := by
  pointwise [yR, gated]

/-- A maximum over the last axis, at an index. -/
theorem reduce_max_at {n0 n1 n2 : ℕ} (h : (⟨3, ![n0, n1, n2]⟩ : Shape).ReducesTo [2] ⟨2, ![n0, n1]⟩) {u : Shape} (hu : 0 < u.numel)
    (x : FVec Ideal ⟨3, ![n0, n1, n2]⟩ .f32) (b : FVec Ideal u .f32) (i0 : Fin n0) (i1 : Fin n1) :
    Host.reduce (FloatOps.maximumf (F := Ideal) (φ := .f32)) x b h hu (ix2 i0 i1) = (Finset.univ.fold max (b (Shape.Idx.first hu) : EReal) (fun k => (x (ix3 i0 i1 k) : EReal)) : EReal) :=
  (Host.reduce_eq_fold (max : EReal → EReal → EReal) x b h hu (ix2 i0 i1)).trans (h.fold_fiber_r3_a2 (ix2 i0 i1) (max : EReal → EReal → EReal) _ x)

theorem max_real {n0 n1 n2 : ℕ} [Nonempty (Fin n2)] (h : (⟨3, ![n0, n1, n2]⟩ : Shape).ReducesTo [2] ⟨2, ![n0, n1]⟩) {u : Shape} (hu : 0 < u.numel)
    (x : FVec Ideal ⟨3, ![n0, n1, n2]⟩ .f32) (b : FVec Ideal u .f32) (c : FVec Ideal ⟨2, ![n0, n1]⟩ .f32) (i0 : Fin n0) (i1 : Fin n1)
    (hb : b (Shape.Idx.first hu) = (⊥ : EReal)) (hc : c (ix2 i0 i1) = (⊥ : EReal)) (f : Fin n2 → ℝ) (hs : ∀ k, x (ix3 i0 i1 k) = ((f k : ℝ) : EReal)) :
    ∃ M : ℝ, maximumf c (Host.reduce (FloatOps.maximumf (F := Ideal) (φ := .f32)) x b h hu) (ix2 i0 i1) = (M : EReal) := by
  obtain ⟨M, hM⟩ := fold_max_coe f
  have h1 := reduce_max_at h hu x b i0 i1
  rw [hb, funext hs, hM] at h1
  refine ⟨M, ?_⟩
  show max (c (ix2 i0 i1) : EReal) (Host.reduce (FloatOps.maximumf (F := Ideal) (φ := .f32)) x b h hu (ix2 i0 i1)) = _
  rw [h1, hc]
  exact max_eq_right bot_le

theorem mxR_real (s : FVec Ideal S16x16384x16384 .f32) (h : Fin 16) (i : Fin 16384) (f : Fin 16384 → ℝ)
    (hs : ∀ j, s (ix3 h i j) = ((f j : ℝ) : EReal)) : ∃ M : ℝ, mxR s (ix2 h i) = (M : EReal) := by
  unfold mxR
  exact max_real (n2 := 16384) reducesTo_S16x16384x16384_S16x16384_d2 h_S_ s (constant S_ .f32 0xFF800000#32) _ h i ofBits_bot ofBits_bot f hs

/-- The softmax is free of the shift by the maximum. -/
theorem pR_real (s : FVec Ideal S16x16384x16384 .f32) (h : Fin 16) (i : Fin 16384) (f : Fin 16384 → ℝ)
    (hs : ∀ j, s (ix3 h i j) = ((f j : ℝ) : EReal)) (j : Fin 16384) :
    pR (eR s) (ix3 h i j) = ((Real.exp (f j) / ∑ κ, Real.exp (f κ) : ℝ) : EReal) := by
  obtain ⟨M, hM⟩ := mxR_real s h i f hs
  have he : ∀ κ, eR s (ix3 h i κ) = ((Real.exp (f κ - M) : ℝ) : EReal) := fun κ => by
    rw [eR_at, hs, hM, ← EReal.coe_sub, Ideal.exp_coe]
  have hsum : (∑ κ, Real.exp (f κ - M)) = (∑ κ, Real.exp (f κ)) * (Real.exp M)⁻¹ := by
    rw [Finset.sum_mul]
    exact Finset.sum_congr rfl fun κ _ => by rw [Real.exp_sub, div_eq_mul_inv]
  have hpos : 0 < ∑ κ, Real.exp (f κ) := Finset.sum_pos (fun κ _ => Real.exp_pos _) Finset.univ_nonempty
  have hM0 := Real.exp_pos M
  rw [pR_at, he, Finset.sum_congr rfl fun κ _ => he κ, coe_sum, Ideal.div_coe (hsum ▸ (mul_pos hpos (inv_pos.mpr hM0)).ne'), ← EReal.coe_mul]
  refine congrArg (fun x : ℝ => (x : EReal)) ?_
  rw [hsum, Real.exp_sub]
  generalize (∑ κ, Real.exp (f κ)) = D at hpos
  field_simp

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h]
  show (if (2 : ℝ) ≤ 0 then (⊥ : EReal) else ((Real.log 2 : ℝ) : EReal)) = _
  rw [if_neg (by norm_num)]

theorem exp_two (a : ℝ) : Real.exp (a * Real.log 2) = (2 : ℝ) ^ a := by
  rw [Real.rpow_def_of_pos two_pos, mul_comm]

variable (q k v : FVec Ideal S16384x4096 .bf16) (z : FVec Ideal S16384x33280 .bf16)

/-- The arrays hold what the precondition asks for: real queries and keys, and a one after each head's values. -/
structure Prepared : Prop where
  q : ∀ (i : Fin 16384) (n : Fin 4096), (q (ix2 i n) : EReal) = (((q (ix2 i n) : EReal).toReal : ℝ) : EReal)
  k : ∀ (i : Fin 16384) (n : Fin 4096), (k (ix2 i n) : EReal) = (((k (ix2 i n) : EReal).toReal : ℝ) : EReal)
  v : ∀ (i : Fin 16384) (h : Fin 16), (v (ix2 i ⟨h.val * 256 + 128, by omega⟩) : EReal) = 1

/-- A head's score of a query and a key, in powers of two. -/
def score (h : Fin 16) (i κ : Fin 16384) : ℝ :=
  ∑ d : Fin 256, (q (ix2 i ⟨h.val * 256 + d.val, by omega⟩) : EReal).toReal * (k (ix2 κ ⟨h.val * 256 + d.val, by omega⟩) : EReal).toReal

theorem score_coe (H : Prepared q k v) (h : Fin 16) (i κ : Fin 16384) :
    (∑ d : Fin 256, (q (ix2 i ⟨h.val * 256 + d.val, by omega⟩) : EReal) * (k (ix2 κ ⟨h.val * 256 + d.val, by omega⟩) : EReal)) = ((score q k h i κ : ℝ) : EReal) := by
  unfold score
  rw [← coe_sum]
  refine Finset.sum_congr rfl fun d _ => ?_
  rw [EReal.coe_mul, ← H.q, ← H.k]

theorem REF_at (H : Prepared q k v) (i : Fin 16384) (h : Fin 16) (d : Fin 128) :
    (REF q k v z (ix2 i ⟨128 * h.val + d.val, by omega⟩) : EReal)
      = gated (attendE (score q k h i) (fun κ => v (ix2 κ ⟨h.val * 256 + d.val, by omega⟩))) (z (ix2 i ⟨30720 + (128 * h.val + d.val), by omega⟩)) := by
  have hs : ∀ j, sR (headsR q) (headsR k) (ix3 h i j) = ((score q k h i j * Real.log 2 : ℝ) : EReal) := fun j => by
    rw [sR_at, log_two, EReal.coe_mul, ← score_coe q k v H]
    refine congrArg (fun x : EReal => x * _) (Finset.sum_congr rfl fun d _ => ?_)
    rw [headsR_at, headsR_at]
  have ho : oR (valsR v) (pR (eR (sR (headsR q) (headsR k)))) (ix3 i h d) = attendE (score q k h i) (fun κ => v (ix2 κ ⟨h.val * 256 + d.val, by omega⟩)) := by
    rw [oR_at]
    refine Finset.sum_congr rfl fun j _ => ?_
    rw [pR_real _ h i _ hs j, valsR_at, mul_comm]
    simp only [exp_two]
  rw [REF, yR_at, ho, gR_at]

/-! The precondition, as printed, says just that. -/

theorem real_of_lt (a : EReal) (h : FloatOps.cmpf (F := Ideal) (φ := .f32) .olt (FloatOps.hostAbsf (F := Ideal) (φ := .f32) a) (Ideal.ofBits .f32 0x7F800000#32) = 1#1) :
    a = ((a.toReal : ℝ) : EReal) := by
  have ht : Ideal.ofBits .f32 0x7F800000#32 = ⊤ := by simp [Ideal.ofBits, Ideal.ieee]
  have h1 : max a (-a) < ⊤ := by
    have h2 : Ideal.cmp .olt (max a (-a)) (Ideal.ofBits .f32 0x7F800000#32) = 1#1 := h
    rw [ht] at h2
    by_contra h3
    simp [Ideal.cmp, h3] at h2
  refine (EReal.coe_toReal ?_ ?_).symm
  · rintro rfl; simp at h1
  · rintro rfl; simp at h1

theorem one_of_eq (a : EReal) (h : FloatOps.cmpf (F := Ideal) (φ := .bf16) .oeq a (Ideal.ofBits .bf16 0x3F80#16) = 1#1) : a = 1 := by
  have ht : Ideal.ofBits .bf16 0x3F80#16 = 1 := by
    simp [Ideal.ofBits, Ideal.ieee]
    rw [← EReal.coe_mul]
    norm_num
  have h2 : Ideal.cmp .oeq a (Ideal.ofBits .bf16 0x3F80#16) = 1#1 := h
  rw [ht] at h2
  by_contra h3
  simp [Ideal.cmp, h3] at h2

end Cert.Proof.Reference6Ideal

namespace Cert.Proof

open Idealize.ShloMosaic Idealize.ShloMosaic.TcCoe
open Cert.Proof.Reference6Ideal

theorem preparedFacts : Cert.Pre_prepared.Facts where
  bitsLt_bf16_f32 := by decide
  bcast_S_S16384x4096 := by decide
  reducesTo_S16384x4096_S_d0_1 := by decide
  h_S_ := by decide
  shapeCasts_S16384x4096_S16384x16x256 := by decide
  slices_S16384x16x256_S16384x16x1_0_0_128 := by decide
  shapeCasts_S16384x16x1_S16384x16 := by decide
  bcast_S_S16384x16 := by decide
  reducesTo_S16384x16_S_d0_1 := by decide

theorem prepared_of_pre (q k v : FVec Ideal Cert.Reference6Ideal.S16384x4096 .bf16) (z : FVec Ideal Cert.Reference6Ideal.S16384x33280 .bf16)
    (h : (letI := preparedFacts; Cert.Pre_prepared.fn (F := Ideal) q k v z) = fun _ => 1#1) : Prepared q k v := by
  letI := preparedFacts
  have h0 := congrFun h ix0
  dsimp only [Cert.Pre_prepared.fn] at h0
  obtain ⟨h0, hv⟩ := IntOp.andi_eq_one.1 h0
  obtain ⟨hq, hk⟩ := IntOp.andi_eq_one.1 h0
  refine ⟨fun i n => ?_, fun i n => ?_, fun i hd => ?_⟩
  · exact real_of_lt _ (Host.reduce_andi_all _ _ _ _ ix0 hq (ix2 i n))
  · exact real_of_lt _ (Host.reduce_andi_all _ _ _ _ ix0 hk (ix2 i n))
  · have hh := Host.reduce_andi_all _ _ _ _ ix0 hv (ix2 i hd)
    have hs : shapeCast Cert.Pre_prepared.S16384x16 (extractStridedSlice Cert.Pre_prepared.S16384x16x1 ![0, 0, 128] (shapeCast Cert.Pre_prepared.S16384x16x256 v Cert.Pre_prepared.Facts.shapeCasts_S16384x4096_S16384x16x256)
        Cert.Pre_prepared.Facts.slices_S16384x16x256_S16384x16x1_0_0_128) Cert.Pre_prepared.Facts.shapeCasts_S16384x16x1_S16384x16 (ix2 i hd) = v (ix2 i ⟨hd.val * 256 + 128, by omega⟩) := by
      pointwise []
    rw [← hs]
    exact one_of_eq _ hh

end Cert.Proof

end
-- ==== Proof.Mla.lean ====
/- Branch B's attention: every block of the result is the reference's. -/
module

public import proofs.«01_k».proof.Defs
public import proofs.«01_k».proof.Proof.MlaRef

@[expose] public section

set_option maxRecDepth 16384

noncomputable section

namespace Cert.Proof.Kernel6Ideal

open Cert.Kernel6Ideal Cert.Kernel6Ideal.Gen
open Idealize.ShloMosaic Idealize.ShloMosaic.TcCoe Idealize.ShloMosaic.Tactic Idealize.SL.Sem
open Cert.Proof.Reference6Ideal (Prepared REF REF_at score score_coe)

/-- The index maps: the grid's first coordinate is the head, the second the block of query rows. -/
theorem idx : ∀ t : Fin cfg0.N,
    win0_0.index t = ![(grid0.coords t 1).val, (grid0.coords t 0).val]
    ∧ win0_1.index t = ![0, (grid0.coords t 0).val] ∧ win0_2.index t = ![0, (grid0.coords t 0).val]
    ∧ win0_3.index t = ![(grid0.coords t 1).val, 240 + (grid0.coords t 0).val]
    ∧ win0_4.index t = ![(grid0.coords t 1).val, (grid0.coords t 0).val] :=
  (by decide +kernel : ∀ t : Fin grid0.N, _)

variable (m : (ℓ : Loc nD τ sig) → Buf (Elt Ideal) ℓ) (c : Dev nD)

theorem head_lt (t : Fin cfg0.N) : (grid0.coords t 0).val < 16 := (grid0.coords t 0).isLt
theorem rowblock_lt (t : Fin cfg0.N) : (grid0.coords t 1).val < 32 := (grid0.coords t 1).isLt

/-- A row of the block of queries, among all rows. -/
def row (t : Fin cfg0.N) (r : Fin 512) : Fin 16384 := ⟨512 * (grid0.coords t 1).val + r.val, by have := rowblock_lt t; omega⟩
/-- The head of a grid point. -/
def head (t : Fin cfg0.N) : Fin 16 := ⟨(grid0.coords t 0).val, head_lt t⟩

abbrev Q : FVec Ideal S16384x4096 .bf16 := m ((c.tc : Thread nD τ).loc main_arg0)
abbrev K : FVec Ideal S16384x4096 .bf16 := m ((c.tc : Thread nD τ).loc main_arg1)
abbrev W : FVec Ideal S16384x4096 .bf16 := m ((c.tc : Thread nD τ).loc main_arg2)
abbrev Z : FVec Ideal S16384x33280 .bf16 := m ((c.tc : Thread nD τ).loc main_arg3)

theorem blk0 (t : Fin cfg0.N) (r : Fin 512) (n : Fin 256) :
    (iblk m c 0 t (ix2 r n) : EReal) = Q m c (ix2 (row t r) ⟨(head t).val * 256 + n.val, by have := (head t).isLt; omega⟩) := by
  have := head_lt t; have := rowblock_lt t
  unfold row head
  blk_ext [iblk, V, idx t]

theorem blk1 (t : Fin cfg0.N) (κ : Fin 16384) (n : Fin 256) :
    (iblk m c 1 t (ix2 κ n) : EReal) = K m c (ix2 κ ⟨(head t).val * 256 + n.val, by have := (head t).isLt; omega⟩) := by
  have := head_lt t; have := rowblock_lt t
  unfold head
  blk_ext [iblk, V, idx t]

theorem blk2 (t : Fin cfg0.N) (κ : Fin 16384) (n : Fin 256) :
    (iblk m c 2 t (ix2 κ n) : EReal) = W m c (ix2 κ ⟨(head t).val * 256 + n.val, by have := (head t).isLt; omega⟩) := by
  have := head_lt t; have := rowblock_lt t
  unfold head
  blk_ext [iblk, V, idx t]

theorem blk3 (t : Fin cfg0.N) (r : Fin 512) (n : Fin 128) :
    (iblk m c 3 t (ix2 r n) : EReal) = Z m c (ix2 (row t r) ⟨30720 + (128 * (head t).val + n.val), by have := (head t).isLt; omega⟩) := by
  have := head_lt t; have := rowblock_lt t
  unfold row head
  blk_ext [iblk, V, idx t]

theorem chunk_at (x : FVec Ideal S16384x256 .bf16) (n : ℕ) (hn : n < 8) (j : Fin 2048) (d : Fin 256) : loads x n (ix2 j d) = x (ix2 (key n j) d) := by
  rw [loads_eq x n hn]
  rfl

/-- The reference's result of the kernel's arguments. -/
abbrev REFm : FVec Ideal S16384x2048 .bf16 := REF (Q m c) (K m c) (W m c) (Z m c)

abbrev qB (t : Fin cfg0.N) : FVec Ideal S512x256 .bf16 := iblk m c 0 t
abbrev kB (t : Fin cfg0.N) : FVec Ideal S16384x256 .bf16 := iblk m c 1 t
abbrev vB (t : Fin cfg0.N) : FVec Ideal S16384x256 .bf16 := iblk m c 2 t

/-- A block of the result, at a point. -/
theorem point (H : Prepared (Q m c) (K m c) (W m c)) (t : Fin cfg0.N) (r : Fin 512) (d : Fin 128) :
    (outsAt0 m c t (ix2 r d) : EReal) = REFm m c (ix2 (row t r) ⟨128 * (head t).val + d.val, by have := (head t).isLt; omega⟩) := by
  have hh := (head t).isLt
  have hy : ∀ n < 8, ∀ j, ∑ e, (qB m c t (ix2 r e) * (loads (kB m c t) n (ix2 j e) : EReal))
      = ((score (Q m c) (K m c) (head t) (row t r) (key n j) : ℝ) : EReal) := fun n hn j => by
    rw [← score_coe (Q m c) (K m c) (W m c) H]
    refine Finset.sum_congr rfl fun e _ => ?_
    exact congrArg₂ (fun a b : EReal => a * b) (blk0 m c t r e) ((chunk_at _ n hn j e).trans (blk1 m c t _ e))
  obtain ⟨M, _, ha⟩ := online (qB m c t) (loads (kB m c t)) (loads (vB m c t)) r (fun n j => score (Q m c) (K m c) (head t) (row t r) (key n j)) 8 hy 7 (by omega)
  have hacc : ∀ e : Fin 256, ((fold (qB m c t) (loads (kB m c t)) (loads (vB m c t)) 8).2 (ix2 r e) : EReal)
      = ∑ n ∈ Finset.range 8, ∑ j, (((2 : ℝ) ^ (score (Q m c) (K m c) (head t) (row t r) (key n j) - M) : ℝ) : EReal)
          * (W m c (ix2 (key n j) ⟨(head t).val * 256 + e.val, by omega⟩) : EReal) := fun e => by
    refine (ha e).trans (Finset.sum_congr rfl fun n hn => Finset.sum_congr rfl fun j _ => ?_)
    exact congrArg (fun a : EReal => _ * a) ((chunk_at _ n (Finset.mem_range.mp hn) j e).trans (blk2 m c t _ e))
  rw [out_eq]
  refine (out_at _ _ r d).trans (.trans ?_ (REF_at (Q m c) (K m c) (W m c) (Z m c) H (row t r) (head t) d).symm)
  refine congrArg₂ gated ?_ (blk3 m c t r d)
  have h1 : ((fold (qB m c t) (loads (kB m c t)) (loads (vB m c t)) 8).2 (ix2 r 128) : EReal)
      = ∑ n ∈ Finset.range 8, ∑ j, (((2 : ℝ) ^ (score (Q m c) (K m c) (head t) (row t r) (key n j) - M) : ℝ) : EReal) * 1 := by
    refine (hacc 128).trans (Finset.sum_congr rfl fun n _ => Finset.sum_congr rfl fun j _ => ?_)
    exact congrArg (fun a : EReal => _ * a) (H.v (key n j) (head t))
  rw [h1, hacc ⟨d.val, by omega⟩]
  exact normed _ (fun κ => (W m c (ix2 κ ⟨(head t).val * 256 + d.val, by omega⟩) : EReal)) M

theorem final (H : Prepared (Q m c) (K m c) (W m c)) : (dats m 0 c).arrAt 4 (cfgs 0).N = REFm m c := by
  refine (dats m 0 c).arrAt_eq_of_covers 4 (REFm m c) (by decide +kernel) fun t _ y => ?_
  blk_simp
  rw [after0_4]
  idx_vars y
  refine (point m c H t _ _).trans ?_
  have := head_lt t; have := rowblock_lt t
  refine congrArg (fun k => REFm m c k) ?_
  unfold row head
  blk_ext [idx t]

end Cert.Proof.Kernel6Ideal

namespace Cert.Proof

open Idealize.ShloMosaic Idealize.ShloMosaic.TcCoe Idealize.SL.Sem

theorem algebraic6 : letI := preparedFacts; Cert.algebraic_Kernel6Ideal_Reference6Ideal_pre_prepared := by
  letI := preparedFacts
  intro m g m' g' hpre hagree
  refine ⟨fun c => Kernel6Ideal.REFm m c, ?_, ?_⟩
  · refine (θ_run Cert.Kernel6Ideal.defs _ _).mono (fun r h c => ⟨?_, h.2 c⟩) (θ_run_and (Cert.Kernel6Ideal.Gen.run_main m g) (Cert.Kernel6Ideal.Gen.unchanged m g))
    exact ((h.1 c).1 4).trans (Kernel6Ideal.final m c (prepared_of_pre _ _ _ _ (hpre c)))
  · refine (θ_run Cert.Reference6Ideal.defs _ _).mono (fun r h c => ⟨(h c).1.trans ?_, (h c).2⟩) (Cert.Reference6Ideal.Value.run (F := Ideal) m' g')
    obtain ⟨e0, e1, e2, e3⟩ := hagree c
    rw [e0, e1, e2, e3]
    rfl

end Cert.Proof

end
-- ==== Proof.Norm1.lean ====
/- The norm at the start of the layer: every block of the result is the reference's. -/
module

public import proofs.«01_k».proof.Defs
public import proofs.«01_k».proof.Proof.Gen.Kernel7Ideal.Frame
public import proofs.«01_k».proof.Proof.Gen.Reference7Ideal.Run
public import Idealize.ShloMosaic.Lib.Pipeline.ValueKit
public import Idealize.ShloMosaic.Lib.StableHlo.RunRead

@[expose] public section

set_option maxRecDepth 16384

noncomputable section

namespace Cert.Proof.Reference7Ideal

open Cert.Reference7Ideal Cert.Reference7Ideal.Gen
open Idealize.ShloMosaic Idealize.ShloMosaic.TcCoe Idealize.ShloMosaic.Tactic

/-- A row by the root of its mean square, by the gain. -/
def scaled (f : Fin 4096 → EReal) (g : EReal) (j : Fin 4096) : EReal :=
  f j * Ideal.rsqrt (Ideal.div (∑ k, f k * f k) (Ideal.ofBits .f32 0x45800000#32) + Ideal.ofBits .f32 0x358637BD#32) * g

/-- The reference's result. -/
def REF (x : FVec Ideal S16384x4096 .f32) (g : FVec Ideal S4096 .f32) : FVec Ideal S16384x4096 .bf16 :=
  truncf .bf16 (mulf (mulf x (broadcastInDim S16384x4096 ![0, 1] bcast_S16384x1_S16384x4096_0_1 (Host.rsqrt (addf (Host.divf (broadcastInDim S16384x1 ![0] bcast_S16384_S16384x1_0
    (Host.reduceAdd (mulf x x) (constant S_ .f32 0x00000000#32) reducesTo_S16384x4096_S16384_d1 h_S_)) (broadcastInDim S16384x1 ![] bcast_S_S16384x1 (constant S_ .f32 0x45800000#32)))
    (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 g))) bitsLt_bf16_f32

theorem REF_at (x : FVec Ideal S16384x4096 .f32) (g : FVec Ideal S4096 .f32) (i : Fin 16384) (j : Fin 4096) :
    REF x g (ix2 i j) = scaled (fun k => x (ix2 i k)) (g (ix1 j)) j := by
  pointwise [REF, scaled]

end Cert.Proof.Reference7Ideal

namespace Cert.Proof.Kernel7Ideal

open Cert.Kernel7Ideal Cert.Kernel7Ideal.Gen Cert.Proof.Reference7Ideal
open Idealize.ShloMosaic Idealize.ShloMosaic.TcCoe Idealize.ShloMosaic.Tactic Idealize.SL.Sem

theorem pay_at (x : FVec Ideal S256x4096 .f32) (g : FVec Ideal S1x4096 .f32) (i : Fin 256) (j : Fin 4096) :
    k0_pay1 (F := Ideal) x g (ix2 i j) = scaled (fun k => x (ix2 i k)) (g (ix2 0 j)) j := by
  pointwise [k0_pay1, scaled]

theorem idx : ∀ t : Fin cfg0.N, win0_0.index t = ![(grid0.coords t 0).val, 0] ∧ win0_1.index t = ![0, 0] ∧ win0_2.index t = ![(grid0.coords t 0).val, 0] :=
  (by decide +kernel : ∀ t : Fin grid0.N, _)

variable (m : (ℓ : Loc nD τ sig) → Buf (Elt Ideal) ℓ) (c : Dev nD)

abbrev REFm : FVec Ideal S16384x4096 .bf16 :=
  REF (m ((c.tc : Thread nD τ).loc main_arg0)) (m ((c.tc : Thread nD τ).loc main_arg1))

theorem emb0 (t : Fin cfg0.N) (i : Fin 256) (k : Fin 4096) (r : Fin 16384) (hr : r.val = (grid0.coords t 0).val * 256 + i.val) :
    ((cfg0.win 0).blk t).view.emb (ix2 i k) = (ix2 r k : S16384x4096.Idx) := by
  have e := (idx t).1
  funext a
  apply Fin.ext
  fin_cases a
  · show win0_0.index t 0 * 256 + 1 * i.val = r.val
    rw [e, hr]
    show (grid0.coords t 0).val * 256 + 1 * i.val = _
    omega
  · show win0_0.index t 1 * 4096 + 1 * k.val = k.val
    rw [e]
    show 0 * 4096 + 1 * k.val = _
    omega

theorem emb2 (t : Fin cfg0.N) (i : Fin 256) (k : Fin 4096) (r : Fin 16384) (hr : r.val = (grid0.coords t 0).val * 256 + i.val) :
    ((cfg0.win 2).blk t).view.emb (ix2 i k) = (ix2 r k : S16384x4096.Idx) := by
  have e := (idx t).2.2
  funext a
  apply Fin.ext
  fin_cases a
  · show win0_2.index t 0 * 256 + 1 * i.val = r.val
    rw [e, hr]
    show (grid0.coords t 0).val * 256 + 1 * i.val = _
    omega
  · show win0_2.index t 1 * 4096 + 1 * k.val = k.val
    rw [e]
    show 0 * 4096 + 1 * k.val = _
    omega

theorem emb1 (t : Fin cfg0.N) (j : Fin 4096) : ((cfg0.win 1).blk t).view.emb (ix2 (0 : Fin 1) j) = (ix2 (0 : Fin 1) j : S1x4096.Idx) := by
  have e := (idx t).2.1
  funext a
  apply Fin.ext
  fin_cases a
  · show win0_1.index t 0 * 1 + 1 * 0 = 0
    rw [e]
    rfl
  · show win0_1.index t 1 * 4096 + 1 * j.val = j.val
    rw [e]
    show 0 * 4096 + 1 * j.val = _
    omega

theorem gain : V m c main_v0 = shapeCast S1x4096 (m ((c.tc : Thread nD τ).loc main_arg1) : FVec Ideal S4096 .f32) shapeCasts_S4096_S1x4096 := by
  show StableHlo.after hostOps0 (fun b => m (c, b)) main_v0 = _
  after_reads_simp
  rfl

theorem gain_at (g : FVec Ideal S4096 .f32) (j : Fin 4096) : shapeCast S1x4096 g shapeCasts_S4096_S1x4096 (ix2 (0 : Fin 1) j) = g (ix1 j) := by
  pointwise []

theorem point (t : Fin cfg0.N) (y : S256x4096.Idx) : k0_pay1 (iblk m c 0 t) (iblk m c 1 t) y = REFm m c (((cfg0.win 2).blk t).view.emb y) := by
  obtain ⟨i, j, rfl⟩ : ∃ (i : Fin 256) (j : Fin 4096), y = ix2 i j := ⟨y 0, y 1, by funext a; fin_cases a <;> rfl⟩
  have c0 : (grid0.coords t 0).val < 64 := (grid0.coords t 0).isLt
  have hi := i.isLt
  rw [emb2 t i j ⟨(grid0.coords t 0).val * 256 + i.val, by omega⟩ rfl]
  refine (pay_at _ _ i j).trans (.trans ?_ (REF_at _ _ _ _).symm)
  refine congrArg₂ (fun f g => scaled f g j) (funext fun k => ?_) ?_
  · show V m c main_arg0 (((cfg0.win 0).blk t).view.emb (ix2 i k)) = _
    rw [emb0 t i k ⟨(grid0.coords t 0).val * 256 + i.val, by omega⟩ rfl]
    exact congrFun (V_main_arg0 m c) _
  · show V m c main_v0 (((cfg0.win 1).blk t).view.emb (ix2 (0 : Fin 1) j)) = _
    rw [emb1 t j, gain]
    exact gain_at _ j

theorem final : (dats m 0 c).arrAt 2 (cfgs 0).N = REFm m c := by
  refine (dats m 0 c).arrAt_eq_of_covers 2 _ (by decide +kernel) fun t _ y => ?_
  blk_simp
  rw [after0_2]
  frame_out
  exact point m c t y

end Cert.Proof.Kernel7Ideal

namespace Cert.Proof

open Idealize.ShloMosaic Idealize.ShloMosaic.TcCoe Idealize.SL.Sem

theorem algebraic7 : Cert.algebraic_Kernel7Ideal_Reference7Ideal := by
  intro m g m' g' _ hagree
  refine ⟨fun c => Kernel7Ideal.REFm m c, ?_, ?_⟩
  · refine (θ_run Cert.Kernel7Ideal.defs _ _).mono (fun r h c => ⟨?_, h.2 c⟩) (θ_run_and (Cert.Kernel7Ideal.Gen.run_main m g) (Cert.Kernel7Ideal.Gen.unchanged m g))
    exact ((h.1 c).1 2).trans (Kernel7Ideal.final m c)
  · refine (θ_run Cert.Reference7Ideal.defs _ _).mono (fun r h c => ⟨(h c).1.trans ?_, (h c).2⟩) (Cert.Reference7Ideal.Value.run (F := Ideal) m' g')
    obtain ⟨e0, e1⟩ := hagree c
    rw [e0, e1]
    rfl

end Cert.Proof

end
-- ==== Proof.QUpRef.lean ====
/- The queries of branch B at the reference: a head's columns from the product's, and the scale. -/
module

public import proofs.«01_k».proof.Defs
public import proofs.«01_k».proof.Proof.Gen.Reference8Ideal.Run
public import proofs.«01_k».proof.Proof.InCols
public import Idealize.ShloMosaic.Lib.Pipeline.ValueKit

@[expose] public section

set_option maxRecDepth 16384

noncomputable section

namespace Cert.Proof.Reference8Ideal

open Cert.Reference8Ideal Cert.Reference8Ideal.Gen
open Idealize.ShloMosaic Idealize.ShloMosaic.TcCoe Idealize.ShloMosaic.Tactic

/-- A row by the root of its mean square, by the gain. -/
def scaled (f : Fin 1536 → EReal) (g : Fin 1536 → EReal) (j : Fin 1536) : EReal :=
  f j * Ideal.rsqrt (Ideal.div (∑ k, f k * f k) (Ideal.ofBits .f32 0x44C00000#32) + Ideal.ofBits .f32 0x358637BD#32) * g j

/-- A head's columns from its 192 of the product: 128 as they are, the two halves of the rest turned by the angles, and zeros. -/
def turned (q : Fin 192 → EReal) (co si : Fin 32 → EReal) (j : Fin 256) : EReal :=
  if h : j.val < 128 then q ⟨j.val, by omega⟩
  else if h : j.val < 160 then q ⟨j.val, by omega⟩ * co ⟨j.val - 128, by omega⟩ - q ⟨j.val + 32, by omega⟩ * si ⟨j.val - 128, by omega⟩
  else if h : j.val < 192 then q ⟨j.val, by omega⟩ * co ⟨j.val - 160, by omega⟩ + q ⟨j.val - 32, by omega⟩ * si ⟨j.val - 160, by omega⟩
  else 0

/-- The latent's columns. -/
def lat (z : FVec Ideal S16384x33280 .bf16) : FVec Ideal S16384x1536 .f32 :=
  extf .f32 (extractStridedSlice S16384x1536 ![0, 0] z slices_S16384x33280_S16384x1536_0_0) bitsLt_bf16_f32

/-- The product of the scaled latent with the weights. -/
def prod (x : FVec Ideal S16384x1536 .f32) (g : FVec Ideal S1536 .f32) (w : FVec Ideal S1536x3072 .f32) : FVec Ideal S16384x3072 .f32 :=
  Host.dotGeneral dot_S16384x1536_S1536x3072_S16384x3072_1_0_0_1_n_n none (mulf (mulf x (broadcastInDim S16384x1536 ![0, 1] bcast_S16384x1_S16384x1536_0_1 (Host.rsqrt (addf (Host.divf (broadcastInDim S16384x1 ![0] bcast_S16384_S16384x1_0 (Host.reduceAdd (mulf x x) (constant S_ .f32 0x00000000#32) reducesTo_S16384x1536_S16384_d1 h_S_)) (broadcastInDim S16384x1 ![] bcast_S_S16384x1 (constant S_ .f32 0x44C00000#32))) (broadcastInDim S16384x1 ![] bcast_S_S16384x1 (constant S_ .f32 0x358637BD#32)))))) (broadcastInDim S16384x1536 ![0, 1] bcast_S1x1536_S16384x1536_0_1 (broadcastInDim S1x1536 ![1] bcast_S1536_S1x1536_1 g))) w

/-- The frequencies. -/
def freq : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The positions. -/
def pos : FVec Ideal S16384 .f32 := sitofp .f32 (iotaInDim S16384 32 0)

/-- The angles. -/
def ang (p : FVec Ideal S16384 .f32) (f : FVec Ideal S32 .f32) : FVec Ideal S16384x1x32 .f32 :=
  mulf (broadcastInDim S16384x1x32 ![0, 1, 2] bcast_S16384x1x1_S16384x1x32_0_1_2 (broadcastInDim S16384x1x1 ![0] bcast_S16384_S16384x1x1_0 p)) (broadcastInDim S16384x1x32 ![0, 1, 2] bcast_S1x1x32_S16384x1x32_0_1_2 (broadcastInDim S1x1x32 ![2] bcast_S32_S1x1x32_2 f))

/-- The heads' columns. -/
def heads (q : FVec Ideal S16384x16x192 .f32) (co si : FVec Ideal S16384x1x32 .f32) : FVec Ideal S16384x16x256 .f32 :=
  concatenate S16384x16x256 2 [⟨S16384x16x128, extractStridedSlice S16384x16x128 ![0, 0, 0] q slices_S16384x16x192_S16384x16x128_0_0_0⟩,
    ⟨S16384x16x32, subf (mulf (extractStridedSlice S16384x16x32 ![0, 0, 128] q slices_S16384x16x192_S16384x16x32_0_0_128) (broadcastInDim S16384x16x32 ![0, 1, 2] bcast_S16384x1x32_S16384x16x32_0_1_2 co)) (mulf (extractStridedSlice S16384x16x32 ![0, 0, 160] q slices_S16384x16x192_S16384x16x32_0_0_160) (broadcastInDim S16384x16x32 ![0, 1, 2] bcast_S16384x1x32_S16384x16x32_0_1_2 si))⟩,
    ⟨S16384x16x32, addf (mulf (extractStridedSlice S16384x16x32 ![0, 0, 160] q slices_S16384x16x192_S16384x16x32_0_0_160) (broadcastInDim S16384x16x32 ![0, 1, 2] bcast_S16384x1x32_S16384x16x32_0_1_2 co)) (mulf (extractStridedSlice S16384x16x32 ![0, 0, 128] q slices_S16384x16x192_S16384x16x32_0_0_128) (broadcastInDim S16384x16x32 ![0, 1, 2] bcast_S16384x1x32_S16384x16x32_0_1_2 si))⟩,
    ⟨S16384x16x64, broadcastInDim S16384x16x64 ![] bcast_S_S16384x16x64 (constant S_ .f32 0x00000000#32 : FVec Ideal S_ .f32)⟩] concatenates_S16384x16x128_S16384x16x32_S16384x16x32_S16384x16x64_S16384x16x256_d2

/-- The scale. -/
def res (x : FVec Ideal S16384x16x256 .f32) : FVec Ideal S16384x4096 .bf16 :=
  truncf .bf16 (shapeCast S16384x4096 (Host.divf (Host.divf x (broadcastInDim S16384x16x256 ![] bcast_S_S16384x16x256 (Host.sqrt (constant S_ .f32 0x43400000#32)))) (broadcastInDim S16384x16x256 ![] bcast_S_S16384x16x256 (Host.log (constant S_ .f32 0x40000000#32)))) shapeCasts_S16384x16x256_S16384x4096) bitsLt_bf16_f32

/-- The reference's result. -/
def REF (z : FVec Ideal S16384x33280 .bf16) (g : FVec Ideal S1536 .f32) (w : FVec Ideal S1536x3072 .f32) : FVec Ideal S16384x4096 .bf16 :=
  res (heads (shapeCast S16384x16x192 (prod (lat z) g w) shapeCasts_S16384x3072_S16384x16x192) (Host.cos (ang pos freq)) (Host.sin (ang pos freq)))

theorem run_eq (m : (ℓ : Loc nD τ sig) → Buf (Elt Ideal) ℓ) (c : Dev nD) :
    Value.res_main_v57 m c = REF (m ((c.tc : Thread nD τ).loc main_arg0)) (m ((c.tc : Thread nD τ).loc main_arg1)) (m ((c.tc : Thread nD τ).loc main_arg2)) := by
  unfold Value.res_main_v57
  rfl

theorem res_at (x : FVec Ideal S16384x16x256 .f32) (i : Fin 16384) (n : Fin 4096) :
    res x (ix2 i n) = Ideal.div (Ideal.div (x (ix3 i ⟨n.val / 256, by omega⟩ ⟨n.val % 256, by omega⟩)) (Ideal.sqrt (Ideal.ofBits .f32 0x43400000#32))) (Ideal.log (Ideal.ofBits .f32 0x40000000#32)) := by
  pointwise [res]

theorem ang_at (p : FVec Ideal S16384 .f32) (f : FVec Ideal S32 .f32) (i : Fin 16384) (j : Fin 32) :
    ang p f (ix3 i 0 j) = (p (ix1 i) : EReal) * f (ix1 j) := by
  pointwise [ang]

theorem cast_at (x : FVec Ideal S16384x3072 .f32) (i : Fin 16384) (h : Fin 16) (a : Fin 192) :
    shapeCast S16384x16x192 x shapeCasts_S16384x3072_S16384x16x192 (ix3 i h a) = x (ix2 i ⟨h.val * 192 + a.val, by omega⟩) := by
  pointwise []

theorem prod_at (x : FVec Ideal S16384x1536 .f32) (g : FVec Ideal S1536 .f32) (w : FVec Ideal S1536x3072 .f32) (i : Fin 16384) (n : Fin 3072) :
    prod x g w (ix2 i n) = ∑ k : Fin 1536, scaled (fun k => x (ix2 i k)) (fun k => g (ix1 k)) k * w (ix2 k n) := by
  pointwise [prod, scaled]

theorem lat_at (z : FVec Ideal S16384x33280 .bf16) (i : Fin 16384) (k : Fin 1536) : lat z (ix2 i k) = z (ix2 i ⟨k.val, by omega⟩) := by
  pointwise [lat]

theorem heads_at (q : FVec Ideal S16384x16x192 .f32) (co si : FVec Ideal S16384x1x32 .f32) (i : Fin 16384) (h : Fin 16) (j : Fin 256) :
    heads q co si (ix3 i h j) = turned (fun a => q (ix3 i h a)) (fun k => co (ix3 i 0 k)) (fun k => si (ix3 i 0 k)) j := by
  pointwise [heads]
  unfold turned
  have hq : ∀ a a' : Fin 192, a.val = a'.val → q (ix3 i h a) = q (ix3 i h a') := fun a a' e => congrArg (fun a => q (ix3 i h a)) (Fin.ext e)
  have hc : ∀ a a' : Fin 32, a.val = a'.val → co (ix3 i 0 a) = co (ix3 i 0 a') := fun a a' e => congrArg (fun a => co (ix3 i 0 a)) (Fin.ext e)
  have hs : ∀ a a' : Fin 32, a.val = a'.val → si (ix3 i 0 a) = si (ix3 i 0 a') := fun a a' e => congrArg (fun a => si (ix3 i 0 a)) (Fin.ext e)
  refine rung Iff.rfl (fun h h' => rfl) fun _ _ => ?_
  refine rung (by omega) (fun h h' => ?_) fun _ _ => ?_
  · exact congrArg₂ (fun a b : EReal => a - b) (congrArg₂ (fun a b : EReal => a * b) (hq _ _ (by simp only; omega)) rfl) (congrArg₂ (fun a b : EReal => a * b) (hq _ _ (by simp only; omega)) rfl)
  refine rung (by omega) (fun h h' => ?_) fun _ _ => rfl
  exact congrArg₂ (fun a b : EReal => a + b) (congrArg₂ (fun a b : EReal => a * b) (hq _ _ (by simp only; omega)) (hc _ _ (by simp only; omega))) (congrArg₂ (fun a b : EReal => a * b) (hq _ _ (by simp only; omega)) (hs _ _ (by simp only; omega)))

/-- The columns a head's are made of. -/
theorem REF_at (z : FVec Ideal S16384x33280 .bf16) (g : FVec Ideal S1536 .f32) (w : FVec Ideal S1536x3072 .f32) (i : Fin 16384) (n : Fin 4096) :
    REF z g w (ix2 i n) = Ideal.div (Ideal.div (turned (fun a => ∑ k : Fin 1536, scaled (fun k => z (ix2 i ⟨k.val, by omega⟩)) (fun k => g (ix1 k)) k * w (ix2 k ⟨n.val / 256 * 192 + a.val, by omega⟩))
        (fun j => Ideal.cos ((pos (ix1 i) : EReal) * freq (ix1 j))) (fun j => Ideal.sin ((pos (ix1 i) : EReal) * freq (ix1 j))) ⟨n.val % 256, by omega⟩)
      (Ideal.sqrt (Ideal.ofBits .f32 0x43400000#32))) (Ideal.log (Ideal.ofBits .f32 0x40000000#32)) := by
  unfold REF
  rw [res_at, heads_at]
  refine congrArg (fun x : EReal => Ideal.div (Ideal.div x _) _) ?_
  have e1 : (fun a : Fin 192 => (shapeCast S16384x16x192 (prod (lat z) g w) shapeCasts_S16384x3072_S16384x16x192 (ix3 i ⟨n.val / 256, by omega⟩ a) : EReal))
      = fun a => ∑ k : Fin 1536, scaled (fun k => z (ix2 i ⟨k.val, by omega⟩)) (fun k => g (ix1 k)) k * w (ix2 k ⟨n.val / 256 * 192 + a.val, by omega⟩) := by
    funext a
    rw [cast_at, prod_at]
    refine Finset.sum_congr rfl fun k _ => ?_
    exact congrArg (fun f => scaled f (fun k => g (ix1 k)) k * w (ix2 k _)) (funext fun k => lat_at z i k)
  have e2 : (fun j : Fin 32 => (Host.cos (ang pos freq) (ix3 i 0 j) : EReal)) = fun j => Ideal.cos ((pos (ix1 i) : EReal) * freq (ix1 j)) :=
    funext fun j => congrArg Ideal.cos (ang_at pos freq i j)
  have e3 : (fun j : Fin 32 => (Host.sin (ang pos freq) (ix3 i 0 j) : EReal)) = fun j => Ideal.sin ((pos (ix1 i) : EReal) * freq (ix1 j)) :=
    funext fun j => congrArg Ideal.sin (ang_at pos freq i j)
  exact (congrArg (fun f => turned f _ _ _) e1).trans ((congrArg (fun f => turned _ f _ _) e2).trans (congrArg (fun f => turned _ _ f _) e3))

end Cert.Proof.Reference8Ideal

end
-- ==== Proof.QUpHost.lean ====
/- What the kernel of branch B's queries reads: the weights' columns in its order, the tables of the angles, the gain. -/
module

public import proofs.«01_k».proof.Defs
public import proofs.«01_k».proof.Proof.Gen.Kernel8Ideal.Frame
public import proofs.«01_k».proof.Proof.InCols
public import Idealize.ShloMosaic.Lib.Pipeline.ValueKit
public import Idealize.ShloMosaic.Lib.StableHlo.RunRead

@[expose] public section

set_option maxRecDepth 16384

noncomputable section

namespace Cert.Proof.Kernel8Ideal

open Cert.Kernel8Ideal Cert.Kernel8Ideal.Gen
open Idealize.ShloMosaic Idealize.ShloMosaic.TcCoe Idealize.ShloMosaic.Tactic Idealize.SL.Sem

/-- The frequencies. -/
def freq : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The positions. -/
def pos : FVec Ideal S16384 .f32 := sitofp .f32 (iotaInDim S16384 32 0)

/-- The angles. -/
def ang (p : FVec Ideal S16384 .f32) (f : FVec Ideal S32 .f32) : FVec Ideal S16384x32 .f32 :=
  mulf (broadcastInDim S16384x32 ![0, 1] bcast_S16384x1_S16384x32_0_1 (broadcastInDim S16384x1 ![0] bcast_S16384_S16384x1_0 p)) (broadcastInDim S16384x32 ![0, 1] bcast_S1x32_S16384x32_0_1 (broadcastInDim S1x32 ![1] bcast_S32_S1x32_1 f))

/-- A table of two halves and zeros. -/
def table (a b : FVec Ideal S16384x32 .f32) : FVec Ideal S16384x128 .f32 :=
  concatenate S16384x128 1 [⟨S16384x32, a⟩, ⟨S16384x32, b⟩, ⟨S16384x64, broadcastInDim S16384x64 ![] bcast_S_S16384x64 (constant S_ .f32 0x00000000#32 : FVec Ideal S_ .f32)⟩] concatenates_S16384x32_S16384x32_S16384x64_S16384x128_d1

/-- A head's columns, its last 64 with their halves exchanged after them. -/
def spread (x : FVec Ideal S1536x16x192 .f32) : FVec Ideal S1536x16x256 .f32 :=
  concatenate S1536x16x256 2 [⟨S1536x16x128, extractStridedSlice S1536x16x128 ![0, 0, 0] x slices_S1536x16x192_S1536x16x128_0_0_0⟩,
    ⟨S1536x16x64, extractStridedSlice S1536x16x64 ![0, 0, 128] x slices_S1536x16x192_S1536x16x64_0_0_128⟩,
    ⟨S1536x16x64, concatenate S1536x16x64 2 [⟨S1536x16x32, extractStridedSlice S1536x16x32 ![0, 0, 32] (extractStridedSlice S1536x16x64 ![0, 0, 128] x slices_S1536x16x192_S1536x16x64_0_0_128) slices_S1536x16x64_S1536x16x32_0_0_32⟩,
      ⟨S1536x16x32, extractStridedSlice S1536x16x32 ![0, 0, 0] (extractStridedSlice S1536x16x64 ![0, 0, 128] x slices_S1536x16x192_S1536x16x64_0_0_128) slices_S1536x16x64_S1536x16x32_0_0_0⟩] concatenates_S1536x16x32_S1536x16x32_S1536x16x64_d2⟩] concatenates_S1536x16x128_S1536x16x64_S1536x16x64_S1536x16x256_d2

/-- The weights in the kernel's order. -/
def wts (w : FVec Ideal S1536x3072 .f32) : FVec Ideal S1536x4096 .bf16 :=
  truncf .bf16 (shapeCast S1536x4096 (spread (shapeCast S1536x16x192 w shapeCasts_S1536x3072_S1536x16x192)) shapeCasts_S1536x16x256_S1536x4096) bitsLt_bf16_f32

theorem ang_at (p : FVec Ideal S16384 .f32) (f : FVec Ideal S32 .f32) (i : Fin 16384) (j : Fin 32) :
    ang p f (ix2 i j) = (p (ix1 i) : EReal) * f (ix1 j) := by
  pointwise [ang]

theorem table_at (a b : FVec Ideal S16384x32 .f32) (i : Fin 16384) (j : Fin 128) :
    (table a b (ix2 i j) : EReal) = if h : j.val < 32 then a (ix2 i ⟨j.val, h⟩) else if h : j.val < 64 then b (ix2 i ⟨j.val - 32, by omega⟩) else 0 := by
  pointwise [table]
  refine rung Iff.rfl (fun h h' => rfl) fun _ _ => ?_
  exact rung (by omega) (fun h h' => rfl) fun _ _ => rfl

/-- The column of the weights at a column of a head in the kernel's order. -/
def src (j : Fin 256) : Fin 192 :=
  if h : j.val < 192 then ⟨j.val, h⟩ else if h : j.val < 224 then ⟨j.val - 32, by omega⟩ else ⟨j.val - 96, by omega⟩

theorem src_val (j : Fin 256) : (src j).val = if j.val < 192 then j.val else if j.val < 224 then j.val - 32 else j.val - 96 := by
  unfold src
  split_ifs <;> rfl

theorem wts_at (w : FVec Ideal S1536x3072 .f32) (k : Fin 1536) (n : Fin 4096) :
    (wts w (ix2 k n) : EReal) = w (ix2 k ⟨n.val / 256 * 192 + (src ⟨n.val % 256, by omega⟩).val, by have := (src ⟨n.val % 256, by omega⟩).isLt; omega⟩) := by
  pointwise [wts, spread]
  have hw : ∀ a a' : Fin 3072, a.val = a'.val → w (ix2 k a) = w (ix2 k a') := fun a a' e => congrArg (fun a => w (ix2 k a)) (Fin.ext e)
  have e := src_val ⟨n.val % 256, by omega⟩
  have e1 : ¬ n.val % 256 < 192 ∨ (src ⟨n.val % 256, by omega⟩).val = n.val % 256 := by
    by_cases h : n.val % 256 < 192
    · exact .inr (e.trans (if_pos h))
    · exact .inl h
  have e2 : n.val % 256 < 192 ∨ ¬ n.val % 256 < 224 ∨ (src ⟨n.val % 256, by omega⟩).val = n.val % 256 - 32 := by
    by_cases h : n.val % 256 < 192
    · exact .inl h
    · by_cases h' : n.val % 256 < 224
      · exact .inr (.inr (e.trans ((if_neg h).trans (if_pos h'))))
      · exact .inr (.inl h')
  have e3 : n.val % 256 < 224 ∨ (src ⟨n.val % 256, by omega⟩).val = n.val % 256 - 96 := by
    by_cases h : n.val % 256 < 224
    · exact .inl h
    · exact .inr (e.trans ((if_neg fun g => h (by simp only at g; omega)).trans (if_neg h)))
  clear e
  split_ifs <;> exact hw _ _ (by simp only; omega)

variable (m : (ℓ : Loc nD τ sig) → Buf (Elt Ideal) ℓ) (c : Dev nD)

theorem gain : V m c main_v31 = shapeCast S1x1536 (m ((c.tc : Thread nD τ).loc main_arg1) : FVec Ideal S1536 .f32) shapeCasts_S1536_S1x1536 := by
  show StableHlo.after hostOps0 (fun b => m (c, b)) main_v31 = _
  after_reads_simp
  rfl

theorem weights : V m c main_v8 = wts (m ((c.tc : Thread nD τ).loc main_arg2)) := by
  show StableHlo.after hostOps0 (fun b => m (c, b)) main_v8 = _
  after_reads_simp
  (try dsimp only [Matrix.cons_val])
  (try after_reads_simp)
  rfl

theorem cosines : V m c main_v28 = table (Host.cos (ang pos freq)) (Host.cos (ang pos freq)) := by
  show StableHlo.after hostOps0 (fun b => m (c, b)) main_v28 = _
  after_reads_simp
  (try dsimp only [Matrix.cons_val])
  (try after_reads_simp)
  rfl

theorem sines : V m c main_v30 = table (Host.negf (Host.sin (ang pos freq))) (Host.sin (ang pos freq)) := by
  show StableHlo.after hostOps0 (fun b => m (c, b)) main_v30 = _
  after_reads_simp
  (try dsimp only [Matrix.cons_val])
  (try after_reads_simp)
  rfl

end Cert.Proof.Kernel8Ideal

end
-- ==== Proof.QUp.lean ====
/- The queries of branch B: every block of the result is the reference's. -/
module

public import proofs.«01_k».proof.Proof.QUpRef
public import proofs.«01_k».proof.Proof.QUpHost

@[expose] public section

set_option maxRecDepth 16384

noncomputable section

namespace Cert.Proof.Kernel8Ideal

open Cert.Kernel8Ideal Cert.Kernel8Ideal.Gen
open Idealize.ShloMosaic Idealize.ShloMosaic.TcCoe Idealize.ShloMosaic.Tactic Idealize.SL.Sem

/-- The scale. -/
def up : Ideal .f32 := Named.named κ "upscale" 0x3DD53B95#32

/-- A head's first columns. -/
def plain (u : FVec Ideal S512x128 .f32) : FVec Ideal S512x128 .bf16 :=
  truncf .bf16 (mulf u (broadcast S512x128 up)) bitsLt_bf16_f32

/-- A head's last columns. -/
def turn (u co si : FVec Ideal S512x128 .f32) : FVec Ideal S512x128 .bf16 :=
  truncf .bf16 (mulf (addf (mulf u co) (mulf (dynamicRotate 1 64#32 none u rotates_S512x128_d1) si)) (broadcast S512x128 up)) bitsLt_bf16_f32

theorem plain_at (u : FVec Ideal S512x128 .f32) (i : Fin 512) (j : Fin 128) : (plain u (ix2 i j) : EReal) = u (ix2 i j) * up := by
  pointwise [plain]

theorem turn_at (u co si : FVec Ideal S512x128 .f32) (i : Fin 512) (j : Fin 128) :
    (turn u co si (ix2 i j) : EReal) = (u (ix2 i j) * co (ix2 i j) + u (ix2 i ⟨(j.val + 64) % 128, by omega⟩) * si (ix2 i j)) * up := by
  pointwise [turn]
  exact congrArg (fun a : Fin 128 => (u (ix2 i j) * co (ix2 i j) + u (ix2 i a) * si (ix2 i j) : EReal) * up) (Fin.ext (by simp only; omega))

/-- The block from the product and the tables. -/
def G (acc : FVec Ideal S512x4096 .f32) (co si : FVec Ideal S512x128 .f32) (y : S512x4096.Idx) : EReal :=
  if (y 1).val % 256 < 128 then acc y * up
  else (acc y * co (ix2 (y 0) ⟨(y 1).val % 128, by omega⟩)
    + acc (ix2 (y 0) ⟨(y 1).val / 128 * 128 + ((y 1).val % 128 + 64) % 128, by have : (y 1).val < 4096 := (y 1).isLt; omega⟩) * si (ix2 (y 0) ⟨(y 1).val % 128, by omega⟩)) * up

theorem G_at (acc : FVec Ideal S512x4096 .f32) (co si : FVec Ideal S512x128 .f32) (i : Fin 512) (n : Fin 4096) :
    G acc co si (ix2 i n) = if n.val % 256 < 128 then (acc (ix2 i n) : EReal) * up
      else ((acc (ix2 i n) : EReal) * co (ix2 i ⟨n.val % 128, by omega⟩)
        + acc (ix2 i ⟨n.val / 128 * 128 + (n.val % 128 + 64) % 128, by omega⟩) * si (ix2 i ⟨n.val % 128, by omega⟩)) * up := rfl

theorem emb_unit (o : Nat) (inb : ∀ a, ![0, o] a + ![512, 128] a ≤ S512x4096.size a) (i : Fin 512) (j : Fin 128) (n : Fin 4096) (hn : n.val = o + j.val) :
    (Rect.unit ![0, o] ![512, 128] inb : Rect S512x4096).emb (ix2 i j) = (ix2 i n : S512x4096.Idx) := by
  funext a
  apply Fin.ext
  fin_cases a
  · show 0 + 1 * i.val = i.val
    omega
  · show o + 1 * j.val = n.val
    omega

theorem slice_at (acc : FVec Ideal S512x4096 .f32) (o : Nat) (h : S512x4096.Slices ![0, o] S512x128) (i : Fin 512) (j : Fin 128) (n : Fin 4096) (hn : n.val = o + j.val) :
    extractStridedSlice S512x128 ![0, o] acc h (ix2 i j) = acc (ix2 i n) := by
  refine congrArg acc ?_
  funext a
  apply Fin.ext
  fin_cases a
  · show 0 + i.val = i.val
    omega
  · exact hn.symm

theorem plain_piece (acc : FVec Ideal S512x4096 .f32) (co si : FVec Ideal S512x128 .f32) (h : Fin 16) (o : Nat) (ho : o = h.val * 256)
    (inb : ∀ a, ![0, o] a + ![512, 128] a ≤ S512x4096.size a) (sl : S512x4096.Slices ![0, o] S512x128) (x : S512x128.Idx) :
    (plain (extractStridedSlice S512x128 ![0, o] acc sl) x : EReal) = G acc co si ((Rect.unit ![0, o] ![512, 128] inb : Rect S512x4096).emb x) := by
  subst ho
  obtain ⟨i, j, rfl⟩ : ∃ (i : Fin 512) (j : Fin 128), x = ix2 i j := ⟨x 0, x 1, by funext a; fin_cases a <;> rfl⟩
  rw [emb_unit _ inb i j ⟨h.val * 256 + j.val, by omega⟩ rfl, G_at, if_pos (by simp only; omega), plain_at, slice_at acc _ sl i j ⟨h.val * 256 + j.val, by omega⟩ rfl]

theorem turn_piece (acc : FVec Ideal S512x4096 .f32) (co si : FVec Ideal S512x128 .f32) (h : Fin 16) (o : Nat) (ho : o = h.val * 256 + 128)
    (inb : ∀ a, ![0, o] a + ![512, 128] a ≤ S512x4096.size a) (sl : S512x4096.Slices ![0, o] S512x128) (x : S512x128.Idx) :
    (turn (extractStridedSlice S512x128 ![0, o] acc sl) co si x : EReal) = G acc co si ((Rect.unit ![0, o] ![512, 128] inb : Rect S512x4096).emb x) := by
  subst ho
  obtain ⟨i, j, rfl⟩ : ∃ (i : Fin 512) (j : Fin 128), x = ix2 i j := ⟨x 0, x 1, by funext a; fin_cases a <;> rfl⟩
  have hj := j.isLt
  rw [emb_unit _ inb i j ⟨h.val * 256 + 128 + j.val, by omega⟩ rfl, G_at, if_neg (by simp only; omega), turn_at, slice_at acc _ sl i j ⟨h.val * 256 + 128 + j.val, by omega⟩ rfl,
    slice_at acc _ sl i _ ⟨(h.val * 256 + 128 + j.val) / 128 * 128 + ((h.val * 256 + 128 + j.val) % 128 + 64) % 128, by omega⟩ (by simp only; omega)]
  have hm : (⟨(h.val * 256 + 128 + j.val) % 128, by omega⟩ : Fin 128) = j := Fin.ext (by simp only; omega)
  simp only [hm]

variable (m : (ℓ : Loc nD τ sig) → Buf (Elt Ideal) ℓ) (c : Dev nD)

/-- The blocks a point reads. -/
abbrev zB (t : Fin cfg0.N) : FVec Ideal S512x1536 .bf16 := X0_0 m c t
abbrev gB (t : Fin cfg0.N) : FVec Ideal S1x1536 .f32 := iblk m c 1 t
abbrev wB (t : Fin cfg0.N) : FVec Ideal S1536x4096 .bf16 := iblk m c 2 t
abbrev cB (t : Fin cfg0.N) : FVec Ideal S512x128 .f32 := iblk m c 3 t
abbrev sB (t : Fin cfg0.N) : FVec Ideal S512x128 .f32 := iblk m c 4 t

theorem block (t : Fin cfg0.N) (y : S512x4096.Idx) :
    outsAt0 m c t y = G (k0_pay5 (zB m c t) (gB m c t) (wB m c t)) (k0_pay6 (cB m c t)) (k0_pay7 (sB m c t)) y := by
  unfold outsAt0
  frame_out
  refine View.canon_apply_of_pieces (Val := Elt Ideal) (e := .bf16) (G (k0_pay5 (zB m c t) (gB m c t) (wB m c t)) (k0_pay6 (cB m c t)) (k0_pay7 (sB m c t))) _ ?_ y ?_
  swap
  · exact View.cover_of_tiled _ ![512, 128] rfl y
  have T := turn_piece (k0_pay5 (zB m c t) (gB m c t) (wB m c t)) (k0_pay6 (cB m c t)) (k0_pay7 (sB m c t))
  have P := plain_piece (k0_pay5 (zB m c t) (gB m c t) (wB m c t)) (k0_pay6 (cB m c t)) (k0_pay7 (sB m c t))
  refine List.forall_mem_cons.2 ⟨fun x => T 15 3968 rfl inb_S512x4096_S512x128_0_3968 slices_S512x4096_o0_3968_S512x128 x, ?_⟩
  refine List.forall_mem_cons.2 ⟨fun x => P 15 3840 rfl inb_S512x4096_S512x128_0_3840 slices_S512x4096_o0_3840_S512x128 x, ?_⟩
  refine List.forall_mem_cons.2 ⟨fun x => T 14 3712 rfl inb_S512x4096_S512x128_0_3712 slices_S512x4096_o0_3712_S512x128 x, ?_⟩
  refine List.forall_mem_cons.2 ⟨fun x => P 14 3584 rfl inb_S512x4096_S512x128_0_3584 slices_S512x4096_o0_3584_S512x128 x, ?_⟩
  refine List.forall_mem_cons.2 ⟨fun x => T 13 3456 rfl inb_S512x4096_S512x128_0_3456 slices_S512x4096_o0_3456_S512x128 x, ?_⟩
  refine List.forall_mem_cons.2 ⟨fun x => P 13 3328 rfl inb_S512x4096_S512x128_0_3328 slices_S512x4096_o0_3328_S512x128 x, ?_⟩
  refine List.forall_mem_cons.2 ⟨fun x => T 12 3200 rfl inb_S512x4096_S512x128_0_3200 slices_S512x4096_o0_3200_S512x128 x, ?_⟩
  refine List.forall_mem_cons.2 ⟨fun x => P 12 3072 rfl inb_S512x4096_S512x128_0_3072 slices_S512x4096_o0_3072_S512x128 x, ?_⟩
  refine List.forall_mem_cons.2 ⟨fun x => T 11 2944 rfl inb_S512x4096_S512x128_0_2944 slices_S512x4096_o0_2944_S512x128 x, ?_⟩
  refine List.forall_mem_cons.2 ⟨fun x => P 11 2816 rfl inb_S512x4096_S512x128_0_2816 slices_S512x4096_o0_2816_S512x128 x, ?_⟩
  refine List.forall_mem_cons.2 ⟨fun x => T 10 2688 rfl inb_S512x4096_S512x128_0_2688 slices_S512x4096_o0_2688_S512x128 x, ?_⟩
  refine List.forall_mem_cons.2 ⟨fun x => P 10 2560 rfl inb_S512x4096_S512x128_0_2560 slices_S512x4096_o0_2560_S512x128 x, ?_⟩
  refine List.forall_mem_cons.2 ⟨fun x => T 9 2432 rfl inb_S512x4096_S512x128_0_2432 slices_S512x4096_o0_2432_S512x128 x, ?_⟩
  refine List.forall_mem_cons.2 ⟨fun x => P 9 2304 rfl inb_S512x4096_S512x128_0_2304 slices_S512x4096_o0_2304_S512x128 x, ?_⟩
  refine List.forall_mem_cons.2 ⟨fun x => T 8 2176 rfl inb_S512x4096_S512x128_0_2176 slices_S512x4096_o0_2176_S512x128 x, ?_⟩
  refine List.forall_mem_cons.2 ⟨fun x => P 8 2048 rfl inb_S512x4096_S512x128_0_2048 slices_S512x4096_o0_2048_S512x128 x, ?_⟩
  refine List.forall_mem_cons.2 ⟨fun x => T 7 1920 rfl inb_S512x4096_S512x128_0_1920 slices_S512x4096_o0_1920_S512x128 x, ?_⟩
  refine List.forall_mem_cons.2 ⟨fun x => P 7 1792 rfl inb_S512x4096_S512x128_0_1792 slices_S512x4096_o0_1792_S512x128 x, ?_⟩
  refine List.forall_mem_cons.2 ⟨fun x => T 6 1664 rfl inb_S512x4096_S512x128_0_1664 slices_S512x4096_o0_1664_S512x128 x, ?_⟩
  refine List.forall_mem_cons.2 ⟨fun x => P 6 1536 rfl inb_S512x4096_S512x128_0_1536 slices_S512x4096_o0_1536_S512x128 x, ?_⟩
  refine List.forall_mem_cons.2 ⟨fun x => T 5 1408 rfl inb_S512x4096_S512x128_0_1408 slices_S512x4096_o0_1408_S512x128 x, ?_⟩
  refine List.forall_mem_cons.2 ⟨fun x => P 5 1280 rfl inb_S512x4096_S512x128_0_1280 slices_S512x4096_o0_1280_S512x128 x, ?_⟩
  refine List.forall_mem_cons.2 ⟨fun x => T 4 1152 rfl inb_S512x4096_S512x128_0_1152 slices_S512x4096_o0_1152_S512x128 x, ?_⟩
  refine List.forall_mem_cons.2 ⟨fun x => P 4 1024 rfl inb_S512x4096_S512x128_0_1024 slices_S512x4096_o0_1024_S512x128 x, ?_⟩
  refine List.forall_mem_cons.2 ⟨fun x => T 3 896 rfl inb_S512x4096_S512x128_0_896 slices_S512x4096_o0_896_S512x128 x, ?_⟩
  refine List.forall_mem_cons.2 ⟨fun x => P 3 768 rfl inb_S512x4096_S512x128_0_768 slices_S512x4096_o0_768_S512x128 x, ?_⟩
  refine List.forall_mem_cons.2 ⟨fun x => T 2 640 rfl inb_S512x4096_S512x128_0_640 slices_S512x4096_o0_640_S512x128 x, ?_⟩
  refine List.forall_mem_cons.2 ⟨fun x => P 2 512 rfl inb_S512x4096_S512x128_0_512 slices_S512x4096_o0_512_S512x128 x, ?_⟩
  refine List.forall_mem_cons.2 ⟨fun x => T 1 384 rfl inb_S512x4096_S512x128_0_384 slices_S512x4096_o0_384_S512x128 x, ?_⟩
  refine List.forall_mem_cons.2 ⟨fun x => P 1 256 rfl inb_S512x4096_S512x128_0_256 slices_S512x4096_o0_256_S512x128 x, ?_⟩
  refine List.forall_mem_cons.2 ⟨fun x => T 0 128 rfl inb_S512x4096_S512x128_0_128 slices_S512x4096_o0_128_S512x128 x, ?_⟩
  refine List.forall_mem_cons.2 ⟨fun x => P 0 0 rfl inb_S512x4096_S512x128_0_0 slices_S512x4096_o0_0_S512x128 x, ?_⟩
  exact fun _ h => absurd h List.not_mem_nil

theorem pay5_at (z : FVec Ideal S512x1536 .bf16) (g : FVec Ideal S1x1536 .f32) (w : FVec Ideal S1536x4096 .bf16) (i : Fin 512) (n : Fin 4096) :
    k0_pay5 (F := Ideal) z g w (ix2 i n) = ∑ k : Fin 1536, Reference8Ideal.scaled (fun k => z (ix2 i k)) (fun k => g (ix2 0 k)) k * w (ix2 k n) := by
  pointwise [k0_pay5, Reference8Ideal.scaled]

theorem pay6_eq (x : FVec Ideal S512x128 .f32) : k0_pay6 (F := Ideal) x = x := by
  funext y
  obtain ⟨i, j, rfl⟩ : ∃ (i : Fin 512) (j : Fin 128), y = ix2 i j := ⟨y 0, y 1, by funext a; fin_cases a <;> rfl⟩
  pointwise [k0_pay6]
theorem pay7_eq (x : FVec Ideal S512x128 .f32) : k0_pay7 (F := Ideal) x = x := by
  funext y
  obtain ⟨i, j, rfl⟩ : ∃ (i : Fin 512) (j : Fin 128), y = ix2 i j := ⟨y 0, y 1, by funext a; fin_cases a <;> rfl⟩
  pointwise [k0_pay7]

theorem idx : ∀ t : Fin cfg0.N, win0_0.index t = ![(grid0.coords t 0).val, 0] ∧ win0_1.index t = ![0, 0] ∧ win0_2.index t = ![0, 0]
    ∧ win0_3.index t = ![(grid0.coords t 0).val, 0] ∧ win0_4.index t = ![(grid0.coords t 0).val, 0] ∧ win0_5.index t = ![(grid0.coords t 0).val, 0] :=
  (by decide +kernel : ∀ t : Fin grid0.N, _)

theorem rows_lt (t : Fin cfg0.N) : (grid0.coords t 0).val < 32 := (grid0.coords t 0).isLt

/-- A row of the grid point's block. -/
def row (t : Fin cfg0.N) (i : Fin 512) : Fin 16384 := ⟨(grid0.coords t 0).val * 512 + i.val, by have := rows_lt t; omega⟩

theorem zB_at (t : Fin cfg0.N) (i : Fin 512) (k : Fin 1536) :
    zB m c t (ix2 i k) = (m ((c.tc : Thread nD τ).loc main_arg0) : FVec Ideal S16384x33280 .bf16) (ix2 (row t i) ⟨k.val, by omega⟩) := by
  unfold zB X0_0 Pipeline.Window.fill row
  rw [dif_pos (moved0_0 t _)]
  have := rows_lt t
  blk_ext [iblk, V, idx t]

theorem gB_at (t : Fin cfg0.N) (k : Fin 1536) :
    gB m c t (ix2 0 k) = (m ((c.tc : Thread nD τ).loc main_arg1) : FVec Ideal S1536 .f32) (ix1 k) := by
  have e : gB m c t (ix2 0 k) = (V m c main_v31 : FVec Ideal S1x1536 .f32) (ix2 0 k) := by
    unfold gB
    blk_ext [iblk, idx t]
  rw [e, gain]
  pointwise []

theorem wB_at (t : Fin cfg0.N) (k : Fin 1536) (n : Fin 4096) :
    wB m c t (ix2 k n) = wts (m ((c.tc : Thread nD τ).loc main_arg2)) (ix2 k n) := by
  have e : wB m c t (ix2 k n) = (V m c main_v8 : FVec Ideal S1536x4096 .bf16) (ix2 k n) := by
    unfold wB
    blk_ext [iblk, idx t]
  rw [e, weights]

theorem cB_at (t : Fin cfg0.N) (i : Fin 512) (j : Fin 128) :
    cB m c t (ix2 i j) = table (Host.cos (ang pos freq)) (Host.cos (ang pos freq)) (ix2 (row t i) j) := by
  have e : cB m c t (ix2 i j) = (V m c main_v28 : FVec Ideal S16384x128 .f32) (ix2 (row t i) j) := by
    unfold cB row
    have := rows_lt t
    blk_ext [iblk, idx t]
  rw [e, cosines]

theorem sB_at (t : Fin cfg0.N) (i : Fin 512) (j : Fin 128) :
    sB m c t (ix2 i j) = table (Host.negf (Host.sin (ang pos freq))) (Host.sin (ang pos freq)) (ix2 (row t i) j) := by
  have e : sB m c t (ix2 i j) = (V m c main_v30 : FVec Ideal S16384x128 .f32) (ix2 (row t i) j) := by
    unfold sB row
    have := rows_lt t
    blk_ext [iblk, idx t]
  rw [e, sines]

theorem sqrt_192 : Ideal.sqrt (Ideal.ofBits .f32 0x43400000#32) = ((Real.sqrt 192 : ℝ) : EReal) := by
  have h : Ideal.ofBits .f32 0x43400000#32 = ((192 : ℝ) : EReal) := by
    simp [Ideal.ofBits, Ideal.ieee]
    try rw [← EReal.coe_mul]
    norm_num
  rw [h, Ideal.sqrt_coe, if_neg (by norm_num)]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    try rw [← EReal.coe_mul]
    norm_num
  rw [h, Ideal.log_coe, if_neg (by norm_num)]

/-- The scale is the division by the root and by the logarithm. -/
theorem scale (x : EReal) : Ideal.div (Ideal.div x (Ideal.sqrt (Ideal.ofBits .f32 0x43400000#32))) (Ideal.log (Ideal.ofBits .f32 0x40000000#32)) = x * up := by
  have hs : Real.sqrt 192 ≠ 0 := (Real.sqrt_pos.mpr (by norm_num)).ne'
  have hl : Real.log 2 ≠ 0 := (Real.log_pos (by norm_num)).ne'
  have hu : (up : EReal) = (((Real.sqrt 192)⁻¹ * (Real.log 2)⁻¹ : ℝ) : EReal) := IdealRules.named_const.ideal_named_scalar _ _ _ _ rfl
  rw [sqrt_192, log_two, Ideal.div_coe hl, Ideal.div_coe hs, hu, mul_assoc, ← EReal.coe_mul, one_div, one_div]

/-- A head's columns in the kernel's order, against the reference's. -/
theorem turned_eq (q : Fin 192 → EReal) (cs sn : Fin 32 → EReal) (C S : Fin 128 → EReal)
    (hC : ∀ j : Fin 128, C j = if h : j.val < 32 then cs ⟨j.val, h⟩ else if h : j.val < 64 then cs ⟨j.val - 32, by omega⟩ else 0)
    (hS : ∀ j : Fin 128, S j = if h : j.val < 32 then -sn ⟨j.val, h⟩ else if h : j.val < 64 then sn ⟨j.val - 32, by omega⟩ else 0)
    (j : Fin 128) :
    q (src ⟨128 + j.val, by omega⟩) * C j + q (src ⟨128 + (j.val + 64) % 128, by omega⟩) * S j
      = Reference8Ideal.turned q cs sn ⟨128 + j.val, by omega⟩ := by
  rw [hC, hS]
  unfold Reference8Ideal.turned
  have hq : ∀ a a' : Fin 192, a.val = a'.val → q a = q a' := fun a a' e => congrArg q (Fin.ext e)
  have hc : ∀ a a' : Fin 32, a.val = a'.val → cs a = cs a' := fun a a' e => congrArg cs (Fin.ext e)
  have hs : ∀ a a' : Fin 32, a.val = a'.val → sn a = sn a' := fun a a' e => congrArg sn (Fin.ext e)
  have h0 : ¬ (⟨128 + j.val, by omega⟩ : Fin 256).val < 128 := by simp only; omega
  rw [dif_neg h0]
  by_cases h1 : j.val < 32
  · rw [dif_pos h1, dif_pos h1, dif_pos (by simp only; omega), mul_neg, ← sub_eq_add_neg]
    exact congrArg₂ (fun a b : EReal => a - b)
      (congrArg₂ (fun a b : EReal => a * b) (hq _ _ (by rw [src_val, if_pos (by simp only; omega)])) (hc _ _ (by simp only; omega)))
      (congrArg₂ (fun a b : EReal => a * b) (hq _ _ (by rw [src_val, if_neg (by simp only; omega), if_pos (by simp only; omega)]; simp only; omega)) (hs _ _ (by simp only; omega)))
  · by_cases h2 : j.val < 64
    · rw [dif_neg h1, dif_neg h1, dif_pos h2, dif_pos h2, dif_neg (by simp only; omega), dif_pos (by simp only; omega)]
      exact congrArg₂ (fun a b : EReal => a + b)
        (congrArg₂ (fun a b : EReal => a * b) (hq _ _ (by rw [src_val, if_pos (by simp only; omega)])) (hc _ _ (by simp only; omega)))
        (congrArg₂ (fun a b : EReal => a * b) (hq _ _ (by rw [src_val, if_neg (by simp only; omega), if_neg (by simp only; omega)]; simp only; omega)) (hs _ _ (by simp only; omega)))
    · rw [dif_neg h1, dif_neg h1, dif_neg h2, dif_neg h2, dif_neg (by simp only; omega), dif_neg (by simp only; omega), mul_zero, mul_zero, add_zero]

abbrev REFm : FVec Ideal S16384x4096 .bf16 :=
  Reference8Ideal.REF (m ((c.tc : Thread nD τ).loc main_arg0)) (m ((c.tc : Thread nD τ).loc main_arg1)) (m ((c.tc : Thread nD τ).loc main_arg2))

/-- The product's column. -/
def col (z : FVec Ideal S16384x33280 .bf16) (g : FVec Ideal S1536 .f32) (w : FVec Ideal S1536x3072 .f32) (r : Fin 16384) (h : Fin 16) (a : Fin 192) : EReal :=
  ∑ k : Fin 1536, Reference8Ideal.scaled (fun k => z (ix2 r ⟨k.val, by omega⟩)) (fun k => g (ix1 k)) k * w (ix2 k ⟨h.val * 192 + a.val, by omega⟩)

theorem acc_at (t : Fin cfg0.N) (i : Fin 512) (n : Fin 4096) (h : Fin 16) (j : Fin 256) (hh : n.val / 256 = h.val) (hj : n.val % 256 = j.val) :
    (k0_pay5 (F := Ideal) (zB m c t) (gB m c t) (wB m c t) (ix2 i n) : EReal)
      = col (m ((c.tc : Thread nD τ).loc main_arg0)) (m ((c.tc : Thread nD τ).loc main_arg1)) (m ((c.tc : Thread nD τ).loc main_arg2)) (row t i) h (src j) := by
  rw [pay5_at]
  unfold col
  refine Finset.sum_congr rfl fun k _ => ?_
  refine congrArg₂ (fun a b : EReal => a * b) ?_ ?_
  · exact congrArg₂ (fun f g => Reference8Ideal.scaled f g k) (funext fun k => zB_at m c t i k) (funext fun k => gB_at m c t k)
  · rw [wB_at, wts_at]
    have ej : (⟨n.val % 256, by omega⟩ : Fin 256) = j := Fin.ext hj
    refine congrArg (fun a => (m ((c.tc : Thread nD τ).loc main_arg2) : FVec Ideal S1536x3072 .f32) (ix2 k a)) (Fin.ext ?_)
    simp only [ej, hh]

theorem emb5 (t : Fin cfg0.N) (i : Fin 512) (n : Fin 4096) :
    ((cfg0.win 5).blk t).view.emb (ix2 i n) = (ix2 (row t i) n : S16384x4096.Idx) := by
  have e := (idx t).2.2.2.2.2
  funext a
  apply Fin.ext
  fin_cases a
  · show win0_5.index t 0 * 512 + 1 * i.val = (grid0.coords t 0).val * 512 + i.val
    rw [e]
    show (grid0.coords t 0).val * 512 + 1 * i.val = _
    omega
  · show win0_5.index t 1 * 4096 + 1 * n.val = n.val
    rw [e]
    show 0 * 4096 + 1 * n.val = _
    omega

theorem point (t : Fin cfg0.N) (y : S512x4096.Idx) : outsAt0 m c t y = REFm m c (((cfg0.win 5).blk t).view.emb y) := by
  obtain ⟨i, n, rfl⟩ : ∃ (i : Fin 512) (n : Fin 4096), y = ix2 i n := ⟨y 0, y 1, by funext a; fin_cases a <;> rfl⟩
  rw [emb5]
  refine (block m c t _).trans (.trans ?_ (Reference8Ideal.REF_at _ _ _ _ _).symm)
  rw [scale, G_at, pay6_eq, pay7_eq]
  by_cases h : n.val % 256 < 128
  · rw [if_pos h, acc_at m c t i n ⟨n.val / 256, by omega⟩ ⟨n.val % 256, by omega⟩ rfl rfl]
    refine congrArg (fun x : EReal => x * up) ?_
    unfold Reference8Ideal.turned
    rw [dif_pos h]
    exact congrArg (col _ _ _ _ _) (Fin.ext (by rw [src_val, if_pos (by simp only; omega)]))
  · rw [if_neg h, acc_at m c t i n ⟨n.val / 256, by omega⟩ ⟨128 + n.val % 128, by omega⟩ rfl (by simp only; omega),
      acc_at m c t i _ ⟨n.val / 256, by omega⟩ ⟨128 + (n.val % 128 + 64) % 128, by omega⟩ (by simp only; omega) (by simp only; omega), cB_at, sB_at]
    refine congrArg (fun x : EReal => x * up) ?_
    have hn : (⟨n.val % 256, by omega⟩ : Fin 256) = ⟨128 + n.val % 128, by omega⟩ := Fin.ext (by simp only; omega)
    rw [hn]
    refine turned_eq _ _ _ (fun j => table (Host.cos (ang pos freq)) (Host.cos (ang pos freq)) (ix2 (row t i) j)) (fun j => table (Host.negf (Host.sin (ang pos freq))) (Host.sin (ang pos freq)) (ix2 (row t i) j)) (fun j => ?_) (fun j => ?_) ⟨n.val % 128, by omega⟩
    · rw [table_at]
      exact rung Iff.rfl (fun _ _ => congrArg Ideal.cos (ang_at _ _ _ _)) fun _ _ => rung Iff.rfl (fun _ _ => congrArg Ideal.cos (ang_at _ _ _ _)) fun _ _ => rfl
    · rw [table_at]
      exact rung Iff.rfl (fun _ _ => congrArg (fun x => -Ideal.sin x) (ang_at _ _ _ _)) fun _ _ => rung Iff.rfl (fun _ _ => congrArg Ideal.sin (ang_at _ _ _ _)) fun _ _ => rfl

theorem final : (dats m 0 c).arrAt 5 (cfgs 0).N = REFm m c := by
  refine (dats m 0 c).arrAt_eq_of_covers 5 _ (by decide +kernel) fun t _ y => ?_
  blk_simp
  rw [after0_5]
  exact point m c t y

end Cert.Proof.Kernel8Ideal

namespace Cert.Proof

open Idealize.ShloMosaic Idealize.ShloMosaic.TcCoe Idealize.SL.Sem

theorem algebraic8 : Cert.algebraic_Kernel8Ideal_Reference8Ideal := by
  intro m g m' g' _ hagree
  refine ⟨fun c => Kernel8Ideal.REFm m c, ?_, ?_⟩
  · refine (θ_run Cert.Kernel8Ideal.defs _ _).mono (fun r h c => ⟨?_, h.2 c⟩) (θ_run_and (Cert.Kernel8Ideal.Gen.run_main m g) (Cert.Kernel8Ideal.Gen.unchanged m g))
    exact ((h.1 c).1 5).trans (Kernel8Ideal.final m c)
  · refine (θ_run Cert.Reference8Ideal.defs _ _).mono (fun r h c => ⟨(h c).1.trans ?_, (h c).2⟩) (Cert.Reference8Ideal.Value.run (F := Ideal) m' g')
    obtain ⟨e0, e1, e2⟩ := hagree c
    rw [Reference8Ideal.run_eq, e0, e1, e2]

end Cert.Proof

end
-- ==== Proof.KvUpRef.lean ====
/- The keys and values of branch B at the reference: a head's columns from the product's, the rotary key; and the precondition decoded. -/
module

public import proofs.«01_k».proof.Defs
public import proofs.«01_k».proof.Proof.Gen.Reference9Ideal.Run
public import proofs.«01_k».proof.Proof.QUpRef
public import proofs.«01_k».proof.Proof.InCols
public import Idealize.ShloMosaic.Lib.Pipeline.ValueKit

@[expose] public section

set_option maxRecDepth 16384

noncomputable section

namespace Cert.Proof.Reference9Ideal

open Cert.Reference9Ideal Cert.Reference9Ideal.Gen
open Idealize.ShloMosaic Idealize.ShloMosaic.TcCoe Idealize.ShloMosaic.Tactic
open Cert.Proof.Reference8Ideal (turned)

/-- A row by the root of its mean square, by the gain. -/
def scaled (f : Fin 512 → EReal) (g : Fin 512 → EReal) (j : Fin 512) : EReal :=
  f j * Ideal.rsqrt (Ideal.div (∑ k, f k * f k) (Ideal.ofBits .f32 0x44000000#32) + Ideal.ofBits .f32 0x358637BD#32) * g j

/-- The latent's columns. -/
def lat (z : FVec Ideal S16384x33280 .bf16) : FVec Ideal S16384x512 .f32 :=
  extf .f32 (extractStridedSlice S16384x512 ![0, 1536] z slices_S16384x33280_S16384x512_0_1536) bitsLt_bf16_f32

/-- The product of the scaled latent with the weights. -/
def prod (x : FVec Ideal S16384x512 .f32) (g : FVec Ideal S512 .f32) (w : FVec Ideal S512x4096 .f32) : FVec Ideal S16384x4096 .f32 :=
  Host.dotGeneral dot_S16384x512_S512x4096_S16384x4096_1_0_0_1_n_n none (mulf (mulf x (broadcastInDim S16384x512 ![0, 1] bcast_S16384x1_S16384x512_0_1 (Host.rsqrt (addf (Host.divf (broadcastInDim S16384x1 ![0] bcast_S16384_S16384x1_0 (Host.reduceAdd (mulf x x) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 g))) w

/-- The rotary key's columns. -/
def rot (z : FVec Ideal S16384x33280 .bf16) : FVec Ideal S16384x64 .f32 :=
  extf .f32 (extractStridedSlice S16384x64 ![0, 32768] z slices_S16384x33280_S16384x64_0_32768) bitsLt_bf16_f32

/-- The frequencies. -/
def freq : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The positions. -/
def pos : FVec Ideal S16384 .f32 := sitofp .f32 (iotaInDim S16384 32 0)

/-- The angles. -/
def ang (p : FVec Ideal S16384 .f32) (f : FVec Ideal S32 .f32) : FVec Ideal S16384x32 .f32 :=
  mulf (broadcastInDim S16384x32 ![0, 1] bcast_S16384x1_S16384x32_0_1 (broadcastInDim S16384x1 ![0] bcast_S16384_S16384x1_0 p)) (broadcastInDim S16384x32 ![0, 1] bcast_S1x32_S16384x32_0_1 (broadcastInDim S1x32 ![1] bcast_S32_S1x32_1 f))

/-- The rotary key turned. -/
def key (x : FVec Ideal S16384x64 .f32) (co si : FVec Ideal S16384x32 .f32) : FVec Ideal S16384x64 .f32 :=
  concatenate S16384x64 1 [⟨S16384x32, subf (mulf (extractStridedSlice S16384x32 ![0, 0] x slices_S16384x64_S16384x32_0_0) co) (mulf (extractStridedSlice S16384x32 ![0, 32] x slices_S16384x64_S16384x32_0_32) si)⟩,
    ⟨S16384x32, addf (mulf (extractStridedSlice S16384x32 ![0, 32] x slices_S16384x64_S16384x32_0_32) co) (mulf (extractStridedSlice S16384x32 ![0, 0] x slices_S16384x64_S16384x32_0_0) si)⟩] concatenates_S16384x32_S16384x32_S16384x64_d1

/-- The heads' keys. -/
def kheads (q : FVec Ideal S16384x16x256 .f32) (r : FVec Ideal S16384x64 .f32) : FVec Ideal S16384x16x256 .f32 :=
  concatenate S16384x16x256 2 [⟨S16384x16x128, extractStridedSlice S16384x16x128 ![0, 0, 0] q slices_S16384x16x256_S16384x16x128_0_0_0⟩,
    ⟨S16384x16x64, broadcastInDim S16384x16x64 ![0, 1, 2] bcast_S16384x1x64_S16384x16x64_0_1_2 (broadcastInDim S16384x1x64 ![0, 2] bcast_S16384x64_S16384x1x64_0_2 r)⟩,
    ⟨S16384x16x64, broadcastInDim S16384x16x64 ![] bcast_S_S16384x16x64 (constant S_ .f32 0x00000000#32 : FVec Ideal S_ .f32)⟩] concatenates_S16384x16x128_S16384x16x64_S16384x16x64_S16384x16x256_d2

/-- The heads' values. -/
def vheads (q : FVec Ideal S16384x16x256 .f32) : FVec Ideal S16384x16x256 .f32 :=
  concatenate S16384x16x256 2 [⟨S16384x16x128, extractStridedSlice S16384x16x128 ![0, 0, 128] q slices_S16384x16x256_S16384x16x128_0_0_128⟩,
    ⟨S16384x16x1, broadcastInDim S16384x16x1 ![] bcast_S_S16384x16x1 (constant S_ .f32 0x3F800000#32 : FVec Ideal S_ .f32)⟩,
    ⟨S16384x16x127, broadcastInDim S16384x16x127 ![] bcast_S_S16384x16x127 (constant S_ .f32 0x00000000#32 : FVec Ideal S_ .f32)⟩] concatenates_S16384x16x128_S16384x16x1_S16384x16x127_S16384x16x256_d2

/-- The heads side by side. -/
def res (x : FVec Ideal S16384x16x256 .f32) : FVec Ideal S16384x4096 .bf16 :=
  truncf .bf16 (shapeCast S16384x4096 x shapeCasts_S16384x16x256_S16384x4096) bitsLt_bf16_f32

/-- The reference's keys. -/
def KEY (z : FVec Ideal S16384x33280 .bf16) (g : FVec Ideal S512 .f32) (w : FVec Ideal S512x4096 .f32) : FVec Ideal S16384x4096 .bf16 :=
  res (kheads (shapeCast S16384x16x256 (prod (lat z) g w) shapeCasts_S16384x4096_S16384x16x256) (key (rot z) (Host.cos (ang pos freq)) (Host.sin (ang pos freq))))

/-- The reference's values. -/
def VAL (z : FVec Ideal S16384x33280 .bf16) (g : FVec Ideal S512 .f32) (w : FVec Ideal S512x4096 .f32) : FVec Ideal S16384x4096 .bf16 :=
  res (vheads (shapeCast S16384x16x256 (prod (lat z) g w) shapeCasts_S16384x4096_S16384x16x256))

theorem run_eq (m : (ℓ : Loc nD τ sig) → Buf (Elt Ideal) ℓ) (c : Dev nD) :
    Value.res_main_v56 m c = KEY (m ((c.tc : Thread nD τ).loc main_arg0)) (m ((c.tc : Thread nD τ).loc main_arg1)) (m ((c.tc : Thread nD τ).loc main_arg2)) := by
  unfold Value.res_main_v56
  rfl

theorem res_at (x : FVec Ideal S16384x16x256 .f32) (i : Fin 16384) (n : Fin 4096) :
    (res x (ix2 i n) : EReal) = x (ix3 i ⟨n.val / 256, by omega⟩ ⟨n.val % 256, by omega⟩) := by
  pointwise [res]

theorem ang_at (p : FVec Ideal S16384 .f32) (f : FVec Ideal S32 .f32) (i : Fin 16384) (j : Fin 32) :
    ang p f (ix2 i j) = (p (ix1 i) : EReal) * f (ix1 j) := by
  pointwise [ang]

theorem cast_at (x : FVec Ideal S16384x4096 .f32) (i : Fin 16384) (h : Fin 16) (a : Fin 256) :
    shapeCast S16384x16x256 x shapeCasts_S16384x4096_S16384x16x256 (ix3 i h a) = x (ix2 i ⟨h.val * 256 + a.val, by omega⟩) := by
  pointwise []

theorem prod_at (x : FVec Ideal S16384x512 .f32) (g : FVec Ideal S512 .f32) (w : FVec Ideal S512x4096 .f32) (i : Fin 16384) (n : Fin 4096) :
    prod x g w (ix2 i n) = ∑ k : Fin 512, scaled (fun k => x (ix2 i k)) (fun k => g (ix1 k)) k * w (ix2 k n) := by
  pointwise [prod, scaled]

theorem lat_at (z : FVec Ideal S16384x33280 .bf16) (i : Fin 16384) (k : Fin 512) : lat z (ix2 i k) = z (ix2 i ⟨1536 + k.val, by omega⟩) := by
  pointwise [lat]

theorem rot_at (z : FVec Ideal S16384x33280 .bf16) (i : Fin 16384) (k : Fin 64) : rot z (ix2 i k) = z (ix2 i ⟨32768 + k.val, by omega⟩) := by
  pointwise [rot]

/-- The product's column. -/
def col (z : FVec Ideal S16384x33280 .bf16) (g : FVec Ideal S512 .f32) (w : FVec Ideal S512x4096 .f32) (i : Fin 16384) (n : Fin 4096) : EReal :=
  ∑ k : Fin 512, scaled (fun k => z (ix2 i ⟨1536 + k.val, by omega⟩)) (fun k => g (ix1 k)) k * w (ix2 k n)

theorem col_at (z : FVec Ideal S16384x33280 .bf16) (g : FVec Ideal S512 .f32) (w : FVec Ideal S512x4096 .f32) (i : Fin 16384) (h : Fin 16) (a : Fin 256) :
    (shapeCast S16384x16x256 (prod (lat z) g w) shapeCasts_S16384x4096_S16384x16x256 (ix3 i h a) : EReal) = col z g w i ⟨h.val * 256 + a.val, by omega⟩ := by
  rw [cast_at, prod_at]
  unfold col
  refine Finset.sum_congr rfl fun k _ => ?_
  exact congrArg (fun f => scaled f (fun k => g (ix1 k)) k * w (ix2 k _)) (funext fun k => lat_at z i k)

theorem key_at (x : FVec Ideal S16384x64 .f32) (co si : FVec Ideal S16384x32 .f32) (i : Fin 16384) (j : Fin 64) :
    (key x co si (ix2 i j) : EReal) = if h : j.val < 32 then x (ix2 i ⟨j.val, by omega⟩) * co (ix2 i ⟨j.val, h⟩) - x (ix2 i ⟨j.val + 32, by omega⟩) * si (ix2 i ⟨j.val, h⟩)
      else x (ix2 i ⟨j.val, by omega⟩) * co (ix2 i ⟨j.val - 32, by omega⟩) + x (ix2 i ⟨j.val - 32, by omega⟩) * si (ix2 i ⟨j.val - 32, by omega⟩) := by
  pointwise [key]
  have hx : ∀ a a' : Fin 64, a.val = a'.val → x (ix2 i a) = x (ix2 i a') := fun a a' e => congrArg (fun a => x (ix2 i a)) (Fin.ext e)
  refine rung Iff.rfl (fun h h' => ?_) fun _ _ => ?_
  · exact congrArg₂ (fun a b : EReal => a - b) (congrArg₂ (fun a b : EReal => a * b) (hx _ _ (by simp only)) rfl) (congrArg₂ (fun a b : EReal => a * b) (hx _ _ (by simp only; omega)) rfl)
  · exact congrArg₂ (fun a b : EReal => a + b) (congrArg₂ (fun a b : EReal => a * b) (hx _ _ (by simp only; omega)) rfl) (congrArg₂ (fun a b : EReal => a * b) (hx _ _ (by simp only)) rfl)

theorem kheads_at (q : FVec Ideal S16384x16x256 .f32) (r : FVec Ideal S16384x64 .f32) (i : Fin 16384) (h : Fin 16) (j : Fin 256) :
    (kheads q r (ix3 i h j) : EReal) = if g : j.val < 128 then q (ix3 i h j) else if g : j.val < 192 then r (ix2 i ⟨j.val - 128, by omega⟩) else 0 := by
  pointwise [kheads]
  refine rung Iff.rfl (fun h h' => rfl) fun _ _ => ?_
  exact rung (by omega) (fun h h' => rfl) fun _ _ => rfl

theorem vheads_at (q : FVec Ideal S16384x16x256 .f32) (i : Fin 16384) (h : Fin 16) (j : Fin 256) :
    (vheads q (ix3 i h j) : EReal) = if g : j.val < 128 then q (ix3 i h ⟨128 + j.val, by omega⟩) else if g : j.val < 129 then Ideal.ofBits .f32 0x3F800000#32 else 0 := by
  pointwise [vheads]
  refine rung Iff.rfl (fun h h' => rfl) fun _ _ => ?_
  exact rung (by omega) (fun h h' => rfl) fun _ _ => rfl

/-- The product's columns of a head, then the rotary key's. -/
def both (z : FVec Ideal S16384x33280 .bf16) (g : FVec Ideal S512 .f32) (w : FVec Ideal S512x4096 .f32) (i : Fin 16384) (h : Fin 16) (a : Fin 192) : EReal :=
  if _g : a.val < 128 then col z g w i ⟨h.val * 256 + a.val, by omega⟩ else z (ix2 i ⟨32640 + a.val, by omega⟩)

theorem both_lt (z : FVec Ideal S16384x33280 .bf16) (g : FVec Ideal S512 .f32) (w : FVec Ideal S512x4096 .f32) (i : Fin 16384) (h : Fin 16) (a : Fin 192) (ha : a.val < 128) (n : Fin 4096) (hn : n.val = h.val * 256 + a.val) :
    both z g w i h a = col z g w i n := by
  unfold both
  rw [dif_pos ha]
  exact congrArg (col z g w i) (Fin.ext hn.symm)

theorem both_ge (z : FVec Ideal S16384x33280 .bf16) (g : FVec Ideal S512 .f32) (w : FVec Ideal S512x4096 .f32) (i : Fin 16384) (h : Fin 16) (a : Fin 192) (ha : ¬ a.val < 128) (n : Fin 33280) (hn : n.val = 32640 + a.val) :
    both z g w i h a = z (ix2 i n) := by
  unfold both
  rw [dif_neg ha]
  exact congrArg (fun n => z (ix2 i n)) (Fin.ext hn.symm)

theorem KEY_at (z : FVec Ideal S16384x33280 .bf16) (g : FVec Ideal S512 .f32) (w : FVec Ideal S512x4096 .f32) (i : Fin 16384) (n : Fin 4096) :
    (KEY z g w (ix2 i n) : EReal) = turned (both z g w i ⟨n.val / 256, by omega⟩)
        (fun j => Ideal.cos ((pos (ix1 i) : EReal) * freq (ix1 j))) (fun j => Ideal.sin ((pos (ix1 i) : EReal) * freq (ix1 j))) ⟨n.val % 256, by omega⟩ := by
  unfold KEY
  rw [res_at, kheads_at]
  have e2 : ∀ j : Fin 32, (Host.cos (ang pos freq) (ix2 i j) : EReal) = Ideal.cos ((pos (ix1 i) : EReal) * freq (ix1 j)) :=
    fun j => congrArg Ideal.cos (ang_at pos freq i j)
  have e3 : ∀ j : Fin 32, (Host.sin (ang pos freq) (ix2 i j) : EReal) = Ideal.sin ((pos (ix1 i) : EReal) * freq (ix1 j)) :=
    fun j => congrArg Ideal.sin (ang_at pos freq i j)
  unfold turned
  by_cases h1 : n.val % 256 < 128
  · rw [dif_pos h1, dif_pos h1, col_at]
    exact (both_lt z g w i ⟨n.val / 256, by omega⟩ ⟨n.val % 256, by omega⟩ h1 _ rfl).symm
  rw [dif_neg h1, dif_neg h1]
  by_cases h2 : n.val % 256 < 160
  · rw [dif_pos (by simp only; omega), dif_pos h2, key_at, dif_pos (by simp only; omega), rot_at, rot_at, e2, e3]
    refine congrArg₂ (fun a b : EReal => a - b) (congrArg₂ (fun a b : EReal => a * b) ?_ rfl) (congrArg₂ (fun a b : EReal => a * b) ?_ rfl)
    · exact (both_ge z g w i _ _ h1 _ (by simp only; omega)).symm
    · exact (both_ge z g w i _ _ (by simp only; omega) _ (by simp only; omega)).symm
  rw [dif_neg h2]
  by_cases h3 : n.val % 256 < 192
  · rw [dif_pos h3, dif_pos h3, key_at, dif_neg (by simp only; omega), rot_at, rot_at, e2, e3]
    have ej : (⟨n.val % 256 - 128 - 32, by omega⟩ : Fin 32) = ⟨n.val % 256 - 160, by omega⟩ := Fin.ext (by simp only; omega)
    refine congrArg₂ (fun a b : EReal => a + b) (congrArg₂ (fun a b : EReal => a * b) ?_ (congrArg (fun j : Fin 32 => Ideal.cos ((pos (ix1 i) : EReal) * freq (ix1 j))) ej))
      (congrArg₂ (fun a b : EReal => a * b) ?_ (congrArg (fun j : Fin 32 => Ideal.sin ((pos (ix1 i) : EReal) * freq (ix1 j))) ej))
    · exact (both_ge z g w i _ _ h1 _ (by simp only; omega)).symm
    · exact (both_ge z g w i _ _ (by simp only; omega) _ (by simp only; omega)).symm
  · rw [dif_neg h3, dif_neg h3]

theorem VAL_at (z : FVec Ideal S16384x33280 .bf16) (g : FVec Ideal S512 .f32) (w : FVec Ideal S512x4096 .f32) (i : Fin 16384) (n : Fin 4096) :
    (VAL z g w (ix2 i n) : EReal) = if h : n.val % 256 < 128 then col z g w i ⟨n.val / 256 * 256 + 128 + n.val % 256, by omega⟩
      else if h : n.val % 256 < 129 then Ideal.ofBits .f32 0x3F800000#32 else 0 := by
  unfold VAL
  rw [res_at, vheads_at]
  refine rung Iff.rfl (fun h h' => ?_) fun _ _ => rfl
  rw [col_at]
  exact congrArg (col z g w i) (Fin.ext (by simp only; omega))

/-- The two halves of the rotary key follow it, exchanged. -/
def Swapped (z : FVec Ideal S16384x33280 .bf16) : Prop :=
  ∀ (i : Fin 16384) (j : Fin 32), (z (ix2 i ⟨32832 + j.val, by omega⟩) : EReal) = z (ix2 i ⟨32800 + j.val, by omega⟩)
    ∧ (z (ix2 i ⟨32864 + j.val, by omega⟩) : EReal) = z (ix2 i ⟨32768 + j.val, by omega⟩)

theorem eq_of_oeq (a b : EReal) (h : FloatOps.cmpf (F := Ideal) (φ := .f32) .oeq a b = 1#1) : a = b := by
  have h2 : Ideal.cmp .oeq a b = 1#1 := h
  by_contra h3
  simp [Ideal.cmp, h3] at h2

end Cert.Proof.Reference9Ideal

namespace Cert.Proof

open Idealize.ShloMosaic Idealize.ShloMosaic.TcCoe Idealize.ShloMosaic.Tactic
open Cert.Proof.Reference9Ideal

theorem swappedFacts : Cert.Pre_swapped.Facts where
  slices_S16384x33280_S16384x32_0_32832 := by decide
  bitsLt_bf16_f32 := by decide
  slices_S16384x33280_S16384x32_0_32800 := by decide
  reducesTo_S16384x32_S_d0_1 := by decide
  h_S_ := by decide
  slices_S16384x33280_S16384x32_0_32864 := by decide
  slices_S16384x33280_S16384x32_0_32768 := by decide

theorem slice_at (z : FVec Ideal Cert.Reference9Ideal.S16384x33280 .bf16) (o : Nat) (ho : o + 32 ≤ 33280) (h : Cert.Reference9Ideal.S16384x33280.Slices ![0, o] Cert.Pre_swapped.S16384x32) (i : Fin 16384) (j : Fin 32) :
    extractStridedSlice Cert.Pre_swapped.S16384x32 ![0, o] z h (ix2 i j) = z (ix2 i ⟨o + j.val, by omega⟩) := by
  refine congrArg z ?_
  funext a
  apply Fin.ext
  fin_cases a
  · show 0 + i.val = i.val
    omega
  · rfl

theorem swapped_of_pre (z : FVec Ideal Cert.Reference9Ideal.S16384x33280 .bf16) (g : FVec Ideal Cert.Reference9Ideal.S512 .f32) (w : FVec Ideal Cert.Reference9Ideal.S512x4096 .f32)
    (h : (letI := swappedFacts; Cert.Pre_swapped.fn (F := Ideal) z g w) = fun _ => 1#1) : Swapped z := by
  letI := swappedFacts
  have h0 := congrFun h ix0
  dsimp only [Cert.Pre_swapped.fn] at h0
  obtain ⟨ha, hb⟩ := IntOp.andi_eq_one.1 h0
  refine fun i j => ⟨?_, ?_⟩
  · have e := eq_of_oeq _ _ (Host.reduce_andi_all _ _ _ _ ix0 ha (ix2 i j))
    exact (slice_at z 32832 (by omega) Cert.Pre_swapped.Facts.slices_S16384x33280_S16384x32_0_32832 i j).symm.trans (e.trans (slice_at z 32800 (by omega) Cert.Pre_swapped.Facts.slices_S16384x33280_S16384x32_0_32800 i j))
  · have e := eq_of_oeq _ _ (Host.reduce_andi_all _ _ _ _ ix0 hb (ix2 i j))
    exact (slice_at z 32864 (by omega) Cert.Pre_swapped.Facts.slices_S16384x33280_S16384x32_0_32864 i j).symm.trans (e.trans (slice_at z 32768 (by omega) Cert.Pre_swapped.Facts.slices_S16384x33280_S16384x32_0_32768 i j))

end Cert.Proof

end
-- ==== Proof.KvUpHost.lean ====
/- What the kernel of branch B's keys and values reads: the weights' columns in its order, the tables of the angles, the gain. -/
module

public import proofs.«01_k».proof.Defs
public import proofs.«01_k».proof.Proof.Gen.Kernel9Ideal.Frame
public import proofs.«01_k».proof.Proof.InCols
public import Idealize.ShloMosaic.Lib.Pipeline.ValueKit
public import Idealize.ShloMosaic.Lib.StableHlo.RunRead

@[expose] public section

set_option maxRecDepth 16384

noncomputable section

namespace Cert.Proof.Kernel9Ideal

open Cert.Kernel9Ideal Cert.Kernel9Ideal.Gen
open Idealize.ShloMosaic Idealize.ShloMosaic.TcCoe Idealize.ShloMosaic.Tactic Idealize.SL.Sem

/-- The frequencies. -/
def freq : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The positions. -/
def pos : FVec Ideal S16384 .f32 := sitofp .f32 (iotaInDim S16384 32 0)

/-- The angles. -/
def ang (p : FVec Ideal S16384 .f32) (f : FVec Ideal S32 .f32) : FVec Ideal S16384x32 .f32 :=
  mulf (broadcastInDim S16384x32 ![0, 1] bcast_S16384x1_S16384x32_0_1 (broadcastInDim S16384x1 ![0] bcast_S16384_S16384x1_0 p)) (broadcastInDim S16384x32 ![0, 1] bcast_S1x32_S16384x32_0_1 (broadcastInDim S1x32 ![1] bcast_S32_S1x32_1 f))

/-- A table of two halves and zeros. -/
def table (a b : FVec Ideal S16384x32 .f32) : FVec Ideal S16384x128 .f32 :=
  concatenate S16384x128 1 [⟨S16384x32, a⟩, ⟨S16384x32, b⟩, ⟨S16384x64, broadcastInDim S16384x64 ![] bcast_S_S16384x64 (constant S_ .f32 0x00000000#32 : FVec Ideal S_ .f32)⟩] concatenates_S16384x32_S16384x32_S16384x64_S16384x128_d1

/-- The keys' columns of the weights. -/
def wk (w : FVec Ideal S512x4096 .f32) : FVec Ideal S512x2048 .bf16 :=
  truncf .bf16 (shapeCast S512x2048 (extractStridedSlice S512x16x128 ![0, 0, 0] (shapeCast S512x16x256 w shapeCasts_S512x4096_S512x16x256) slices_S512x16x256_S512x16x128_0_0_0) shapeCasts_S512x16x128_S512x2048) bitsLt_bf16_f32

/-- The values' columns of the weights. -/
def wv (w : FVec Ideal S512x4096 .f32) : FVec Ideal S512x2048 .bf16 :=
  truncf .bf16 (shapeCast S512x2048 (extractStridedSlice S512x16x128 ![0, 0, 128] (shapeCast S512x16x256 w shapeCasts_S512x4096_S512x16x256) slices_S512x16x256_S512x16x128_0_0_128) shapeCasts_S512x16x128_S512x2048) bitsLt_bf16_f32

theorem ang_at (p : FVec Ideal S16384 .f32) (f : FVec Ideal S32 .f32) (i : Fin 16384) (j : Fin 32) :
    ang p f (ix2 i j) = (p (ix1 i) : EReal) * f (ix1 j) := by
  pointwise [ang]

theorem table_at (a b : FVec Ideal S16384x32 .f32) (i : Fin 16384) (j : Fin 128) :
    (table a b (ix2 i j) : EReal) = if h : j.val < 32 then a (ix2 i ⟨j.val, h⟩) else if h : j.val < 64 then b (ix2 i ⟨j.val - 32, by omega⟩) else 0 := by
  pointwise [table]
  refine rung Iff.rfl (fun h h' => rfl) fun _ _ => ?_
  exact rung (by omega) (fun h h' => rfl) fun _ _ => rfl

theorem wk_at (w : FVec Ideal S512x4096 .f32) (k : Fin 512) (n : Fin 2048) :
    (wk w (ix2 k n) : EReal) = w (ix2 k ⟨n.val / 128 * 256 + n.val % 128, by omega⟩) := by
  pointwise [wk]

theorem wv_at (w : FVec Ideal S512x4096 .f32) (k : Fin 512) (n : Fin 2048) :
    (wv w (ix2 k n) : EReal) = w (ix2 k ⟨n.val / 128 * 256 + 128 + n.val % 128, by omega⟩) := by
  pointwise [wv]
  exact congrArg (fun a => w (ix2 k a)) (Fin.ext (by simp only; omega))

variable (m : (ℓ : Loc nD τ sig) → Buf (Elt Ideal) ℓ) (c : Dev nD)

theorem gain : V m c main_v29 = shapeCast S1x512 (m ((c.tc : Thread nD τ).loc main_arg1) : FVec Ideal S512 .f32) shapeCasts_S512_S1x512 := by
  show StableHlo.after hostOps0 (fun b => m (c, b)) main_v29 = _
  after_reads_simp
  rfl

theorem keyWeights : V m c main_v3 = wk (m ((c.tc : Thread nD τ).loc main_arg2)) := by
  show StableHlo.after hostOps0 (fun b => m (c, b)) main_v3 = _
  after_reads_simp
  (try dsimp only [Matrix.cons_val])
  (try after_reads_simp)
  rfl

theorem valueWeights : V m c main_v6 = wv (m ((c.tc : Thread nD τ).loc main_arg2)) := by
  show StableHlo.after hostOps0 (fun b => m (c, b)) main_v6 = _
  after_reads_simp
  (try dsimp only [Matrix.cons_val])
  (try after_reads_simp)
  rfl

theorem cosines : V m c main_v26 = table (Host.cos (ang pos freq)) (Host.cos (ang pos freq)) := by
  show StableHlo.after hostOps0 (fun b => m (c, b)) main_v26 = _
  after_reads_simp
  (try dsimp only [Matrix.cons_val])
  (try after_reads_simp)
  rfl

theorem sines : V m c main_v28 = table (Host.negf (Host.sin (ang pos freq))) (Host.sin (ang pos freq)) := by
  show StableHlo.after hostOps0 (fun b => m (c, b)) main_v28 = _
  after_reads_simp
  (try dsimp only [Matrix.cons_val])
  (try after_reads_simp)
  rfl

end Cert.Proof.Kernel9Ideal

end
-- ==== Proof.KvUp.lean ====
/- The keys and values of branch B: every block of the two results is the reference's. -/
module

public import proofs.«01_k».proof.Proof.QUp
public import proofs.«01_k».proof.Proof.KvUpRef
public import proofs.«01_k».proof.Proof.KvUpHost

@[expose] public section

set_option maxRecDepth 16384

noncomputable section

namespace Cert.Proof.Kernel9Ideal

open Cert.Kernel9Ideal Cert.Kernel9Ideal.Gen
open Idealize.ShloMosaic Idealize.ShloMosaic.TcCoe Idealize.ShloMosaic.Tactic Idealize.SL.Sem
open Cert.Proof.Kernel8Ideal (src src_val emb_unit turned_eq)

/-- A block whose heads' first halves are the product's and second halves the same array. -/
def G (acc : FVec Ideal S512x2048 .f32) (r : FVec Ideal S512x128 .bf16) (y : S512x4096.Idx) : EReal :=
  if (y 1).val % 256 < 128 then acc (ix2 (y 0) ⟨(y 1).val / 256 * 128 + (y 1).val % 128, by have : (y 1).val < 4096 := (y 1).isLt; omega⟩)
  else r (ix2 (y 0) ⟨(y 1).val % 128, by omega⟩)

theorem G_at (acc : FVec Ideal S512x2048 .f32) (r : FVec Ideal S512x128 .bf16) (i : Fin 512) (n : Fin 4096) :
    G acc r (ix2 i n) = if n.val % 256 < 128 then (acc (ix2 i ⟨n.val / 256 * 128 + n.val % 128, by omega⟩) : EReal)
      else r (ix2 i ⟨n.val % 128, by omega⟩) := rfl

theorem slice_at (acc : FVec Ideal S512x2048 .f32) (o : Nat) (h : S512x2048.Slices ![0, o] S512x128) (i : Fin 512) (j : Fin 128) (n : Fin 2048) (hn : n.val = o + j.val) :
    extractStridedSlice S512x128 ![0, o] acc h (ix2 i j) = acc (ix2 i n) := by
  refine congrArg acc ?_
  funext a
  apply Fin.ext
  fin_cases a
  · show 0 + i.val = i.val
    omega
  · exact hn.symm

theorem plain_piece (acc : FVec Ideal S512x2048 .f32) (r : FVec Ideal S512x128 .bf16) (h : Fin 16) (o p : Nat) (ho : o = h.val * 256) (hp : p = h.val * 128)
    (inb : ∀ a, ![0, o] a + ![512, 128] a ≤ S512x4096.size a) (sl : S512x2048.Slices ![0, p] S512x128) (x : S512x128.Idx) :
    ((truncf .bf16 (extractStridedSlice S512x128 ![0, p] acc sl) bitsLt_bf16_f32 : FVec Ideal S512x128 .bf16) x : EReal) = G acc r ((Rect.unit ![0, o] ![512, 128] inb : Rect S512x4096).emb x) := by
  subst ho hp
  obtain ⟨i, j, rfl⟩ : ∃ (i : Fin 512) (j : Fin 128), x = ix2 i j := ⟨x 0, x 1, by funext a; fin_cases a <;> rfl⟩
  rw [emb_unit _ inb i j ⟨h.val * 256 + j.val, by omega⟩ rfl, G_at, if_pos (by simp only; omega)]
  exact slice_at acc _ sl i j _ (by simp only; omega)

theorem same_piece (acc : FVec Ideal S512x2048 .f32) (r : FVec Ideal S512x128 .bf16) (h : Fin 16) (o : Nat) (ho : o = h.val * 256 + 128)
    (inb : ∀ a, ![0, o] a + ![512, 128] a ≤ S512x4096.size a) (x : S512x128.Idx) :
    (r x : EReal) = G acc r ((Rect.unit ![0, o] ![512, 128] inb : Rect S512x4096).emb x) := by
  subst ho
  obtain ⟨i, j, rfl⟩ : ∃ (i : Fin 512) (j : Fin 128), x = ix2 i j := ⟨x 0, x 1, by funext a; fin_cases a <;> rfl⟩
  have hj := j.isLt
  rw [emb_unit _ inb i j ⟨h.val * 256 + 128 + j.val, by omega⟩ rfl, G_at, if_neg (by simp only; omega)]
  exact congrArg (fun j => r (ix2 i j)) (Fin.ext (by simp only; omega))

variable (m : (ℓ : Loc nD τ sig) → Buf (Elt Ideal) ℓ) (c : Dev nD)

/-- The blocks a point reads. -/
abbrev zB (t : Fin cfg0.N) : FVec Ideal S512x512 .bf16 := iblk m c 0 t
abbrev rB (t : Fin cfg0.N) : FVec Ideal S512x128 .bf16 := iblk m c 1 t
abbrev gB (t : Fin cfg0.N) : FVec Ideal S1x512 .f32 := iblk m c 2 t
abbrev kB (t : Fin cfg0.N) : FVec Ideal S512x2048 .bf16 := iblk m c 3 t
abbrev vB (t : Fin cfg0.N) : FVec Ideal S512x2048 .bf16 := iblk m c 4 t
abbrev cB (t : Fin cfg0.N) : FVec Ideal S512x128 .f32 := iblk m c 5 t
abbrev sB (t : Fin cfg0.N) : FVec Ideal S512x128 .f32 := iblk m c 6 t

/-- A one and zeros. -/
abbrev ones : FVec Ideal S512x128 .bf16 := k0_pay8 k0_pay7 (Scalar.ofBits .f32 0x3F800000#32)

theorem block7 (x0 : Vec Ideal S512x512 .bf16) (x1 : Vec Ideal S512x128 .bf16) (x2 : Vec Ideal S1x512 .f32) (x3 x4 : Vec Ideal S512x2048 .bf16) (x5 x6 : Vec Ideal S512x128 .f32) (y : S512x4096.Idx) :
    out0_7 x0 x1 x2 x3 x4 x5 x6 y = G (k0_pay4 x0 x2 x3) (k0_pay6 x1 x5 x6) y := by
  unfold out0_7 k0_pay41 k0_pay39
  frame_out
  refine View.canon_apply_of_pieces (Val := Elt Ideal) (e := .bf16) (G (k0_pay4 x0 x2 x3) (k0_pay6 x1 x5 x6)) _ ?_ y ?_
  swap
  · exact View.cover_of_tiled _ ![512, 128] rfl y
  have T := same_piece (k0_pay4 x0 x2 x3) (k0_pay6 x1 x5 x6)
  have P := plain_piece (k0_pay4 x0 x2 x3) (k0_pay6 x1 x5 x6)
  refine List.forall_mem_cons.2 ⟨fun x => T 15 3968 rfl inb_S512x4096_S512x128_0_3968 x, ?_⟩
  refine List.forall_mem_cons.2 ⟨fun x => P 15 3840 1920 rfl rfl inb_S512x4096_S512x128_0_3840 slices_S512x2048_o0_1920_S512x128 x, ?_⟩
  refine List.forall_mem_cons.2 ⟨fun x => T 14 3712 rfl inb_S512x4096_S512x128_0_3712 x, ?_⟩
  refine List.forall_mem_cons.2 ⟨fun x => P 14 3584 1792 rfl rfl inb_S512x4096_S512x128_0_3584 slices_S512x2048_o0_1792_S512x128 x, ?_⟩
  refine List.forall_mem_cons.2 ⟨fun x => T 13 3456 rfl inb_S512x4096_S512x128_0_3456 x, ?_⟩
  refine List.forall_mem_cons.2 ⟨fun x => P 13 3328 1664 rfl rfl inb_S512x4096_S512x128_0_3328 slices_S512x2048_o0_1664_S512x128 x, ?_⟩
  refine List.forall_mem_cons.2 ⟨fun x => T 12 3200 rfl inb_S512x4096_S512x128_0_3200 x, ?_⟩
  refine List.forall_mem_cons.2 ⟨fun x => P 12 3072 1536 rfl rfl inb_S512x4096_S512x128_0_3072 slices_S512x2048_o0_1536_S512x128 x, ?_⟩
  refine List.forall_mem_cons.2 ⟨fun x => T 11 2944 rfl inb_S512x4096_S512x128_0_2944 x, ?_⟩
  refine List.forall_mem_cons.2 ⟨fun x => P 11 2816 1408 rfl rfl inb_S512x4096_S512x128_0_2816 slices_S512x2048_o0_1408_S512x128 x, ?_⟩
  refine List.forall_mem_cons.2 ⟨fun x => T 10 2688 rfl inb_S512x4096_S512x128_0_2688 x, ?_⟩
  refine List.forall_mem_cons.2 ⟨fun x => P 10 2560 1280 rfl rfl inb_S512x4096_S512x128_0_2560 slices_S512x2048_o0_1280_S512x128 x, ?_⟩
  refine List.forall_mem_cons.2 ⟨fun x => T 9 2432 rfl inb_S512x4096_S512x128_0_2432 x, ?_⟩
  refine List.forall_mem_cons.2 ⟨fun x => P 9 2304 1152 rfl rfl inb_S512x4096_S512x128_0_2304 slices_S512x2048_o0_1152_S512x128 x, ?_⟩
  refine List.forall_mem_cons.2 ⟨fun x => T 8 2176 rfl inb_S512x4096_S512x128_0_2176 x, ?_⟩
  refine List.forall_mem_cons.2 ⟨fun x => P 8 2048 1024 rfl rfl inb_S512x4096_S512x128_0_2048 slices_S512x2048_o0_1024_S512x128 x, ?_⟩
  refine List.forall_mem_cons.2 ⟨fun x => T 7 1920 rfl inb_S512x4096_S512x128_0_1920 x, ?_⟩
  refine List.forall_mem_cons.2 ⟨fun x => P 7 1792 896 rfl rfl inb_S512x4096_S512x128_0_1792 slices_S512x2048_o0_896_S512x128 x, ?_⟩
  refine List.forall_mem_cons.2 ⟨fun x => T 6 1664 rfl inb_S512x4096_S512x128_0_1664 x, ?_⟩
  refine List.forall_mem_cons.2 ⟨fun x => P 6 1536 768 rfl rfl inb_S512x4096_S512x128_0_1536 slices_S512x2048_o0_768_S512x128 x, ?_⟩
  refine List.forall_mem_cons.2 ⟨fun x => T 5 1408 rfl inb_S512x4096_S512x128_0_1408 x, ?_⟩
  refine List.forall_mem_cons.2 ⟨fun x => P 5 1280 640 rfl rfl inb_S512x4096_S512x128_0_1280 slices_S512x2048_o0_640_S512x128 x, ?_⟩
  refine List.forall_mem_cons.2 ⟨fun x => T 4 1152 rfl inb_S512x4096_S512x128_0_1152 x, ?_⟩
  refine List.forall_mem_cons.2 ⟨fun x => P 4 1024 512 rfl rfl inb_S512x4096_S512x128_0_1024 slices_S512x2048_o0_512_S512x128 x, ?_⟩
  refine List.forall_mem_cons.2 ⟨fun x => T 3 896 rfl inb_S512x4096_S512x128_0_896 x, ?_⟩
  refine List.forall_mem_cons.2 ⟨fun x => P 3 768 384 rfl rfl inb_S512x4096_S512x128_0_768 slices_S512x2048_o0_384_S512x128 x, ?_⟩
  refine List.forall_mem_cons.2 ⟨fun x => T 2 640 rfl inb_S512x4096_S512x128_0_640 x, ?_⟩
  refine List.forall_mem_cons.2 ⟨fun x => P 2 512 256 rfl rfl inb_S512x4096_S512x128_0_512 slices_S512x2048_o0_256_S512x128 x, ?_⟩
  refine List.forall_mem_cons.2 ⟨fun x => T 1 384 rfl inb_S512x4096_S512x128_0_384 x, ?_⟩
  refine List.forall_mem_cons.2 ⟨fun x => P 1 256 128 rfl rfl inb_S512x4096_S512x128_0_256 slices_S512x2048_o0_128_S512x128 x, ?_⟩
  refine List.forall_mem_cons.2 ⟨fun x => T 0 128 rfl inb_S512x4096_S512x128_0_128 x, ?_⟩
  refine List.forall_mem_cons.2 ⟨fun x => P 0 0 0 rfl rfl inb_S512x4096_S512x128_0_0 slices_S512x2048_o0_0_S512x128 x, ?_⟩
  exact fun _ h => absurd h List.not_mem_nil

theorem block8 (x0 : Vec Ideal S512x512 .bf16) (x1 : Vec Ideal S512x128 .bf16) (x2 : Vec Ideal S1x512 .f32) (x3 x4 : Vec Ideal S512x2048 .bf16) (x5 x6 : Vec Ideal S512x128 .f32) (y : S512x4096.Idx) :
    out0_8 x0 x1 x2 x3 x4 x5 x6 y = G (k0_pay5 x0 x2 x4) ones y := by
  unfold out0_8 k0_pay43 k0_pay42 k0_pay40
  frame_out
  refine View.canon_apply_of_pieces (Val := Elt Ideal) (e := .bf16) (G (k0_pay5 x0 x2 x4) ones) _ ?_ y ?_
  swap
  · exact View.cover_of_tiled _ ![512, 128] rfl y
  have T := same_piece (k0_pay5 x0 x2 x4) ones
  have P := plain_piece (k0_pay5 x0 x2 x4) ones
  refine List.forall_mem_cons.2 ⟨fun x => T 15 3968 rfl inb_S512x4096_S512x128_0_3968 x, ?_⟩
  refine List.forall_mem_cons.2 ⟨fun x => P 15 3840 1920 rfl rfl inb_S512x4096_S512x128_0_3840 slices_S512x2048_o0_1920_S512x128 x, ?_⟩
  refine List.forall_mem_cons.2 ⟨fun x => T 14 3712 rfl inb_S512x4096_S512x128_0_3712 x, ?_⟩
  refine List.forall_mem_cons.2 ⟨fun x => P 14 3584 1792 rfl rfl inb_S512x4096_S512x128_0_3584 slices_S512x2048_o0_1792_S512x128 x, ?_⟩
  refine List.forall_mem_cons.2 ⟨fun x => T 13 3456 rfl inb_S512x4096_S512x128_0_3456 x, ?_⟩
  refine List.forall_mem_cons.2 ⟨fun x => P 13 3328 1664 rfl rfl inb_S512x4096_S512x128_0_3328 slices_S512x2048_o0_1664_S512x128 x, ?_⟩
  refine List.forall_mem_cons.2 ⟨fun x => T 12 3200 rfl inb_S512x4096_S512x128_0_3200 x, ?_⟩
  refine List.forall_mem_cons.2 ⟨fun x => P 12 3072 1536 rfl rfl inb_S512x4096_S512x128_0_3072 slices_S512x2048_o0_1536_S512x128 x, ?_⟩
  refine List.forall_mem_cons.2 ⟨fun x => T 11 2944 rfl inb_S512x4096_S512x128_0_2944 x, ?_⟩
  refine List.forall_mem_cons.2 ⟨fun x => P 11 2816 1408 rfl rfl inb_S512x4096_S512x128_0_2816 slices_S512x2048_o0_1408_S512x128 x, ?_⟩
  refine List.forall_mem_cons.2 ⟨fun x => T 10 2688 rfl inb_S512x4096_S512x128_0_2688 x, ?_⟩
  refine List.forall_mem_cons.2 ⟨fun x => P 10 2560 1280 rfl rfl inb_S512x4096_S512x128_0_2560 slices_S512x2048_o0_1280_S512x128 x, ?_⟩
  refine List.forall_mem_cons.2 ⟨fun x => T 9 2432 rfl inb_S512x4096_S512x128_0_2432 x, ?_⟩
  refine List.forall_mem_cons.2 ⟨fun x => P 9 2304 1152 rfl rfl inb_S512x4096_S512x128_0_2304 slices_S512x2048_o0_1152_S512x128 x, ?_⟩
  refine List.forall_mem_cons.2 ⟨fun x => T 8 2176 rfl inb_S512x4096_S512x128_0_2176 x, ?_⟩
  refine List.forall_mem_cons.2 ⟨fun x => P 8 2048 1024 rfl rfl inb_S512x4096_S512x128_0_2048 slices_S512x2048_o0_1024_S512x128 x, ?_⟩
  refine List.forall_mem_cons.2 ⟨fun x => T 7 1920 rfl inb_S512x4096_S512x128_0_1920 x, ?_⟩
  refine List.forall_mem_cons.2 ⟨fun x => P 7 1792 896 rfl rfl inb_S512x4096_S512x128_0_1792 slices_S512x2048_o0_896_S512x128 x, ?_⟩
  refine List.forall_mem_cons.2 ⟨fun x => T 6 1664 rfl inb_S512x4096_S512x128_0_1664 x, ?_⟩
  refine List.forall_mem_cons.2 ⟨fun x => P 6 1536 768 rfl rfl inb_S512x4096_S512x128_0_1536 slices_S512x2048_o0_768_S512x128 x, ?_⟩
  refine List.forall_mem_cons.2 ⟨fun x => T 5 1408 rfl inb_S512x4096_S512x128_0_1408 x, ?_⟩
  refine List.forall_mem_cons.2 ⟨fun x => P 5 1280 640 rfl rfl inb_S512x4096_S512x128_0_1280 slices_S512x2048_o0_640_S512x128 x, ?_⟩
  refine List.forall_mem_cons.2 ⟨fun x => T 4 1152 rfl inb_S512x4096_S512x128_0_1152 x, ?_⟩
  refine List.forall_mem_cons.2 ⟨fun x => P 4 1024 512 rfl rfl inb_S512x4096_S512x128_0_1024 slices_S512x2048_o0_512_S512x128 x, ?_⟩
  refine List.forall_mem_cons.2 ⟨fun x => T 3 896 rfl inb_S512x4096_S512x128_0_896 x, ?_⟩
  refine List.forall_mem_cons.2 ⟨fun x => P 3 768 384 rfl rfl inb_S512x4096_S512x128_0_768 slices_S512x2048_o0_384_S512x128 x, ?_⟩
  refine List.forall_mem_cons.2 ⟨fun x => T 2 640 rfl inb_S512x4096_S512x128_0_640 x, ?_⟩
  refine List.forall_mem_cons.2 ⟨fun x => P 2 512 256 rfl rfl inb_S512x4096_S512x128_0_512 slices_S512x2048_o0_256_S512x128 x, ?_⟩
  refine List.forall_mem_cons.2 ⟨fun x => T 1 384 rfl inb_S512x4096_S512x128_0_384 x, ?_⟩
  refine List.forall_mem_cons.2 ⟨fun x => P 1 256 128 rfl rfl inb_S512x4096_S512x128_0_256 slices_S512x2048_o0_128_S512x128 x, ?_⟩
  refine List.forall_mem_cons.2 ⟨fun x => T 0 128 rfl inb_S512x4096_S512x128_0_128 x, ?_⟩
  refine List.forall_mem_cons.2 ⟨fun x => P 0 0 0 rfl rfl inb_S512x4096_S512x128_0_0 slices_S512x2048_o0_0_S512x128 x, ?_⟩
  exact fun _ h => absurd h List.not_mem_nil

theorem pay4_at (z : FVec Ideal S512x512 .bf16) (g : FVec Ideal S1x512 .f32) (w : FVec Ideal S512x2048 .bf16) (i : Fin 512) (n : Fin 2048) :
    k0_pay4 (F := Ideal) z g w (ix2 i n) = ∑ k : Fin 512, Reference9Ideal.scaled (fun k => z (ix2 i k)) (fun k => g (ix2 0 k)) k * w (ix2 k n) := by
  pointwise [k0_pay4, k0_pay3, Reference9Ideal.scaled]

theorem pay5_at (z : FVec Ideal S512x512 .bf16) (g : FVec Ideal S1x512 .f32) (w : FVec Ideal S512x2048 .bf16) (i : Fin 512) (n : Fin 2048) :
    k0_pay5 (F := Ideal) z g w (ix2 i n) = ∑ k : Fin 512, Reference9Ideal.scaled (fun k => z (ix2 i k)) (fun k => g (ix2 0 k)) k * w (ix2 k n) := by
  pointwise [k0_pay5, k0_pay3, Reference9Ideal.scaled]

theorem pay6_at (u : FVec Ideal S512x128 .bf16) (co si : FVec Ideal S512x128 .f32) (i : Fin 512) (j : Fin 128) :
    (k0_pay6 (F := Ideal) u co si (ix2 i j) : EReal) = u (ix2 i j) * co (ix2 i j) + u (ix2 i ⟨(j.val + 64) % 128, by omega⟩) * si (ix2 i j) := by
  pointwise [k0_pay6]
  exact congrArg (fun a : Fin 128 => (u (ix2 i j) * co (ix2 i j) + u (ix2 i a) * si (ix2 i j) : EReal)) (Fin.ext (by simp only; omega))

theorem ones_at (i : Fin 512) (j : Fin 128) : (ones (ix2 i j) : EReal) = if j.val < 1 then Ideal.ofBits .f32 0x3F800000#32 else 0 := by
  pointwise [ones, k0_pay8, k0_pay7]
  have e : ∀ j : Fin 128, IntOp.cmpi CmpIPredicate.eq (BitVec.ofNat 32 j.val) 0#32 = if j.val < 1 then 1#1 else 0#1 := by decide +kernel
  rw [e j]
  by_cases h : j.val < 1
  · rw [if_pos h, if_pos h]; rfl
  · rw [if_neg h, if_neg h]; rfl

theorem idx : ∀ t : Fin cfg0.N, win0_0.index t = ![(grid0.coords t 0).val, 3] ∧ win0_1.index t = ![(grid0.coords t 0).val, 256] ∧ win0_2.index t = ![0, 0]
    ∧ win0_3.index t = ![0, 0] ∧ win0_4.index t = ![0, 0] ∧ win0_5.index t = ![(grid0.coords t 0).val, 0] ∧ win0_6.index t = ![(grid0.coords t 0).val, 0]
    ∧ win0_7.index t = ![(grid0.coords t 0).val, 0] ∧ win0_8.index t = ![(grid0.coords t 0).val, 0] :=
  (by decide +kernel : ∀ t : Fin grid0.N, _)

theorem rows_lt (t : Fin cfg0.N) : (grid0.coords t 0).val < 32 := (grid0.coords t 0).isLt

/-- A row of the grid point's block. -/
def row (t : Fin cfg0.N) (i : Fin 512) : Fin 16384 := ⟨(grid0.coords t 0).val * 512 + i.val, by have := rows_lt t; omega⟩

theorem zB_at (t : Fin cfg0.N) (i : Fin 512) (k : Fin 512) :
    zB m c t (ix2 i k) = (m ((c.tc : Thread nD τ).loc main_arg0) : FVec Ideal S16384x33280 .bf16) (ix2 (row t i) ⟨1536 + k.val, by omega⟩) := by
  unfold zB row
  have := rows_lt t
  blk_ext [iblk, V, idx t]

theorem rB_at (t : Fin cfg0.N) (i : Fin 512) (j : Fin 128) :
    rB m c t (ix2 i j) = (m ((c.tc : Thread nD τ).loc main_arg0) : FVec Ideal S16384x33280 .bf16) (ix2 (row t i) ⟨32768 + j.val, by omega⟩) := by
  unfold rB row
  have := rows_lt t
  blk_ext [iblk, V, idx t]

theorem gB_at (t : Fin cfg0.N) (k : Fin 512) :
    gB m c t (ix2 0 k) = (m ((c.tc : Thread nD τ).loc main_arg1) : FVec Ideal S512 .f32) (ix1 k) := by
  have e : gB m c t (ix2 0 k) = (V m c main_v29 : FVec Ideal S1x512 .f32) (ix2 0 k) := by
    unfold gB
    blk_ext [iblk, idx t]
  rw [e, gain]
  pointwise []

theorem kB_at (t : Fin cfg0.N) (k : Fin 512) (n : Fin 2048) :
    kB m c t (ix2 k n) = wk (m ((c.tc : Thread nD τ).loc main_arg2)) (ix2 k n) := by
  have e : kB m c t (ix2 k n) = (V m c main_v3 : FVec Ideal S512x2048 .bf16) (ix2 k n) := by
    unfold kB
    blk_ext [iblk, idx t]
  rw [e, keyWeights]

theorem vB_at (t : Fin cfg0.N) (k : Fin 512) (n : Fin 2048) :
    vB m c t (ix2 k n) = wv (m ((c.tc : Thread nD τ).loc main_arg2)) (ix2 k n) := by
  have e : vB m c t (ix2 k n) = (V m c main_v6 : FVec Ideal S512x2048 .bf16) (ix2 k n) := by
    unfold vB
    blk_ext [iblk, idx t]
  rw [e, valueWeights]

theorem cB_at (t : Fin cfg0.N) (i : Fin 512) (j : Fin 128) :
    cB m c t (ix2 i j) = table (Host.cos (ang pos freq)) (Host.cos (ang pos freq)) (ix2 (row t i) j) := by
  have e : cB m c t (ix2 i j) = (V m c main_v26 : FVec Ideal S16384x128 .f32) (ix2 (row t i) j) := by
    unfold cB row
    have := rows_lt t
    blk_ext [iblk, idx t]
  rw [e, cosines]

theorem sB_at (t : Fin cfg0.N) (i : Fin 512) (j : Fin 128) :
    sB m c t (ix2 i j) = table (Host.negf (Host.sin (ang pos freq))) (Host.sin (ang pos freq)) (ix2 (row t i) j) := by
  have e : sB m c t (ix2 i j) = (V m c main_v28 : FVec Ideal S16384x128 .f32) (ix2 (row t i) j) := by
    unfold sB row
    have := rows_lt t
    blk_ext [iblk, idx t]
  rw [e, sines]

abbrev KEYm : FVec Ideal S16384x4096 .bf16 :=
  Reference9Ideal.KEY (m ((c.tc : Thread nD τ).loc main_arg0)) (m ((c.tc : Thread nD τ).loc main_arg1)) (m ((c.tc : Thread nD τ).loc main_arg2))
abbrev VALm : FVec Ideal S16384x4096 .bf16 :=
  Reference9Ideal.VAL (m ((c.tc : Thread nD τ).loc main_arg0)) (m ((c.tc : Thread nD τ).loc main_arg1)) (m ((c.tc : Thread nD τ).loc main_arg2))
abbrev colm (r : Fin 16384) (n : Fin 4096) : EReal :=
  Reference9Ideal.col (m ((c.tc : Thread nD τ).loc main_arg0)) (m ((c.tc : Thread nD τ).loc main_arg1)) (m ((c.tc : Thread nD τ).loc main_arg2)) r n

theorem k_at (t : Fin cfg0.N) (i : Fin 512) (n : Fin 2048) (n' : Fin 4096) (hn : n'.val = n.val / 128 * 256 + n.val % 128) :
    (k0_pay4 (F := Ideal) (zB m c t) (gB m c t) (kB m c t) (ix2 i n) : EReal) = colm m c (row t i) n' := by
  rw [pay4_at]
  unfold colm Reference9Ideal.col
  refine Finset.sum_congr rfl fun k _ => ?_
  refine congrArg₂ (fun a b : EReal => a * b) ?_ ?_
  · exact congrArg₂ (fun f g => Reference9Ideal.scaled f g k) (funext fun k => zB_at m c t i k) (funext fun k => gB_at m c t k)
  · rw [kB_at, wk_at]
    exact congrArg (fun a => (m ((c.tc : Thread nD τ).loc main_arg2) : FVec Ideal S512x4096 .f32) (ix2 k a)) (Fin.ext hn.symm)

theorem v_at (t : Fin cfg0.N) (i : Fin 512) (n : Fin 2048) (n' : Fin 4096) (hn : n'.val = n.val / 128 * 256 + 128 + n.val % 128) :
    (k0_pay5 (F := Ideal) (zB m c t) (gB m c t) (vB m c t) (ix2 i n) : EReal) = colm m c (row t i) n' := by
  rw [pay5_at]
  unfold colm Reference9Ideal.col
  refine Finset.sum_congr rfl fun k _ => ?_
  refine congrArg₂ (fun a b : EReal => a * b) ?_ ?_
  · exact congrArg₂ (fun f g => Reference9Ideal.scaled f g k) (funext fun k => zB_at m c t i k) (funext fun k => gB_at m c t k)
  · rw [vB_at, wv_at]
    exact congrArg (fun a => (m ((c.tc : Thread nD τ).loc main_arg2) : FVec Ideal S512x4096 .f32) (ix2 k a)) (Fin.ext hn.symm)

theorem emb7 (t : Fin cfg0.N) (i : Fin 512) (n : Fin 4096) :
    ((cfg0.win 7).blk t).view.emb (ix2 i n) = (ix2 (row t i) n : S16384x4096.Idx) := by
  have e := (idx t).2.2.2.2.2.2.2.1
  funext a
  apply Fin.ext
  fin_cases a
  · show win0_7.index t 0 * 512 + 1 * i.val = (grid0.coords t 0).val * 512 + i.val
    rw [e]
    show (grid0.coords t 0).val * 512 + 1 * i.val = _
    omega
  · show win0_7.index t 1 * 4096 + 1 * n.val = n.val
    rw [e]
    show 0 * 4096 + 1 * n.val = _
    omega

theorem emb8 (t : Fin cfg0.N) (i : Fin 512) (n : Fin 4096) :
    ((cfg0.win 8).blk t).view.emb (ix2 i n) = (ix2 (row t i) n : S16384x4096.Idx) := by
  have e := (idx t).2.2.2.2.2.2.2.2
  funext a
  apply Fin.ext
  fin_cases a
  · show win0_8.index t 0 * 512 + 1 * i.val = (grid0.coords t 0).val * 512 + i.val
    rw [e]
    show (grid0.coords t 0).val * 512 + 1 * i.val = _
    omega
  · show win0_8.index t 1 * 4096 + 1 * n.val = n.val
    rw [e]
    show 0 * 4096 + 1 * n.val = _
    omega

/-- What follows the rotary key is its halves exchanged. -/
theorem rot_src (z : FVec Ideal S16384x33280 .bf16) (g : FVec Ideal S512 .f32) (w : FVec Ideal S512x4096 .f32) (hs : Reference9Ideal.Swapped z) (r : Fin 16384) (h : Fin 16) (j : Fin 128) :
    (z (ix2 r ⟨32768 + j.val, by omega⟩) : EReal) = Reference9Ideal.both z g w r h (src ⟨128 + j.val, by omega⟩) := by
  have e := src_val ⟨128 + j.val, by omega⟩
  by_cases h1 : j.val < 64
  · rw [if_pos (by simp only; omega)] at e
    exact (Reference9Ideal.both_ge z g w r h _ (by rw [e]; simp only; omega) _ (by rw [e]; simp only; omega)).symm
  rw [if_neg (by simp only; omega)] at e
  by_cases h2 : j.val < 96
  · rw [if_pos (by simp only; omega)] at e
    refine .trans ?_ (Reference9Ideal.both_ge z g w r h _ (by rw [e]; simp only; omega) ⟨32800 + (j.val - 64), by omega⟩ (by rw [e]; simp only; omega)).symm
    refine .trans ?_ (hs r ⟨j.val - 64, by omega⟩).1
    exact congrArg (fun a => z (ix2 r a)) (Fin.ext (by simp only; omega))
  · rw [if_neg (by simp only; omega)] at e
    refine .trans ?_ (Reference9Ideal.both_ge z g w r h _ (by rw [e]; simp only; omega) ⟨32768 + (j.val - 96), by omega⟩ (by rw [e]; simp only; omega)).symm
    refine .trans ?_ (hs r ⟨j.val - 96, by omega⟩).2
    exact congrArg (fun a => z (ix2 r a)) (Fin.ext (by simp only; omega))

theorem point7 (hs : Reference9Ideal.Swapped (m ((c.tc : Thread nD τ).loc main_arg0))) (t : Fin cfg0.N) (y : S512x4096.Idx) :
    out0_7 (iblk m c 0 t) (iblk m c 1 t) (iblk m c 2 t) (iblk m c 3 t) (iblk m c 4 t) (iblk m c 5 t) (iblk m c 6 t) y = KEYm m c (((cfg0.win 7).blk t).view.emb y) := by
  obtain ⟨i, n, rfl⟩ : ∃ (i : Fin 512) (n : Fin 4096), y = ix2 i n := ⟨y 0, y 1, by funext a; fin_cases a <;> rfl⟩
  rw [emb7]
  refine (block7 _ _ _ _ _ _ _ _).trans (.trans ?_ (Reference9Ideal.KEY_at _ _ _ _ _).symm)
  rw [G_at]
  by_cases h : n.val % 256 < 128
  · rw [if_pos h]
    refine (k_at m c t i _ n (by simp only; omega)).trans ?_
    unfold Reference8Ideal.turned
    rw [dif_pos h]
    exact (Reference9Ideal.both_lt _ _ _ _ _ _ h _ (by simp only; omega)).symm
  · rw [if_neg h, pay6_at]
    have hn : (⟨n.val % 256, by omega⟩ : Fin 256) = ⟨128 + n.val % 128, by omega⟩ := Fin.ext (by simp only; omega)
    rw [hn]
    refine .trans ?_ (turned_eq _ _ _ (fun j => table (Host.cos (ang pos freq)) (Host.cos (ang pos freq)) (ix2 (row t i) j)) (fun j => table (Host.negf (Host.sin (ang pos freq))) (Host.sin (ang pos freq)) (ix2 (row t i) j)) (fun j => ?_) (fun j => ?_) ⟨n.val % 128, by omega⟩)
    · refine congrArg₂ (fun a b : EReal => a + b) (congrArg₂ (fun a b : EReal => a * b) ?_ (cB_at m c t i _)) (congrArg₂ (fun a b : EReal => a * b) ?_ (sB_at m c t i _))
      · exact (rB_at m c t i ⟨n.val % 128, by omega⟩).trans (rot_src _ _ _ hs (row t i) _ ⟨n.val % 128, by omega⟩)
      · exact (rB_at m c t i ⟨(n.val % 128 + 64) % 128, by omega⟩).trans (rot_src _ _ _ hs (row t i) _ ⟨(n.val % 128 + 64) % 128, by omega⟩)
    · rw [table_at]
      exact rung Iff.rfl (fun _ _ => congrArg Ideal.cos (ang_at _ _ _ _)) fun _ _ => rung Iff.rfl (fun _ _ => congrArg Ideal.cos (ang_at _ _ _ _)) fun _ _ => rfl
    · rw [table_at]
      exact rung Iff.rfl (fun _ _ => congrArg (fun x => -Ideal.sin x) (ang_at _ _ _ _)) fun _ _ => rung Iff.rfl (fun _ _ => congrArg Ideal.sin (ang_at _ _ _ _)) fun _ _ => rfl

theorem point8 (t : Fin cfg0.N) (y : S512x4096.Idx) :
    out0_8 (iblk m c 0 t) (iblk m c 1 t) (iblk m c 2 t) (iblk m c 3 t) (iblk m c 4 t) (iblk m c 5 t) (iblk m c 6 t) y = VALm m c (((cfg0.win 8).blk t).view.emb y) := by
  obtain ⟨i, n, rfl⟩ : ∃ (i : Fin 512) (n : Fin 4096), y = ix2 i n := ⟨y 0, y 1, by funext a; fin_cases a <;> rfl⟩
  rw [emb8]
  refine (block8 _ _ _ _ _ _ _ _).trans (.trans ?_ (Reference9Ideal.VAL_at _ _ _ _ _).symm)
  rw [G_at]
  by_cases h : n.val % 256 < 128
  · rw [if_pos h, dif_pos h]
    exact v_at m c t i _ _ (by simp only; omega)
  · rw [if_neg h, dif_neg h, ones_at]
    by_cases h1 : n.val % 256 < 129
    · rw [if_pos (by simp only; omega), dif_pos h1]
    · rw [if_neg (by simp only; omega), dif_neg h1]

theorem final7 (hs : Reference9Ideal.Swapped (m ((c.tc : Thread nD τ).loc main_arg0))) : (dats m 0 c).arrAt 7 (cfgs 0).N = KEYm m c := by
  refine (dats m 0 c).arrAt_eq_of_covers 7 _ (by decide +kernel) fun t _ y => ?_
  blk_simp
  rw [after0_7]
  exact point7 m c hs t y

theorem final8 : (dats m 0 c).arrAt 8 (cfgs 0).N = VALm m c := by
  refine (dats m 0 c).arrAt_eq_of_covers 8 _ (by decide +kernel) fun t _ y => ?_
  blk_simp
  rw [after0_8]
  exact point8 m c t y

end Cert.Proof.Kernel9Ideal

namespace Cert.Proof

open Idealize.ShloMosaic Idealize.ShloMosaic.TcCoe Idealize.SL.Sem

theorem algebraic9 : letI := swappedFacts; Cert.algebraic_Kernel9Ideal_Reference9Ideal_pre_swapped := by
  letI := swappedFacts
  intro m g m' g' hpre hagree
  refine ⟨fun c => Kernel9Ideal.KEYm m c, fun c => Kernel9Ideal.VALm m c, ?_, ?_⟩
  · refine (θ_run Cert.Kernel9Ideal.defs _ _).mono (fun r h c => ⟨?_, ?_, h.2 c⟩) (θ_run_and (Cert.Kernel9Ideal.Gen.run_main m g) (Cert.Kernel9Ideal.Gen.unchanged m g))
    · exact ((h.1 c).1 7).trans (Kernel9Ideal.final7 m c (swapped_of_pre _ _ _ (hpre c)))
    · exact ((h.1 c).1 8).trans (Kernel9Ideal.final8 m c)
  · refine (θ_run Cert.Reference9Ideal.defs _ _).mono (fun r h c => ⟨(h c).1.trans ?_, (h c).2.1.trans ?_, (h c).2.2⟩) (Cert.Reference9Ideal.Value.run (F := Ideal) m' g')
    · obtain ⟨e0, e1, e2⟩ := hagree c
      rw [Reference9Ideal.run_eq, e0, e1, e2]
    · obtain ⟨e0, e1, e2⟩ := hagree c
      rw [e0, e1, e2]
      rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference2Ideal
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Frame
public import proofs.«01_k».proof.Proof.K.Frame
public import proofs.«01_k».proof.Proof.Final
public import proofs.«01_k».proof.Proof.InProj
public import proofs.«01_k».proof.Proof.OutProj
public import proofs.«01_k».proof.Proof.Merge
public import proofs.«01_k».proof.Proof.Norm
public import proofs.«01_k».proof.Proof.Mla
public import proofs.«01_k».proof.Proof.Norm1
public import proofs.«01_k».proof.Proof.QUp
public import proofs.«01_k».proof.Proof.KvUp
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_p : Cert.quiescent_Kernel := fun m ρ _ => Cert.Proof.Kernel.frame m ρ
theorem frame_pi : Cert.quiescent_KernelIdeal := fun m ρ _ => Cert.Proof.KernelIdeal.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem preserves : Cert.preserves_Kernel_KernelIdeal :=
  ⟨IdealRules.named_const.statement Cert.KernelIdeal.κ "log2e" .f32 0x3FB8AA3B#32 _ rfl,
    IdealRules.named_const.statement Cert.KernelIdeal.κ "qscale" .f32 0x3E0293EE#32 _ rfl⟩

/-- Under the precondition too, the frames being free of it. -/
theorem frame_pi_finite : letI := preFacts; Cert.quiescent_KernelIdeal_pre_finite := fun m ρ _ => Cert.Proof.KernelIdeal.frame m ρ
theorem frame_ri_finite : letI := preFacts; Cert.quiescent_ReferenceIdeal_pre_finite := fun m ρ _ => frame_ri m ρ trivial

theorem frame_p2 : letI := inRangeFacts; Cert.quiescent_Kernel2 := fun m ρ h => Cert.Kernel2.Gen.frame m ρ (Kernel2.ok_of_pre m h)
theorem frame_pi2 : letI := inRangeFacts; Cert.quiescent_Kernel2Ideal := fun m ρ h => Cert.Kernel2Ideal.Gen.frame m ρ (Kernel2Ideal.ok_of_pre m h)
theorem frame_ri2 : Cert.quiescent_Reference2Ideal := fun m ρ _ =>
  (θ_run Cert.Reference2Ideal.defs _ _).mono (fun r h => ⟨fun c => (h c).2, sem_eq_zero_of_no_sems (by decide) r.2⟩)
    (Cert.Proof.Reference2Ideal.run m ρ)
theorem frame_ri2_in_range : letI := inRangeFacts; Cert.quiescent_Reference2Ideal_pre_in_range := fun m ρ _ => frame_ri2 m ρ trivial

theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem frame_pi6_prepared : letI := preparedFacts; Cert.quiescent_Kernel6Ideal_pre_prepared := fun m ρ _ => Cert.Kernel6Ideal.Gen.frame m ρ
theorem frame_ri6_prepared : letI := preparedFacts; Cert.quiescent_Reference6Ideal_pre_prepared := fun m ρ _ => frame_ri6 m ρ trivial

theorem frame_ri7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem frame_ri8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem frame_ri9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)
theorem frame_pi9_swapped : letI := swappedFacts; Cert.quiescent_Kernel9Ideal_pre_swapped := fun m ρ _ => Cert.Kernel9Ideal.Gen.frame m ρ
theorem frame_ri9_swapped : letI := swappedFacts; Cert.quiescent_Reference9Ideal_pre_swapped := fun m ρ _ => frame_ri9 m ρ trivial

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    preFacts, inRangeFacts, preparedFacts, swappedFacts,
    frame_p, frame_pi, frame_pi_finite, frame_ri, frame_ri_finite,
    frame_p2, frame_pi2, frame_ri2, frame_ri2_in_range,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    fun m ρ _ => Cert.Kernel5.Gen.frame m ρ, fun m ρ _ => Cert.Kernel5Ideal.Gen.frame m ρ, frame_ri5,
    fun m ρ _ => Cert.Kernel6.Gen.frame m ρ, fun m ρ _ => Cert.Kernel6Ideal.Gen.frame m ρ, frame_pi6_prepared, frame_ri6, frame_ri6_prepared,
    fun m ρ _ => Cert.Kernel7.Gen.frame m ρ, fun m ρ _ => Cert.Kernel7Ideal.Gen.frame m ρ, frame_ri7,
    fun m ρ _ => Cert.Kernel8.Gen.frame m ρ, fun m ρ _ => Cert.Kernel8Ideal.Gen.frame m ρ, frame_ri8,
    fun m ρ _ => Cert.Kernel9.Gen.frame m ρ, fun m ρ _ => Cert.Kernel9Ideal.Gen.frame m ρ, frame_pi9_swapped, frame_ri9, frame_ri9_swapped,
    preserves, algebraic, trivial, algebraic2, trivial, algebraic3, trivial, algebraic4, trivial, algebraic5, trivial, algebraic6,
    trivial, algebraic7, IdealRules.named_const.statement Cert.Kernel8Ideal.κ "upscale" .f32 0x3DD53B95#32 _ rfl, algebraic8, trivial, algebraic9⟩

end Cert.Proof

end
